-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S4x1024x32x128 : Shape := ⟨4, ![4, 1024, 32, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x1024x32x128 : S_.BroadcastsInDim S4x1024x32x128 (![] : Fin 0 → Fin S4x1024x32x128.rank)
  reducesTo_S4x1024x32x128_S_d0_1_2_3 : S4x1024x32x128.ReducesTo [0, 1, 2, 3] S_

variable [Facts]

def fn {F : FTy → Type} [FloatOps F] (main_arg0 : FVec F S1x1024x1024 .f32) (main_arg1 : FVec F S1024x1024 .f32) (main_arg2 : FVec F S4x1024x32x128 .f32) (main_arg3 : FVec F S4x1024x32x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x1024x32x128 .f32 := Host.absf main_arg2
  let main_cst_2 : FVec F S_ .f32 := constant S_ .f32 0x7F800000#32
  let main_v10 : FVec F S4x1024x32x128 .f32 := broadcastInDim S4x1024x32x128 ![] bcast_S_S4x1024x32x128 main_cst_2
  let main_v11 : IVec S4x1024x32x128 1 := cmpf .olt main_v9 main_v10
  let main_c_3 : IVec S_ 1 := constantI S_ 1 1#1
  let main_v12 : IVec S_ 1 := (fun x v => Host.reduce IntOp.andi x v reducesTo_S4x1024x32x128_S_d0_1_2_3 h_S_) main_v11 main_c_3
  let main_v13 : IVec S_ 1 := andi main_v8 main_v12
  main_v13
-- ==== Pre_finite_ReferenceIdeal.lean ====
abbrev S4x1024x1024 : Shape := ⟨3, ![4, 1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4x1024x32x128 : S_.BroadcastsInDim S4x1024x32x128 (![] : Fin 0 → Fin S4x1024x32x128.rank)
  reducesTo_S4x1024x32x128_S_d0_1_2_3 : S4x1024x32x128.ReducesTo [0, 1, 2, 3] S_

variable [Facts]

def fn {F : FTy → Type} [FloatOps F] (main_arg0 : FVec F S4x1024x1024 .f32) (main_arg1 : FVec F S1024x4096 .f32) (main_arg2 : FVec F S4x1024x32x128 .f32) (main_arg3 : FVec F S4x1024x32x128 .f32) (main_arg4 : FVec F S4096x1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4x1024x32x128 .f32 := Host.absf main_arg2
  let main_cst_2 : FVec F S_ .f32 := constant S_ .f32 0x7F800000#32
  let main_v10 : FVec F S4x1024x32x128 .f32 := broadcastInDim S4x1024x32x128 ![] bcast_S_S4x1024x32x128 main_cst_2
  let main_v11 : IVec S4x1024x32x128 1 := cmpf .olt main_v9 main_v10
  let main_c_3 : IVec S_ 1 := constantI S_ 1 1#1
  let main_v12 : IVec S_ 1 := (fun x v => Host.reduce IntOp.andi x v reducesTo_S4x1024x32x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S4x1024x32x128 : Shape := ⟨4, ![4, 1024, 32, 128]⟩
abbrev S2x1024x1024 : Shape := ⟨3, ![2, 1024, 1024]⟩
abbrev S8 : Shape := ⟨1, ![8]⟩
abbrev S4 : Shape := ⟨1, ![4]⟩
abbrev S3 : Shape := ⟨1, ![3]⟩
abbrev S2 : Shape := ⟨1, ![2]⟩
abbrev S2x8x1024x128 : Shape := ⟨4, ![2, 8, 1024, 128]⟩
abbrev S1 : Shape := ⟨1, ![1]⟩
abbrev S_ : Shape := ⟨0, ![]⟩
abbrev S1x1x1024x128 : Shape := ⟨4, ![1, 1, 1024, 128]⟩
abbrev S1024x128 : Shape := ⟨2, ![1024, 128]⟩
abbrev S1x1024x1x128 : Shape := ⟨4, ![1, 1024, 1, 128]⟩
abbrev S1x1024x512 : Shape := ⟨3, ![1, 1024, 512]⟩
abbrev S1024x512 : Shape := ⟨2, ![1024, 512]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S640x128 : Shape := ⟨2, ![640, 128]⟩
abbrev S256x640 : Shape := ⟨2, ![256, 640]⟩
abbrev S128x128 : Shape := ⟨2, ![128, 128]⟩
abbrev S512x128 : Shape := ⟨2, ![512, 128]⟩
abbrev S256x512 : Shape := ⟨2, ![256, 512]⟩
abbrev S384x128 : Shape := ⟨2, ![384, 128]⟩
abbrev S256x384 : Shape := ⟨2, ![256, 384]⟩

abbrev nBuf : Space → Nat
  | .hbm => 6
  | .vmem => 13
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S4x1024x32x128, .f32⟩
  | .hbm, ⟨3, _⟩ => ⟨S4x1024x32x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024x1024, .f32⟩
  | .local _ .vmem, ⟨4, _⟩ => ⟨S2x1024x1024, .bf16⟩
  | .local _ .vmem, ⟨5, _⟩ => ⟨S2x1024x1024, .bf16⟩
  | .local _ .vmem, ⟨6, _⟩ => ⟨S2x1024x1024, .bf16⟩
  | .local _ .vmem, ⟨7, _⟩ => ⟨S2x1024x1024, .bf16⟩
  | .local _ .vmem, ⟨8, _⟩ => ⟨S2x8x1024x128, .f32⟩
  | .local _ .vmem, ⟨9, _⟩ => ⟨S2x8x1024x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch10 : Ref sig .tc := ⟨.vmem, 8, rfl⟩
abbrev cc0_scratch11 : Ref sig .tc := ⟨.vmem, 9, rfl⟩
abbrev cc0_scratch12 : Ref sig .tc := ⟨.vmem, 10, rfl⟩
abbrev cc0_scratch13 : Ref sig .tc := ⟨.vmem, 11, rfl⟩
abbrev cc0_scratch14 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) (c0_i32_6 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_21 : BitVec 32 := 0#32
  let v8 : BitVec 32 := Scalar.addi v2 c0_i32
  let c4_i32_5 : BitVec 32 := 4#32
  let v9 : BitVec 32 := Scalar.remsi v8 c4_i32_5
  let c8_i32 : BitVec 32 := 8#32
  let v10 : BitVec 32 := Scalar.muli v9 c8_i32
  let v11 : BitVec 32 := Scalar.addi v10 c0_i32_6
  let c0_i32_22 : BitVec 32 := 0#32
  ![v2.toNat, 0, v11.toNat, 0]
def k0_dev1 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_142 : BitVec 32 := 1#32
  let v141 : BitVec 32 := Scalar.muli v7 c1_i32_142
  let v142 : BitVec 32 := Scalar.addi c0_i32_143 v141
  v142.toNat
def k0_dev2 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_145 : BitVec 32 := 1#32
  let v143 : BitVec 32 := Scalar.muli v4 c1_i32_145
  let v144 : BitVec 32 := Scalar.addi c0_i32_146 v143
  v144.toNat
def k0_dev3 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_152 : BitVec 32 := 1#32
  let v145 : BitVec 32 := Scalar.muli v4 c1_i32_152
  let v146 : BitVec 32 := Scalar.addi c0_i32_153 v145
  v146.toNat
def k0_dev4 (d0 : Dev nD) : Nat :=
  let c0_i32_165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_164 : BitVec 32 := 1#32
  let v156 : BitVec 32 := Scalar.muli v4 c1_i32_164
  let v157 : BitVec 32 := Scalar.addi c0_i32_165 v156
  v157.toNat
def k0_dev5 (d0 : Dev nD) : Nat :=
  let c0_i32_176 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_175 : BitVec 32 := 1#32
  let v167 : BitVec 32 := Scalar.muli v4 c1_i32_175
  let v168 : BitVec 32 := Scalar.addi c0_i32_176 v167
  v168.toNat
def k0_dev6 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_187 : BitVec 32 := 1#32
  let v178 : BitVec 32 := Scalar.muli v4 c1_i32_187
  let v179 : BitVec 32 := Scalar.addi c0_i32_188 v178
  v179.toNat
def k0_dev7 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_199 : BitVec 32 := 1#32
  let v189 : BitVec 32 := Scalar.muli v7 c1_i32_199
  let v190 : BitVec 32 := Scalar.addi c0_i32_200 v189
  v190.toNat
def k0_dev8 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_211 : BitVec 32 := 1#32
  let v200 : BitVec 32 := Scalar.muli v7 c1_i32_211
  let v201 : BitVec 32 := Scalar.addi c0_i32_212 v200
  v201.toNat
def k0_dev9 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_223 : BitVec 32 := 1#32
  let v211 : BitVec 32 := Scalar.muli v7 c1_i32_223
  let v212 : BitVec 32 := Scalar.addi c0_i32_224 v211
  v212.toNat
def k0_dev10 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_235 : BitVec 32 := 1#32
  let v222 : BitVec 32 := Scalar.muli v7 c1_i32_235
  let v223 : BitVec 32 := Scalar.addi c0_i32_236 v222
  v223.toNat
def k0_dev11 (d0 : Dev nD) : Nat :=
  let c0_i32_1322 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1321 : BitVec 32 := 1#32
  let v2218 : BitVec 32 := Scalar.muli v4 c1_i32_1321
  let v2219 : BitVec 32 := Scalar.addi c0_i32_1322 v2218
  v2219.toNat
def k0_dev12 (d0 : Dev nD) : Nat :=
  let c0_i32_1811 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1810 : BitVec 32 := 1#32
  let v3161 : BitVec 32 := Scalar.muli v4 c1_i32_1810
  let v3162 : BitVec 32 := Scalar.addi c0_i32_1811 v3161
  v3162.toNat
def k0_dev13 (d0 : Dev nD) : Nat :=
  let c0_i32_2212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_2211 : BitVec 32 := 1#32
  let v4021 : BitVec 32 := Scalar.muli v7 c1_i32_2211
  let v4022 : BitVec 32 := Scalar.addi c0_i32_2212 v4021
  v4022.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x1024x1024 : Shape := ⟨3, ![4, 1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S4x1024x4096 : Shape := ⟨3, ![4, 1024, 4096]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S4x32x1024x1024 : Shape := ⟨4, ![4, 32, 1024, 1024]⟩
abbrev S1x1x1024x1024 : Shape := ⟨4, ![1, 1, 1024, 1024]⟩
abbrev S4x32x1024 : Shape := ⟨3, ![4, 32, 1024]⟩
abbrev S4x32x1024x1 : Shape := ⟨4, ![4, 32, 1024, 1]⟩
abbrev S1x1x1024x1 : Shape := ⟨4, ![1, 1, 1024, 1]⟩
abbrev S4x32x128x1024 : Shape := ⟨4, ![4, 32, 128, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S1024x4096, .f32⟩
  | .hbm, ⟨2, _⟩ => ⟨S4x1024x32x128, .f32⟩
  | .hbm, ⟨3, _⟩ => ⟨S4x1024x32x128, .f32⟩
  | .hbm, ⟨4, _⟩ => ⟨S4096x1024, .f32⟩
  | .hbm, ⟨5, _⟩ => ⟨S4x1024x4096, .f32⟩
  | .hbm, ⟨6, _⟩ => ⟨S4x1024x32x128, .f32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S_, .i32⟩
  | .hbm, ⟨19, _⟩ => ⟨S1x1024, .i32⟩
  | .hbm, ⟨20, _⟩ => ⟨S1x1024, .i1⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1024x1024, .i1⟩
  | .hbm, ⟨25, _⟩ => ⟨S1024x1024, .i1⟩
  | .hbm, ⟨26, _⟩ => ⟨S1024x1024, .i1⟩
  | .hbm, ⟨27, _⟩ => ⟨S1024x1024, .i1⟩
  | .hbm, ⟨28, _⟩ => ⟨S4x32x1024x1024, .f32⟩
  | .hbm, ⟨29, _⟩ => ⟨S_, .f32⟩
  | .hbm, ⟨30, _⟩ => ⟨S4x32x1024x1024, .f32⟩
  | .hbm, ⟨31, _⟩ => ⟨S4x32x1024x1024, .f32⟩
  | .hbm, ⟨32, _⟩ => ⟨S1x1x1024x1024, .i1⟩
  | .hbm, ⟨33, _⟩ => ⟨S_, .f32⟩
  | .hbm, ⟨34, _⟩ => ⟨S_, .f32⟩
  | .hbm, ⟨35, _⟩ => ⟨S4x32x1024x1024, .i1⟩
  | .hbm, ⟨36, _⟩ => ⟨S4x32x1024x1024, .f32⟩
  | .hbm, ⟨37, _⟩ => ⟨S4x32x1024x1024, .f32⟩
  | .hbm, ⟨38, _⟩ => ⟨S_, .f32⟩
  | .hbm, ⟨39, _⟩ => ⟨S4x32x1024, .f32⟩
  | .hbm, ⟨40, _⟩ => ⟨S4x32x1024x1, .f32⟩
  | .hbm, ⟨41, _⟩ => ⟨S4x32x1024x1024, .f32⟩
  | .hbm, ⟨42, _⟩ => ⟨S4x32x1024x1024, .f32⟩
  | .hbm, ⟨43, _⟩ => ⟨S4x32x1024x1024, .f32⟩
  | .hbm, ⟨44, _⟩ => ⟨S_, .i1⟩
  | .hbm, ⟨45, _⟩ => ⟨S1024, .i1⟩
  | .hbm, ⟨46, _⟩ => ⟨S1x1x1024x1, .i1⟩
  | .hbm, ⟨47, _⟩ => ⟨S_, .f32⟩
  | .hbm, ⟨48, _⟩ => ⟨S4x32x1024, .f32⟩
  | .hbm, ⟨49, _⟩ => ⟨S4x32x1024x1, .f32⟩
  | .hbm, ⟨50, _⟩ => ⟨S_, .f32⟩
  | .hbm, ⟨51, _⟩ => ⟨S_, .f32⟩
  | .hbm, ⟨52, _⟩ => ⟨S4x32x1024x1, .i1⟩
  | .hbm, ⟨53, _⟩ => ⟨S4x32x1024x1, .f32⟩
  | .hbm, ⟨54, _⟩ => ⟨S4x32x1024x1, .f32⟩
  | .hbm, ⟨55, _⟩ => ⟨S4x32x1024x1024, .f32⟩
  | .hbm, ⟨56, _⟩ => ⟨S4x32x1024x1024, .f32⟩
  | .hbm, ⟨57, _⟩ => ⟨S1x1x1024x1, .i1⟩
  | .hbm, ⟨58, _⟩ => ⟨S_, .f32⟩
  | .hbm, ⟨59, _⟩ => ⟨S_, .f32⟩
  | .hbm, ⟨60, _⟩ => ⟨S4x32x1024x1024, .i1⟩
  | .hbm, ⟨61, _⟩ => ⟨S4x32x1024x1024, .f32⟩
  | .hbm, ⟨62, _⟩ => ⟨S4x32x1024x1024, .f32⟩
  | .hbm, ⟨63, _⟩ => ⟨S4x32x128x1024, .f32⟩
  | .hbm, ⟨64, _⟩ => ⟨S4x1024x32x128, .f32⟩
  | .hbm, ⟨65, _⟩ => ⟨S4x1024x4096, .f32⟩
  | .hbm, ⟨66, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Body.lean ====
/-
  The kernel's body as a structured program: heads, row chunks, the projections, the pieces of the
  weight blocks that travel between neighbours, and the head-by-head copies of the keys and values,
  each written once and called with its own offsets. `body_eq` says that the printed body is this
  program.
-/
module

public import proofs.«01_k».proof.Proof.Gen.KernelIdeal
public import Idealize.ShloMosaic.Lib.Tactic.ProgEq
public import Idealize.ShloMosaic.Lib.MatmulPlain

@[expose] public section

noncomputable section

namespace Cert.KernelIdeal.Attn

open Idealize.ShloMosaic Idealize.SL.Sem
open Cert.KernelIdeal
open Cert.KernelIdeal.Facts₀ Cert.KernelIdeal.Facts
open scoped Idealize.ShloMosaic.ProgEq

variable {F : FTy → Type} [FloatOps F] [Facts]

/-! ## The values stored -/

/-- A block of weights rounded for the wire. -/
def ownVal (w : Vec F S1024x1024 .f32) : FVec F S1x1024x1024 .bf16 :=
  shapeCast S1x1024x1024 (truncf .bf16 (shapeCast S1024x1024 w shapeCasts_S1024x1024_S1024x1024) bitsLt_bf16_f32)
    shapeCasts_S1024x1024_S1x1024x1024

/-- The activations rounded. -/
def xVal (x : Vec F S1x1024x1024 .f32) : FVec F S1024x1024 .bf16 :=
  shapeCast S1024x1024 (truncf .bf16 (shapeCast S1024x1024 x shapeCasts_S1x1024x1024_S1024x1024) bitsLt_bf16_f32)
    shapeCasts_S1024x1024_S1024x1024

/-- Half of the scaled query projection. -/
def qVal (x : Vec F S1024x1024 .bf16) (w : Vec F S1x1024x512 .bf16) : FVec F S1024x512 .bf16 :=
  shapeCast S1024x512
    (truncf .bf16
      (mulf (matmul dot_S1024x1024_S1024x512_S1024x512_1_0_0_1_n_n none x
          (shapeCast S1024x512 w shapeCasts_S1x1024x512_S1024x512) (constant S1024x512 .f32 0x00000000#32))
        (broadcast S1024x512 (Scalar.ofBits .f32 0x3DB504F3#32)))
      bitsLt_bf16_f32)
    shapeCasts_S1024x512_S1024x512

/-- Half of a group's share of the output. -/
def oVal (c : Vec F S1024x1024 .bf16) (w : Vec F S1x1024x512 .bf16) : FVec F S1024x512 .f32 :=
  matmul dot_S1024x1024_S1024x512_S1024x512_1_0_0_1_n_n none c
    (shapeCast S1024x512 w shapeCasts_S1x1024x512_S1024x512) (constant S1024x512 .f32 0x00000000#32)

/-- The first group's share, stored. -/
def oSet (c : Vec F S1024x1024 .bf16) (w : Vec F S1x1024x512 .bf16) : FVec F S1x1024x512 .f32 :=
  shapeCast S1x1024x512 (oVal c w) shapeCasts_S1024x512_S1x1024x512

/-- A later group's share, added to what is stored. -/
def oAdd (c : Vec F S1024x1024 .bf16) (w : Vec F S1x1024x512 .bf16) (o : Vec F S1x1024x512 .f32) :
    FVec F S1x1024x512 .f32 :=
  shapeCast S1x1024x512 (addf (shapeCast S1024x512 o shapeCasts_S1x1024x512_S1024x512) (oVal c w))
    shapeCasts_S1024x512_S1x1024x512

/-- One head's keys (or values) rounded. -/
def kvVal (k : Vec F S1x1x1024x128 .f32) : FVec F S1024x128 .bf16 :=
  truncf .bf16 (shapeCast S1024x128 k shapeCasts_S1x1x1024x128_S1024x128) bitsLt_bf16_f32

/-- The attention pattern over the rows from `r` and the `n` columns from `lo`. -/
def pat (n : ℕ) (h0 : (⟨2, ![256, n]⟩ : Shape).Iotas .tc 32 [0]) (h1 : (⟨2, ![256, n]⟩ : Shape).Iotas .tc 32 [1])
    (r lo : BitVec 32) : IVec ⟨2, ![256, n]⟩ 1 :=
  ori (ori
      (cmpi .sle
        (absi (subi (addi (iota .tc ⟨2, ![256, n]⟩ 32 [0] h0) (broadcast ⟨2, ![256, n]⟩ r))
          (addi (iota .tc ⟨2, ![256, n]⟩ 32 [1] h1) (broadcast ⟨2, ![256, n]⟩ lo))))
        (broadcast ⟨2, ![256, n]⟩ (128#32)))
      (cmpi .slt (addi (iota .tc ⟨2, ![256, n]⟩ 32 [1] h1) (broadcast ⟨2, ![256, n]⟩ lo)) (broadcast ⟨2, ![256, n]⟩ (32#32))))
    (cmpi .slt (addi (iota .tc ⟨2, ![256, n]⟩ 32 [0] h0) (broadcast ⟨2, ![256, n]⟩ r)) (broadcast ⟨2, ![256, n]⟩ (32#32)))

/-- The weights of the `n` keys from `lo` for the rows from `r`. -/
def pieceP (n : ℕ) (h0 : (⟨2, ![256, n]⟩ : Shape).Iotas .tc 32 [0]) (h1 : (⟨2, ![256, n]⟩ : Shape).Iotas .tc 32 [1])
    (r lo : BitVec 32) (q : Vec F S256x128 .bf16) (k : FVec F ⟨2, ![n, 128]⟩ .bf16) : FVec F ⟨2, ![256, n]⟩ .f32 :=
  select (pat n h0 h1 r lo)
    (exp (matmul (DotDims.transposedRhs 256 128 n) none q k (constant ⟨2, ![256, n]⟩ .f32 0x00000000#32)))
    (broadcast ⟨2, ![256, n]⟩ (Scalar.ofBits .f32 0x00000000#32))

/-- Their sum over the keys. -/
def pieceD (n : ℕ) (h0 : (⟨2, ![256, n]⟩ : Shape).Iotas .tc 32 [0]) (h1 : (⟨2, ![256, n]⟩ : Shape).Iotas .tc 32 [1])
    (hr : (⟨2, ![256, n]⟩ : Shape).Reduces [1] S256)
    (r lo : BitVec 32) (q : Vec F S256x128 .bf16) (k : FVec F ⟨2, ![n, 128]⟩ .bf16) : FVec F S256x1 .f32 :=
  shapeCast S256x1 (multiReduction .add [1] S256 (pieceP n h0 h1 r lo q k) 0x00000000#32 hr (.inl rfl) rfl)
    shapeCasts_S256_S256x1

/-- The values so weighted. -/
def pieceC (n : ℕ) (h0 : (⟨2, ![256, n]⟩ : Shape).Iotas .tc 32 [0]) (h1 : (⟨2, ![256, n]⟩ : Shape).Iotas .tc 32 [1])
    (r lo : BitVec 32) (q : Vec F S256x128 .bf16) (k v : FVec F ⟨2, ![n, 128]⟩ .bf16) : FVec F S256x128 .f32 :=
  matmul (DotDims.plain 256 n 128) none (truncf .bf16 (pieceP n h0 h1 r lo q k) bitsLt_bf16_f32) v
    (constant S256x128 .f32 0x00000000#32)

/-- The weighted values over the sum of the weights, rounded. -/
def quot (c : FVec F S256x128 .f32) (d : FVec F S256x1 .f32) : FVec F S256x128 .bf16 :=
  shapeCast S256x128
    (truncf .bf16
      (mulf c (broadcastTo S256x128 (divf (broadcast S256x1 (Scalar.ofBits .f32 0x3F800000#32)) d) broadcasts_S256x1_S256x128))
      bitsLt_bf16_f32)
    shapeCasts_S256x128_S256x128

/-- Rows 0–255: every key. -/
def chunk0 (k v : FVec F S1024x128 .bf16) (q : Vec F S256x128 .bf16) : FVec F S256x128 .bf16 :=
  quot (pieceC 1024 iota_S256x1024_d0_w32 iota_S256x1024_d1_w32 0#32 0#32 q k v)
    (pieceD 1024 iota_S256x1024_d0_w32 iota_S256x1024_d1_w32 reduces_S256x1024_S256 0#32 0#32 q k)

/-- Rows 256–511: the first 640 keys. -/
def chunk1 (k v : FVec F S1024x128 .bf16) (q : Vec F S256x128 .bf16) : FVec F S256x128 .bf16 :=
  quot (pieceC 640 iota_S256x640_d0_w32 iota_S256x640_d1_w32 256#32 0#32 q
      (extractStridedSlice S640x128 ![0, 0] k slices_S1024x128_o0_0_S640x128)
      (extractStridedSlice S640x128 ![0, 0] v slices_S1024x128_o0_0_S640x128))
    (pieceD 640 iota_S256x640_d0_w32 iota_S256x640_d1_w32 reduces_S256x640_S256 256#32 0#32 q
      (extractStridedSlice S640x128 ![0, 0] k slices_S1024x128_o0_0_S640x128))

/-- Rows 512–767: the first 128 keys and the 512 from 384. -/
def chunk2 (k v : FVec F S1024x128 .bf16) (q : Vec F S256x128 .bf16) : FVec F S256x128 .bf16 :=
  quot
    (addf
      (pieceC 128 iota_S256x128_d0_w32 iota_S256x128_d1_w32 512#32 0#32 q
        (extractStridedSlice S128x128 ![0, 0] k slices_S1024x128_o0_0_S128x128)
        (extractStridedSlice S128x128 ![0, 0] v slices_S1024x128_o0_0_S128x128))
      (pieceC 512 iota_S256x512_d0_w32 iota_S256x512_d1_w32 512#32 384#32 q
        (extractStridedSlice S512x128 ![384, 0] k slices_S1024x128_o384_0_S512x128)
        (extractStridedSlice S512x128 ![384, 0] v slices_S1024x128_o384_0_S512x128)))
    (addf
      (pieceD 128 iota_S256x128_d0_w32 iota_S256x128_d1_w32 reduces_S256x128_S256 512#32 0#32 q
        (extractStridedSlice S128x128 ![0, 0] k slices_S1024x128_o0_0_S128x128))
      (pieceD 512 iota_S256x512_d0_w32 iota_S256x512_d1_w32 reduces_S256x512_S256 512#32 384#32 q
        (extractStridedSlice S512x128 ![384, 0] k slices_S1024x128_o384_0_S512x128)))

/-- Rows 768–1023: the first 128 keys and the 384 from 640. -/
def chunk3 (k v : FVec F S1024x128 .bf16) (q : Vec F S256x128 .bf16) : FVec F S256x128 .bf16 :=
  quot
    (addf
      (pieceC 128 iota_S256x128_d0_w32 iota_S256x128_d1_w32 768#32 0#32 q
        (extractStridedSlice S128x128 ![0, 0] k slices_S1024x128_o0_0_S128x128)
        (extractStridedSlice S128x128 ![0, 0] v slices_S1024x128_o0_0_S128x128))
      (pieceC 384 iota_S256x384_d0_w32 iota_S256x384_d1_w32 768#32 640#32 q
        (extractStridedSlice S384x128 ![640, 0] k slices_S1024x128_o640_0_S384x128)
        (extractStridedSlice S384x128 ![640, 0] v slices_S1024x128_o640_0_S384x128)))
    (addf
      (pieceD 128 iota_S256x128_d0_w32 iota_S256x128_d1_w32 reduces_S256x128_S256 768#32 0#32 q
        (extractStridedSlice S128x128 ![0, 0] k slices_S1024x128_o0_0_S128x128))
      (pieceD 384 iota_S256x384_d0_w32 iota_S256x384_d1_w32 reduces_S256x384_S256 768#32 640#32 q
        (extractStridedSlice S384x128 ![640, 0] k slices_S1024x128_o640_0_S384x128)))

/-! ## The steps -/

/-- The kernel's programs. -/
abbrev KProg (F : FTy → Type) (α : Type) := Prog (TpuEff nD τ sig (Elt F) Λ₀ .tc) α

/-- One head's keys and values: a window of a device's share of the array in HBM. -/
abbrev kvSrc (a : Memref sig .tc .hbm S4x1024x32x128 .f32) (off : Fin 4 → ℕ)
    (hb : ∀ i, off i + S1x1024x1x128.size i ≤ S4x1024x32x128.size i) : Memref sig .tc .hbm S1024x128 .f32 :=
  (a.slice (Rect.unit (s := S4x1024x32x128) off S1x1024x1x128.size hb) (fun _ => rfl)).squeeze S1024x128
    squeezes_S1x1024x1x128_S1024x128

/-- The place in the scratch a head's keys or values are copied to. -/
abbrev kvDst (a : Memref sig .tc .vmem S2x8x1024x128 .f32) (off : Fin 4 → ℕ)
    (hb : ∀ i, off i + S1x1x1024x128.size i ≤ S2x8x1024x128.size i) : Memref sig .tc .vmem S1024x128 .f32 :=
  (a.slice (Rect.unit (s := S2x8x1024x128) off S1x1x1024x128.size hb) (fun _ => rfl)).squeeze S1024x128
    squeezes_S1x1x1024x128_S1024x128

/-- Half of a weight block. -/
abbrev half (a : Memref sig .tc .vmem S2x1024x1024 .bf16) (off : Fin 3 → ℕ)
    (hb : ∀ i, off i + S1x1024x512.size i ≤ S2x1024x1024.size i) : Memref sig .tc .vmem S1024x512 .bf16 :=
  (a.slice (Rect.unit (s := S2x1024x1024) off S1x1024x512.size hb) (fun _ => rfl)).squeeze S1024x512
    squeezes_S1x1024x512_S1024x512

/-- A whole weight block. -/
abbrev full (a : Memref sig .tc .vmem S2x1024x1024 .bf16) (off : Fin 3 → ℕ)
    (hb : ∀ i, off i + S1x1024x1024.size i ≤ S2x1024x1024.size i) : Memref sig .tc .vmem S1024x1024 .bf16 :=
  (a.slice (Rect.unit (s := S2x1024x1024) off S1x1024x1024.size hb) (fun _ => rfl)).squeeze S1024x1024
    squeezes_S1x1024x1024_S1024x1024

/-- One cell of an array of semaphores. -/
abbrev cellAt {n : ℕ} (a : DmaSems sig ⟨1, ![n]⟩) (off : Fin 1 → ℕ)
    (hb : ∀ i, off i + S1.size i ≤ (⟨1, ![n]⟩ : Shape).size i) : DmaSem sig :=
  ((a.slice (Rect.unit (s := ⟨1, ![n]⟩) off S1.size hb)).squeeze S_ squeezes_S1_S_).sem

/-- The copies of one head's keys and values start. -/
def kvPair (a2 a3 : Memref sig .tc .hbm S4x1024x32x128 .f32) (a16 a17 : Memref sig .tc .vmem S2x8x1024x128 .f32)
    (sm : DmaSem sig)
    (off : Fin 4 → ℕ) (hb : ∀ i, off i + S1x1024x1x128.size i ≤ S4x1024x32x128.size i)
    (off' : Fin 4 → ℕ) (hb' : ∀ i, off' i + S1x1x1024x128.size i ≤ S2x8x1024x128.size i) : KProg F PUnit := do
  Prog.lift (.enqueueDma (Memref.squeeze (s := S1x1024x1x128) (a2.slice (Rect.unit (s := S4x1024x32x128) off S1x1024x1x128.size hb) (fun _ => rfl)) S1024x128
      squeezes_S1x1024x1x128_S1024x128) (.here (Memref.squeeze (s := S1x1x1024x128) (a16.slice (Rect.unit (s := S2x8x1024x128) off' S1x1x1024x128.size hb') (fun _ => rfl)) S1024x128
      squeezes_S1x1x1024x128_S1024x128)) (.dma sm)
    ((View.wordExact_bits rfl).reshape _ _) ((View.wordExact_bits rfl).reshape _ _) ⟨Or.inl rfl, trivial⟩)
  Prog.lift (.enqueueDma (Memref.squeeze (s := S1x1024x1x128) (a3.slice (Rect.unit (s := S4x1024x32x128) off S1x1024x1x128.size hb) (fun _ => rfl)) S1024x128
      squeezes_S1x1024x1x128_S1024x128) (.here (Memref.squeeze (s := S1x1x1024x128) (a17.slice (Rect.unit (s := S2x8x1024x128) off' S1x1x1024x128.size hb') (fun _ => rfl)) S1024x128
      squeezes_S1x1x1024x128_S1024x128)) (.dma sm)
    ((View.wordExact_bits rfl).reshape _ _) ((View.wordExact_bits rfl).reshape _ _) ⟨Or.inl rfl, trivial⟩)

/-- The copies of one head's keys and values are awaited. -/
def kvWaitPair (a2 a3 : Memref sig .tc .hbm S4x1024x32x128 .f32) (a16 a17 : Memref sig .tc .vmem S2x8x1024x128 .f32)
    (sm : DmaSem sig)
    (off : Fin 4 → ℕ) (hb : ∀ i, off i + S1x1024x1x128.size i ≤ S4x1024x32x128.size i)
    (off' : Fin 4 → ℕ) (hb' : ∀ i, off' i + S1x1x1024x128.size i ≤ S2x8x1024x128.size i) : KProg F PUnit := do
  Prog.lift (.waitDma2 sm (Memref.squeeze (s := S1x1024x1x128) (a2.slice (Rect.unit (s := S4x1024x32x128) off S1x1024x1x128.size hb) (fun _ => rfl)) S1024x128
      squeezes_S1x1024x1x128_S1024x128) (Memref.squeeze (s := S1x1x1024x128) (a16.slice (Rect.unit (s := S2x8x1024x128) off' S1x1x1024x128.size hb') (fun _ => rfl)) S1024x128
      squeezes_S1x1x1024x128_S1024x128)
    ((View.wordExact_bits rfl).reshape _ _) ((View.wordExact_bits rfl).reshape _ _))
  Prog.lift (.waitDma2 sm (Memref.squeeze (s := S1x1024x1x128) (a3.slice (Rect.unit (s := S4x1024x32x128) off S1x1024x1x128.size hb) (fun _ => rfl)) S1024x128
      squeezes_S1x1024x1x128_S1024x128) (Memref.squeeze (s := S1x1x1024x128) (a17.slice (Rect.unit (s := S2x8x1024x128) off' S1x1x1024x128.size hb') (fun _ => rfl)) S1024x128
      squeezes_S1x1x1024x128_S1024x128)
    ((View.wordExact_bits rfl).reshape _ _) ((View.wordExact_bits rfl).reshape _ _))

/-- One chunk of 256 rows of one head: its queries are read, its share of the context stored. -/
def chunkG (a18 a19 : Memref sig .tc .vmem S1024x1024 .bf16) (h19 : a19.IsWhole) (off : Fin 2 → ℕ)
    (hb : ∀ i, off i + S256x128.size i ≤ S1024x1024.size i)
    (hp : (Rect.unit (s := S1024x1024) off S256x128.size hb).PackedRows (EltTy.packing .bf16))
    (f : Vec F S256x128 .bf16 → FVec F S256x128 .bf16) : KProg F PUnit := do
  let q ← Prog.lift (.load a18 (Rect.unit (s := S1024x1024) off S256x128.size hb).toLoadRect (View.loadsAt_vmem h_S256x128))
  let _ ← Prog.lift (.load a19 (Rect.unit (s := S1024x1024) off S256x128.size hb).toLoadRect (View.loadsAt_vmem h_S256x128))
  Prog.lift (.store a19 (Rect.unit (s := S1024x1024) off S256x128.size hb) (f q) Finset.univ
    (View.stores_vmem h_S256x128 (h19.storeExact_slice rfl _ hp) (fun _ => rfl)) (.inl rfl))

/-- One head: its keys and values are read, and the context's four chunks computed. -/
def headG (a16 a17 : Memref sig .tc .vmem S2x8x1024x128 .f32) (a18 a19 : Memref sig .tc .vmem S1024x1024 .bf16)
    (h19 : a19.IsWhole) (off : Fin 4 → ℕ) (hb : ∀ i, off i + S1x1x1024x128.size i ≤ S2x8x1024x128.size i) (c : ℕ)
    (hb0 : ∀ i, (![0, c] : Fin 2 → ℕ) i + S256x128.size i ≤ S1024x1024.size i)
    (hp0 : (Rect.unit (s := S1024x1024) ![0, c] S256x128.size hb0).PackedRows (EltTy.packing .bf16))
    (hb1 : ∀ i, (![256, c] : Fin 2 → ℕ) i + S256x128.size i ≤ S1024x1024.size i)
    (hp1 : (Rect.unit (s := S1024x1024) ![256, c] S256x128.size hb1).PackedRows (EltTy.packing .bf16))
    (hb2 : ∀ i, (![512, c] : Fin 2 → ℕ) i + S256x128.size i ≤ S1024x1024.size i)
    (hp2 : (Rect.unit (s := S1024x1024) ![512, c] S256x128.size hb2).PackedRows (EltTy.packing .bf16))
    (hb3 : ∀ i, (![768, c] : Fin 2 → ℕ) i + S256x128.size i ≤ S1024x1024.size i)
    (hp3 : (Rect.unit (s := S1024x1024) ![768, c] S256x128.size hb3).PackedRows (EltTy.packing .bf16)) : KProg F PUnit := do
  let k ← Prog.lift (.load a16 (Rect.unit (s := S2x8x1024x128) off S1x1x1024x128.size hb).toLoadRect
    (View.loadsAt_vmem h_S1x1x1024x128))
  let v ← Prog.lift (.load a17 (Rect.unit (s := S2x8x1024x128) off S1x1x1024x128.size hb).toLoadRect
    (View.loadsAt_vmem h_S1x1x1024x128))
  chunkG a18 a19 h19 ![0, c] hb0 hp0 (chunk0 (kvVal k) (kvVal v))
  chunkG a18 a19 h19 ![256, c] hb1 hp1 (chunk1 (kvVal k) (kvVal v))
  chunkG a18 a19 h19 ![512, c] hb2 hp2 (chunk2 (kvVal k) (kvVal v))
  chunkG a18 a19 h19 ![768, c] hb3 hp3 (chunk3 (kvVal k) (kvVal v))

/-- Half of the query projection by the block `w`. -/
def projG (a20 : Memref sig .tc .vmem S1024x1024 .bf16) (w : Memref sig .tc .vmem S2x1024x1024 .bf16)
    (a18 : Memref sig .tc .vmem S1024x1024 .bf16) (h18 : a18.IsWhole) (off : Fin 3 → ℕ)
    (hb : ∀ i, off i + S1x1024x512.size i ≤ S2x1024x1024.size i) (off' : Fin 2 → ℕ)
    (hb' : ∀ i, off' i + S1024x512.size i ≤ S1024x1024.size i)
    (hp : (Rect.unit (s := S1024x1024) off' S1024x512.size hb').PackedRows (EltTy.packing .bf16)) : KProg F PUnit := do
  let x ← Prog.lift (.load a20 (Rect.unit (s := S1024x1024) ![0, 0] S1024x1024.size inb_S1024x1024_S1024x1024_0_0).toLoadRect
    (View.loadsAt_vmem h_S1024x1024))
  let u ← Prog.lift (.load w (Rect.unit (s := S2x1024x1024) off S1x1024x512.size hb).toLoadRect
    (View.loadsAt_vmem h_S1x1024x512))
  let _ ← Prog.lift (.load a18 (Rect.unit (s := S1024x1024) off' S1024x512.size hb').toLoadRect
    (View.loadsAt_vmem h_S1024x512))
  Prog.lift (.store a18 (Rect.unit (s := S1024x1024) off' S1024x512.size hb') (qVal x u) Finset.univ
    (View.stores_vmem h_S1024x512 (h18.storeExact_slice rfl _ hp) (fun _ => rfl)) (.inl rfl))

/-- The context and half of an output block are read. -/
def outLoadG (a19 : Memref sig .tc .vmem S1024x1024 .bf16) (w : Memref sig .tc .vmem S2x1024x1024 .bf16)
    (off : Fin 3 → ℕ) (hb : ∀ i, off i + S1x1024x512.size i ≤ S2x1024x1024.size i) :
    KProg F (Vec F S1024x1024 .bf16 × Vec F S1x1024x512 .bf16) := do
  let c ← Prog.lift (.load a19 (Rect.unit (s := S1024x1024) ![0, 0] S1024x1024.size inb_S1024x1024_S1024x1024_0_0).toLoadRect
    (View.loadsAt_vmem h_S1024x1024))
  let u ← Prog.lift (.load w (Rect.unit (s := S2x1024x1024) off S1x1024x512.size hb).toLoadRect
    (View.loadsAt_vmem h_S1x1024x512))
  pure (c, u)

/-- The first group's share is stored. -/
def outSetG (a5 : Memref sig .tc .vmem S1x1024x1024 .f32) (off : Fin 3 → ℕ)
    (hb : ∀ i, off i + S1x1024x512.size i ≤ S1x1024x1024.size i)
    (c : Vec F S1024x1024 .bf16) (u : Vec F S1x1024x512 .bf16) : KProg F PUnit := do
  let _ ← Prog.lift (.load a5 (Rect.unit (s := S1x1024x1024) off S1x1024x512.size hb).toLoadRect
    (View.loadsAt_vmem h_S1x1024x512))
  Prog.lift (.store a5 (Rect.unit (s := S1x1024x1024) off S1x1024x512.size hb) (oSet c u) Finset.univ
    (View.stores_vmem_bits_univ h_S1x1024x512 rfl) (.inl rfl))

/-- A later group's share is added. -/
def outAddG (a5 : Memref sig .tc .vmem S1x1024x1024 .f32) (off : Fin 3 → ℕ)
    (hb : ∀ i, off i + S1x1024x512.size i ≤ S1x1024x1024.size i)
    (c : Vec F S1024x1024 .bf16) (u : Vec F S1x1024x512 .bf16) : KProg F PUnit := do
  let o ← Prog.lift (.load a5 (Rect.unit (s := S1x1024x1024) off S1x1024x512.size hb).toLoadRect
    (View.loadsAt_vmem h_S1x1024x512))
  let _ ← Prog.lift (.load a5 (Rect.unit (s := S1x1024x1024) off S1x1024x512.size hb).toLoadRect
    (View.loadsAt_vmem h_S1x1024x512))
  Prog.lift (.store a5 (Rect.unit (s := S1x1024x1024) off S1x1024x512.size hb) (oAdd c u o) Finset.univ
    (View.stores_vmem_bits_univ h_S1x1024x512 rfl) (.inl rfl))

/-- Half of a weight block is sent to a neighbour. -/
def sendG (src dst : Memref sig .tc .vmem S2x1024x1024 .bf16) (hs : src.IsWhole) (hd : dst.IsWhole) (p : Dev nD)
    (snd rcv : DmaSem sig) (off : Fin 3 → ℕ) (hb : ∀ i, off i + S1x1024x512.size i ≤ S2x1024x1024.size i)
    (hw : (Rect.unit (s := S2x1024x1024) off S1x1024x512.size hb).WholeWords (EltTy.packing .bf16)) : KProg F PUnit :=
  Prog.lift (.enqueueDma (Memref.squeeze (s := S1x1024x512) (src.slice (Rect.unit (s := S2x1024x1024) off S1x1024x512.size hb) (fun _ => rfl)) S1024x512
      squeezes_S1x1024x512_S1024x512) (.remote (Dev.tc p) (Memref.squeeze (s := S1x1024x512) (dst.slice (Rect.unit (s := S2x1024x1024) off S1x1024x512.size hb) (fun _ => rfl)) S1024x512
      squeezes_S1x1024x512_S1024x512) (.dma snd)) (.dma rcv)
    ((hs.wordExact_slice rfl _ hw).reshape _ _) ((hd.wordExact_slice rfl _ hw).reshape _ _) ⟨⟨rfl, Or.inl rfl⟩, trivial⟩)

/-- Half of the device's own weight block is sent to a neighbour. -/
def sendOwnG (src dst : Memref sig .tc .vmem S2x1024x1024 .bf16) (hs : src.IsWhole) (hd : dst.IsWhole) (p : Dev nD)
    (snd rcv : DmaSem sig) (off : Fin 3 → ℕ) (hb : ∀ i, off i + S1x1024x512.size i ≤ S2x1024x1024.size i)
    (hw : (Rect.unit (s := S2x1024x1024) off S1x1024x512.size hb).WholeWords (EltTy.packing .bf16)) : KProg F PUnit :=
  Prog.lift (.enqueueDma ((src.slice (Rect.unit (s := S2x1024x1024) off S1x1024x512.size hb) (fun _ => rfl)).squeeze S1024x512
      squeezes_S1x1024x512_S1024x512) (.remote (Dev.tc p) (Memref.squeeze (s := S1x1024x512) (dst.slice (Rect.unit (s := S2x1024x1024) off S1x1024x512.size hb) (fun _ => rfl)) S1024x512
      squeezes_S1x1024x512_S1024x512) (.dma snd)) (.dma rcv)
    ((hs.wordExact_slice rfl _ hw).reshape _ _) ((hd.wordExact_slice rfl _ hw).reshape _ _) ⟨⟨rfl, Or.inl rfl⟩, trivial⟩)

/-- A whole weight block is sent to a neighbour. -/
def sendFullG (src dst : Memref sig .tc .vmem S2x1024x1024 .bf16) (hs : src.IsWhole) (hd : dst.IsWhole) (p : Dev nD)
    (snd rcv : DmaSem sig) (off : Fin 3 → ℕ) (hb : ∀ i, off i + S1x1024x1024.size i ≤ S2x1024x1024.size i)
    (hw : (Rect.unit (s := S2x1024x1024) off S1x1024x1024.size hb).WholeWords (EltTy.packing .bf16)) : KProg F PUnit :=
  Prog.lift (.enqueueDma (Memref.squeeze (s := S1x1024x1024) (src.slice (Rect.unit (s := S2x1024x1024) off S1x1024x1024.size hb) (fun _ => rfl)) S1024x1024
      squeezes_S1x1024x1024_S1024x1024) (.remote (Dev.tc p) (Memref.squeeze (s := S1x1024x1024) (dst.slice (Rect.unit (s := S2x1024x1024) off S1x1024x1024.size hb) (fun _ => rfl)) S1024x1024
      squeezes_S1x1024x1024_S1024x1024) (.dma snd)) (.dma rcv)
    ((hs.wordExact_slice rfl _ hw).reshape _ _) ((hd.wordExact_slice rfl _ hw).reshape _ _) ⟨⟨rfl, Or.inl rfl⟩, trivial⟩)

/-- A wait for half of a weight block. -/
def waitG (src dst : Memref sig .tc .vmem S2x1024x1024 .bf16) (hs : src.IsWhole) (hd : dst.IsWhole) (sm : DmaSem sig)
    (off : Fin 3 → ℕ) (hb : ∀ i, off i + S1x1024x512.size i ≤ S2x1024x1024.size i)
    (hw : (Rect.unit (s := S2x1024x1024) off S1x1024x512.size hb).WholeWords (EltTy.packing .bf16)) : KProg F PUnit :=
  Prog.lift (.waitDma2 sm (Memref.squeeze (s := S1x1024x512) (src.slice (Rect.unit (s := S2x1024x1024) off S1x1024x512.size hb) (fun _ => rfl)) S1024x512
      squeezes_S1x1024x512_S1024x512) (Memref.squeeze (s := S1x1024x512) (dst.slice (Rect.unit (s := S2x1024x1024) off S1x1024x512.size hb) (fun _ => rfl)) S1024x512
      squeezes_S1x1024x512_S1024x512)
    ((hs.wordExact_slice rfl _ hw).reshape _ _) ((hd.wordExact_slice rfl _ hw).reshape _ _))

/-- A wait for half of a neighbour's weight block. -/
def waitInG (src dst : Memref sig .tc .vmem S2x1024x1024 .bf16) (hs : src.IsWhole) (hd : dst.IsWhole) (sm : DmaSem sig)
    (off : Fin 3 → ℕ) (hb : ∀ i, off i + S1x1024x512.size i ≤ S2x1024x1024.size i)
    (hw : (Rect.unit (s := S2x1024x1024) off S1x1024x512.size hb).WholeWords (EltTy.packing .bf16)) : KProg F PUnit :=
  Prog.lift (.waitDma2 sm ((src.slice (Rect.unit (s := S2x1024x1024) off S1x1024x512.size hb) (fun _ => rfl)).squeeze S1024x512
      squeezes_S1x1024x512_S1024x512) (Memref.squeeze (s := S1x1024x512) (dst.slice (Rect.unit (s := S2x1024x1024) off S1x1024x512.size hb) (fun _ => rfl)) S1024x512
      squeezes_S1x1024x512_S1024x512)
    ((hs.wordExact_slice rfl _ hw).reshape _ _) ((hd.wordExact_slice rfl _ hw).reshape _ _))

/-- A wait for a send of half of the device's own weight block. -/
def waitOwnG (src dst : Memref sig .tc .vmem S2x1024x1024 .bf16) (hs : src.IsWhole) (hd : dst.IsWhole) (sm : DmaSem sig)
    (off : Fin 3 → ℕ) (hb : ∀ i, off i + S1x1024x512.size i ≤ S2x1024x1024.size i)
    (hw : (Rect.unit (s := S2x1024x1024) off S1x1024x512.size hb).WholeWords (EltTy.packing .bf16)) : KProg F PUnit :=
  Prog.lift (.waitDma2 sm (Memref.squeeze (s := S1x1024x512) (src.slice (Rect.unit (s := S2x1024x1024) off S1x1024x512.size hb) (fun _ => rfl)) S1024x512
      squeezes_S1x1024x512_S1024x512) ((dst.slice (Rect.unit (s := S2x1024x1024) off S1x1024x512.size hb) (fun _ => rfl)).squeeze S1024x512
      squeezes_S1x1024x512_S1024x512)
    ((hs.wordExact_slice rfl _ hw).reshape _ _) ((hd.wordExact_slice rfl _ hw).reshape _ _))

/-- A wait for a whole weight block. -/
def waitFullG (src dst : Memref sig .tc .vmem S2x1024x1024 .bf16) (hs : src.IsWhole) (hd : dst.IsWhole) (sm : DmaSem sig)
    (off : Fin 3 → ℕ) (hb : ∀ i, off i + S1x1024x1024.size i ≤ S2x1024x1024.size i)
    (hw : (Rect.unit (s := S2x1024x1024) off S1x1024x1024.size hb).WholeWords (EltTy.packing .bf16)) : KProg F PUnit :=
  Prog.lift (.waitDma2 sm (Memref.squeeze (s := S1x1024x1024) (src.slice (Rect.unit (s := S2x1024x1024) off S1x1024x1024.size hb) (fun _ => rfl)) S1024x1024
      squeezes_S1x1024x1024_S1024x1024) (Memref.squeeze (s := S1x1024x1024) (dst.slice (Rect.unit (s := S2x1024x1024) off S1x1024x1024.size hb) (fun _ => rfl)) S1024x1024
      squeezes_S1x1024x1024_S1024x1024)
    ((hs.wordExact_slice rfl _ hw).reshape _ _) ((hd.wordExact_slice rfl _ hw).reshape _ _))

/-- The copies of one group's keys and values start, in slot 0 or 1. -/
def kvStart0 (a2 a3 : Memref sig .tc .hbm S4x1024x32x128 .f32) (a15 : DmaSems sig S2)
    (a16 a17 : Memref sig .tc .vmem S2x8x1024x128 .f32) (off : BitVec 32 → Fin 4 → ℕ)
    (hb : ∀ h : Fin 8, ∀ i, off (BitVec.ofNat 32 h.val) i + S1x1024x1x128.size i ≤ S4x1024x32x128.size i) : KProg F PUnit := do
  kvPair a2 a3 a16 a17 (SemArray.squeeze (s := S1) (a15.slice (Rect.unit (s := S2) ![0] S1.size inb_S2_S1_0)) S_ squeezes_S1_S_).sem (off 0#32) (hb 0) ![0, 0, 0, 0] inb_S2x8x1024x128_S1x1x1024x128_0_0_0_0
  kvPair a2 a3 a16 a17 (SemArray.squeeze (s := S1) (a15.slice (Rect.unit (s := S2) ![0] S1.size inb_S2_S1_0)) S_ squeezes_S1_S_).sem (off 1#32) (hb 1) ![0, 1, 0, 0] inb_S2x8x1024x128_S1x1x1024x128_0_1_0_0
  kvPair a2 a3 a16 a17 (SemArray.squeeze (s := S1) (a15.slice (Rect.unit (s := S2) ![0] S1.size inb_S2_S1_0)) S_ squeezes_S1_S_).sem (off 2#32) (hb 2) ![0, 2, 0, 0] inb_S2x8x1024x128_S1x1x1024x128_0_2_0_0
  kvPair a2 a3 a16 a17 (SemArray.squeeze (s := S1) (a15.slice (Rect.unit (s := S2) ![0] S1.size inb_S2_S1_0)) S_ squeezes_S1_S_).sem (off 3#32) (hb 3) ![0, 3, 0, 0] inb_S2x8x1024x128_S1x1x1024x128_0_3_0_0
  kvPair a2 a3 a16 a17 (SemArray.squeeze (s := S1) (a15.slice (Rect.unit (s := S2) ![0] S1.size inb_S2_S1_0)) S_ squeezes_S1_S_).sem (off 4#32) (hb 4) ![0, 4, 0, 0] inb_S2x8x1024x128_S1x1x1024x128_0_4_0_0
  kvPair a2 a3 a16 a17 (SemArray.squeeze (s := S1) (a15.slice (Rect.unit (s := S2) ![0] S1.size inb_S2_S1_0)) S_ squeezes_S1_S_).sem (off 5#32) (hb 5) ![0, 5, 0, 0] inb_S2x8x1024x128_S1x1x1024x128_0_5_0_0
  kvPair a2 a3 a16 a17 (SemArray.squeeze (s := S1) (a15.slice (Rect.unit (s := S2) ![0] S1.size inb_S2_S1_0)) S_ squeezes_S1_S_).sem (off 6#32) (hb 6) ![0, 6, 0, 0] inb_S2x8x1024x128_S1x1x1024x128_0_6_0_0
  kvPair a2 a3 a16 a17 (SemArray.squeeze (s := S1) (a15.slice (Rect.unit (s := S2) ![0] S1.size inb_S2_S1_0)) S_ squeezes_S1_S_).sem (off 7#32) (hb 7) ![0, 7, 0, 0] inb_S2x8x1024x128_S1x1x1024x128_0_7_0_0

/-- The copies of one group's keys and values in slot 0 are awaited. -/
def kvWait0 (a2 a3 : Memref sig .tc .hbm S4x1024x32x128 .f32) (a15 : DmaSems sig S2)
    (a16 a17 : Memref sig .tc .vmem S2x8x1024x128 .f32) (off : BitVec 32 → Fin 4 → ℕ)
    (hb : ∀ h : Fin 8, ∀ i, off (BitVec.ofNat 32 h.val) i + S1x1024x1x128.size i ≤ S4x1024x32x128.size i) : KProg F PUnit := do
  kvWaitPair a2 a3 a16 a17 (SemArray.squeeze (s := S1) (a15.slice (Rect.unit (s := S2) ![0] S1.size inb_S2_S1_0)) S_ squeezes_S1_S_).sem (off 0#32) (hb 0) ![0, 0, 0, 0] inb_S2x8x1024x128_S1x1x1024x128_0_0_0_0
  kvWaitPair a2 a3 a16 a17 (SemArray.squeeze (s := S1) (a15.slice (Rect.unit (s := S2) ![0] S1.size inb_S2_S1_0)) S_ squeezes_S1_S_).sem (off 1#32) (hb 1) ![0, 1, 0, 0] inb_S2x8x1024x128_S1x1x1024x128_0_1_0_0
  kvWaitPair a2 a3 a16 a17 (SemArray.squeeze (s := S1) (a15.slice (Rect.unit (s := S2) ![0] S1.size inb_S2_S1_0)) S_ squeezes_S1_S_).sem (off 2#32) (hb 2) ![0, 2, 0, 0] inb_S2x8x1024x128_S1x1x1024x128_0_2_0_0
  kvWaitPair a2 a3 a16 a17 (SemArray.squeeze (s := S1) (a15.slice (Rect.unit (s := S2) ![0] S1.size inb_S2_S1_0)) S_ squeezes_S1_S_).sem (off 3#32) (hb 3) ![0, 3, 0, 0] inb_S2x8x1024x128_S1x1x1024x128_0_3_0_0
  kvWaitPair a2 a3 a16 a17 (SemArray.squeeze (s := S1) (a15.slice (Rect.unit (s := S2) ![0] S1.size inb_S2_S1_0)) S_ squeezes_S1_S_).sem (off 4#32) (hb 4) ![0, 4, 0, 0] inb_S2x8x1024x128_S1x1x1024x128_0_4_0_0
  kvWaitPair a2 a3 a16 a17 (SemArray.squeeze (s := S1) (a15.slice (Rect.unit (s := S2) ![0] S1.size inb_S2_S1_0)) S_ squeezes_S1_S_).sem (off 5#32) (hb 5) ![0, 5, 0, 0] inb_S2x8x1024x128_S1x1x1024x128_0_5_0_0
  kvWaitPair a2 a3 a16 a17 (SemArray.squeeze (s := S1) (a15.slice (Rect.unit (s := S2) ![0] S1.size inb_S2_S1_0)) S_ squeezes_S1_S_).sem (off 6#32) (hb 6) ![0, 6, 0, 0] inb_S2x8x1024x128_S1x1x1024x128_0_6_0_0
  kvWaitPair a2 a3 a16 a17 (SemArray.squeeze (s := S1) (a15.slice (Rect.unit (s := S2) ![0] S1.size inb_S2_S1_0)) S_ squeezes_S1_S_).sem (off 7#32) (hb 7) ![0, 7, 0, 0] inb_S2x8x1024x128_S1x1x1024x128_0_7_0_0

/-- Heads 0–3 of slot 0. -/
def heads0a (a16 a17 : Memref sig .tc .vmem S2x8x1024x128 .f32) (a18 a19 : Memref sig .tc .vmem S1024x1024 .bf16)
    (h19 : a19.IsWhole) : KProg F PUnit := do
  headG a16 a17 a18 a19 h19 ![0, 0, 0, 0] inb_S2x8x1024x128_S1x1x1024x128_0_0_0_0 0
    inb_S1024x1024_S256x128_0_0 packedbf16_S1024x1024_S256x128_0_0
    inb_S1024x1024_S256x128_256_0 packedbf16_S1024x1024_S256x128_256_0
    inb_S1024x1024_S256x128_512_0 packedbf16_S1024x1024_S256x128_512_0
    inb_S1024x1024_S256x128_768_0 packedbf16_S1024x1024_S256x128_768_0
  headG a16 a17 a18 a19 h19 ![0, 1, 0, 0] inb_S2x8x1024x128_S1x1x1024x128_0_1_0_0 128
    inb_S1024x1024_S256x128_0_128 packedbf16_S1024x1024_S256x128_0_128
    inb_S1024x1024_S256x128_256_128 packedbf16_S1024x1024_S256x128_256_128
    inb_S1024x1024_S256x128_512_128 packedbf16_S1024x1024_S256x128_512_128
    inb_S1024x1024_S256x128_768_128 packedbf16_S1024x1024_S256x128_768_128
  headG a16 a17 a18 a19 h19 ![0, 2, 0, 0] inb_S2x8x1024x128_S1x1x1024x128_0_2_0_0 256
    inb_S1024x1024_S256x128_0_256 packedbf16_S1024x1024_S256x128_0_256
    inb_S1024x1024_S256x128_256_256 packedbf16_S1024x1024_S256x128_256_256
    inb_S1024x1024_S256x128_512_256 packedbf16_S1024x1024_S256x128_512_256
    inb_S1024x1024_S256x128_768_256 packedbf16_S1024x1024_S256x128_768_256
  headG a16 a17 a18 a19 h19 ![0, 3, 0, 0] inb_S2x8x1024x128_S1x1x1024x128_0_3_0_0 384
    inb_S1024x1024_S256x128_0_384 packedbf16_S1024x1024_S256x128_0_384
    inb_S1024x1024_S256x128_256_384 packedbf16_S1024x1024_S256x128_256_384
    inb_S1024x1024_S256x128_512_384 packedbf16_S1024x1024_S256x128_512_384
    inb_S1024x1024_S256x128_768_384 packedbf16_S1024x1024_S256x128_768_384

/-- Heads 4–7 of slot 0. -/
def heads0b (a16 a17 : Memref sig .tc .vmem S2x8x1024x128 .f32) (a18 a19 : Memref sig .tc .vmem S1024x1024 .bf16)
    (h19 : a19.IsWhole) : KProg F PUnit := do
  headG a16 a17 a18 a19 h19 ![0, 4, 0, 0] inb_S2x8x1024x128_S1x1x1024x128_0_4_0_0 512
    inb_S1024x1024_S256x128_0_512 packedbf16_S1024x1024_S256x128_0_512
    inb_S1024x1024_S256x128_256_512 packedbf16_S1024x1024_S256x128_256_512
    inb_S1024x1024_S256x128_512_512 packedbf16_S1024x1024_S256x128_512_512
    inb_S1024x1024_S256x128_768_512 packedbf16_S1024x1024_S256x128_768_512
  headG a16 a17 a18 a19 h19 ![0, 5, 0, 0] inb_S2x8x1024x128_S1x1x1024x128_0_5_0_0 640
    inb_S1024x1024_S256x128_0_640 packedbf16_S1024x1024_S256x128_0_640
    inb_S1024x1024_S256x128_256_640 packedbf16_S1024x1024_S256x128_256_640
    inb_S1024x1024_S256x128_512_640 packedbf16_S1024x1024_S256x128_512_640
    inb_S1024x1024_S256x128_768_640 packedbf16_S1024x1024_S256x128_768_640
  headG a16 a17 a18 a19 h19 ![0, 6, 0, 0] inb_S2x8x1024x128_S1x1x1024x128_0_6_0_0 768
    inb_S1024x1024_S256x128_0_768 packedbf16_S1024x1024_S256x128_0_768
    inb_S1024x1024_S256x128_256_768 packedbf16_S1024x1024_S256x128_256_768
    inb_S1024x1024_S256x128_512_768 packedbf16_S1024x1024_S256x128_512_768
    inb_S1024x1024_S256x128_768_768 packedbf16_S1024x1024_S256x128_768_768
  headG a16 a17 a18 a19 h19 ![0, 7, 0, 0] inb_S2x8x1024x128_S1x1x1024x128_0_7_0_0 896
    inb_S1024x1024_S256x128_0_896 packedbf16_S1024x1024_S256x128_0_896
    inb_S1024x1024_S256x128_256_896 packedbf16_S1024x1024_S256x128_256_896
    inb_S1024x1024_S256x128_512_896 packedbf16_S1024x1024_S256x128_512_896
    inb_S1024x1024_S256x128_768_896 packedbf16_S1024x1024_S256x128_768_896

def kvStart1 (a2 a3 : Memref sig .tc .hbm S4x1024x32x128 .f32) (a15 : DmaSems sig S2)
    (a16 a17 : Memref sig .tc .vmem S2x8x1024x128 .f32) (off : BitVec 32 → Fin 4 → ℕ)
    (hb : ∀ h : Fin 8, ∀ i, off (BitVec.ofNat 32 h.val) i + S1x1024x1x128.size i ≤ S4x1024x32x128.size i) : KProg F PUnit := do
  kvPair a2 a3 a16 a17 (SemArray.squeeze (s := S1) (a15.slice (Rect.unit (s := S2) ![1] S1.size inb_S2_S1_1)) S_ squeezes_S1_S_).sem (off 0#32) (hb 0) ![1, 0, 0, 0] inb_S2x8x1024x128_S1x1x1024x128_1_0_0_0
  kvPair a2 a3 a16 a17 (SemArray.squeeze (s := S1) (a15.slice (Rect.unit (s := S2) ![1] S1.size inb_S2_S1_1)) S_ squeezes_S1_S_).sem (off 1#32) (hb 1) ![1, 1, 0, 0] inb_S2x8x1024x128_S1x1x1024x128_1_1_0_0
  kvPair a2 a3 a16 a17 (SemArray.squeeze (s := S1) (a15.slice (Rect.unit (s := S2) ![1] S1.size inb_S2_S1_1)) S_ squeezes_S1_S_).sem (off 2#32) (hb 2) ![1, 2, 0, 0] inb_S2x8x1024x128_S1x1x1024x128_1_2_0_0
  kvPair a2 a3 a16 a17 (SemArray.squeeze (s := S1) (a15.slice (Rect.unit (s := S2) ![1] S1.size inb_S2_S1_1)) S_ squeezes_S1_S_).sem (off 3#32) (hb 3) ![1, 3, 0, 0] inb_S2x8x1024x128_S1x1x1024x128_1_3_0_0
  kvPair a2 a3 a16 a17 (SemArray.squeeze (s := S1) (a15.slice (Rect.unit (s := S2) ![1] S1.size inb_S2_S1_1)) S_ squeezes_S1_S_).sem (off 4#32) (hb 4) ![1, 4, 0, 0] inb_S2x8x1024x128_S1x1x1024x128_1_4_0_0
  kvPair a2 a3 a16 a17 (SemArray.squeeze (s := S1) (a15.slice (Rect.unit (s := S2) ![1] S1.size inb_S2_S1_1)) S_ squeezes_S1_S_).sem (off 5#32) (hb 5) ![1, 5, 0, 0] inb_S2x8x1024x128_S1x1x1024x128_1_5_0_0
  kvPair a2 a3 a16 a17 (SemArray.squeeze (s := S1) (a15.slice (Rect.unit (s := S2) ![1] S1.size inb_S2_S1_1)) S_ squeezes_S1_S_).sem (off 6#32) (hb 6) ![1, 6, 0, 0] inb_S2x8x1024x128_S1x1x1024x128_1_6_0_0
  kvPair a2 a3 a16 a17 (SemArray.squeeze (s := S1) (a15.slice (Rect.unit (s := S2) ![1] S1.size inb_S2_S1_1)) S_ squeezes_S1_S_).sem (off 7#32) (hb 7) ![1, 7, 0, 0] inb_S2x8x1024x128_S1x1x1024x128_1_7_0_0

/-- The copies of one group's keys and values in slot 1 are awaited. -/
def kvWait1 (a2 a3 : Memref sig .tc .hbm S4x1024x32x128 .f32) (a15 : DmaSems sig S2)
    (a16 a17 : Memref sig .tc .vmem S2x8x1024x128 .f32) (off : BitVec 32 → Fin 4 → ℕ)
    (hb : ∀ h : Fin 8, ∀ i, off (BitVec.ofNat 32 h.val) i + S1x1024x1x128.size i ≤ S4x1024x32x128.size i) : KProg F PUnit := do
  kvWaitPair a2 a3 a16 a17 (SemArray.squeeze (s := S1) (a15.slice (Rect.unit (s := S2) ![1] S1.size inb_S2_S1_1)) S_ squeezes_S1_S_).sem (off 0#32) (hb 0) ![1, 0, 0, 0] inb_S2x8x1024x128_S1x1x1024x128_1_0_0_0
  kvWaitPair a2 a3 a16 a17 (SemArray.squeeze (s := S1) (a15.slice (Rect.unit (s := S2) ![1] S1.size inb_S2_S1_1)) S_ squeezes_S1_S_).sem (off 1#32) (hb 1) ![1, 1, 0, 0] inb_S2x8x1024x128_S1x1x1024x128_1_1_0_0
  kvWaitPair a2 a3 a16 a17 (SemArray.squeeze (s := S1) (a15.slice (Rect.unit (s := S2) ![1] S1.size inb_S2_S1_1)) S_ squeezes_S1_S_).sem (off 2#32) (hb 2) ![1, 2, 0, 0] inb_S2x8x1024x128_S1x1x1024x128_1_2_0_0
  kvWaitPair a2 a3 a16 a17 (SemArray.squeeze (s := S1) (a15.slice (Rect.unit (s := S2) ![1] S1.size inb_S2_S1_1)) S_ squeezes_S1_S_).sem (off 3#32) (hb 3) ![1, 3, 0, 0] inb_S2x8x1024x128_S1x1x1024x128_1_3_0_0
  kvWaitPair a2 a3 a16 a17 (SemArray.squeeze (s := S1) (a15.slice (Rect.unit (s := S2) ![1] S1.size inb_S2_S1_1)) S_ squeezes_S1_S_).sem (off 4#32) (hb 4) ![1, 4, 0, 0] inb_S2x8x1024x128_S1x1x1024x128_1_4_0_0
  kvWaitPair a2 a3 a16 a17 (SemArray.squeeze (s := S1) (a15.slice (Rect.unit (s := S2) ![1] S1.size inb_S2_S1_1)) S_ squeezes_S1_S_).sem (off 5#32) (hb 5) ![1, 5, 0, 0] inb_S2x8x1024x128_S1x1x1024x128_1_5_0_0
  kvWaitPair a2 a3 a16 a17 (SemArray.squeeze (s := S1) (a15.slice (Rect.unit (s := S2) ![1] S1.size inb_S2_S1_1)) S_ squeezes_S1_S_).sem (off 6#32) (hb 6) ![1, 6, 0, 0] inb_S2x8x1024x128_S1x1x1024x128_1_6_0_0
  kvWaitPair a2 a3 a16 a17 (SemArray.squeeze (s := S1) (a15.slice (Rect.unit (s := S2) ![1] S1.size inb_S2_S1_1)) S_ squeezes_S1_S_).sem (off 7#32) (hb 7) ![1, 7, 0, 0] inb_S2x8x1024x128_S1x1x1024x128_1_7_0_0

/-- Heads 0–3 of slot 1. -/
def heads1a (a16 a17 : Memref sig .tc .vmem S2x8x1024x128 .f32) (a18 a19 : Memref sig .tc .vmem S1024x1024 .bf16)
    (h19 : a19.IsWhole) : KProg F PUnit := do
  headG a16 a17 a18 a19 h19 ![1, 0, 0, 0] inb_S2x8x1024x128_S1x1x1024x128_1_0_0_0 0
    inb_S1024x1024_S256x128_0_0 packedbf16_S1024x1024_S256x128_0_0
    inb_S1024x1024_S256x128_256_0 packedbf16_S1024x1024_S256x128_256_0
    inb_S1024x1024_S256x128_512_0 packedbf16_S1024x1024_S256x128_512_0
    inb_S1024x1024_S256x128_768_0 packedbf16_S1024x1024_S256x128_768_0
  headG a16 a17 a18 a19 h19 ![1, 1, 0, 0] inb_S2x8x1024x128_S1x1x1024x128_1_1_0_0 128
    inb_S1024x1024_S256x128_0_128 packedbf16_S1024x1024_S256x128_0_128
    inb_S1024x1024_S256x128_256_128 packedbf16_S1024x1024_S256x128_256_128
    inb_S1024x1024_S256x128_512_128 packedbf16_S1024x1024_S256x128_512_128
    inb_S1024x1024_S256x128_768_128 packedbf16_S1024x1024_S256x128_768_128
  headG a16 a17 a18 a19 h19 ![1, 2, 0, 0] inb_S2x8x1024x128_S1x1x1024x128_1_2_0_0 256
    inb_S1024x1024_S256x128_0_256 packedbf16_S1024x1024_S256x128_0_256
    inb_S1024x1024_S256x128_256_256 packedbf16_S1024x1024_S256x128_256_256
    inb_S1024x1024_S256x128_512_256 packedbf16_S1024x1024_S256x128_512_256
    inb_S1024x1024_S256x128_768_256 packedbf16_S1024x1024_S256x128_768_256
  headG a16 a17 a18 a19 h19 ![1, 3, 0, 0] inb_S2x8x1024x128_S1x1x1024x128_1_3_0_0 384
    inb_S1024x1024_S256x128_0_384 packedbf16_S1024x1024_S256x128_0_384
    inb_S1024x1024_S256x128_256_384 packedbf16_S1024x1024_S256x128_256_384
    inb_S1024x1024_S256x128_512_384 packedbf16_S1024x1024_S256x128_512_384
    inb_S1024x1024_S256x128_768_384 packedbf16_S1024x1024_S256x128_768_384

/-- Heads 4–7 of slot 1. -/
def heads1b (a16 a17 : Memref sig .tc .vmem S2x8x1024x128 .f32) (a18 a19 : Memref sig .tc .vmem S1024x1024 .bf16)
    (h19 : a19.IsWhole) : KProg F PUnit := do
  headG a16 a17 a18 a19 h19 ![1, 4, 0, 0] inb_S2x8x1024x128_S1x1x1024x128_1_4_0_0 512
    inb_S1024x1024_S256x128_0_512 packedbf16_S1024x1024_S256x128_0_512
    inb_S1024x1024_S256x128_256_512 packedbf16_S1024x1024_S256x128_256_512
    inb_S1024x1024_S256x128_512_512 packedbf16_S1024x1024_S256x128_512_512
    inb_S1024x1024_S256x128_768_512 packedbf16_S1024x1024_S256x128_768_512
  headG a16 a17 a18 a19 h19 ![1, 5, 0, 0] inb_S2x8x1024x128_S1x1x1024x128_1_5_0_0 640
    inb_S1024x1024_S256x128_0_640 packedbf16_S1024x1024_S256x128_0_640
    inb_S1024x1024_S256x128_256_640 packedbf16_S1024x1024_S256x128_256_640
    inb_S1024x1024_S256x128_512_640 packedbf16_S1024x1024_S256x128_512_640
    inb_S1024x1024_S256x128_768_640 packedbf16_S1024x1024_S256x128_768_640
  headG a16 a17 a18 a19 h19 ![1, 6, 0, 0] inb_S2x8x1024x128_S1x1x1024x128_1_6_0_0 768
    inb_S1024x1024_S256x128_0_768 packedbf16_S1024x1024_S256x128_0_768
    inb_S1024x1024_S256x128_256_768 packedbf16_S1024x1024_S256x128_256_768
    inb_S1024x1024_S256x128_512_768 packedbf16_S1024x1024_S256x128_512_768
    inb_S1024x1024_S256x128_768_768 packedbf16_S1024x1024_S256x128_768_768
  headG a16 a17 a18 a19 h19 ![1, 7, 0, 0] inb_S2x8x1024x128_S1x1x1024x128_1_7_0_0 896
    inb_S1024x1024_S256x128_0_896 packedbf16_S1024x1024_S256x128_0_896
    inb_S1024x1024_S256x128_256_896 packedbf16_S1024x1024_S256x128_256_896
    inb_S1024x1024_S256x128_512_896 packedbf16_S1024x1024_S256x128_512_896
    inb_S1024x1024_S256x128_768_896 packedbf16_S1024x1024_S256x128_768_896

/-- The first half of the query projection by the block `w`. -/
def proja (a20 : Memref sig .tc .vmem S1024x1024 .bf16) (w : Memref sig .tc .vmem S2x1024x1024 .bf16)
    (a18 : Memref sig .tc .vmem S1024x1024 .bf16) (h18 : a18.IsWhole) : KProg F PUnit :=
  projG a20 w a18 h18 ![0, 0, 0] inb_S2x1024x1024_S1x1024x512_0_0_0 ![0, 0]
    inb_S1024x1024_S1024x512_0_0 packedbf16_S1024x1024_S1024x512_0_0

/-- The second half of the query projection by the block `w`. -/
def projb (a20 : Memref sig .tc .vmem S1024x1024 .bf16) (w : Memref sig .tc .vmem S2x1024x1024 .bf16)
    (a18 : Memref sig .tc .vmem S1024x1024 .bf16) (h18 : a18.IsWhole) : KProg F PUnit :=
  projG a20 w a18 h18 ![0, 0, 512] inb_S2x1024x1024_S1x1024x512_0_0_512 ![0, 512]
    inb_S1024x1024_S1024x512_0_512 packedbf16_S1024x1024_S1024x512_0_512

/-- Both halves of the output block: stored. -/
def outSet2 (a5 : Memref sig .tc .vmem S1x1024x1024 .f32) (p p' : Vec F S1024x1024 .bf16 × Vec F S1x1024x512 .bf16) :
    KProg F PUnit := do
  outSetG a5 ![0, 0, 0] inb_S1x1024x1024_S1x1024x512_0_0_0 p.1 p.2
  outSetG a5 ![0, 0, 512] inb_S1x1024x1024_S1x1024x512_0_0_512 p'.1 p'.2

/-- Both halves of the output block: added to. -/
def outAdd2 (a5 : Memref sig .tc .vmem S1x1024x1024 .f32) (p p' : Vec F S1024x1024 .bf16 × Vec F S1x1024x512 .bf16) :
    KProg F PUnit := do
  outAddG a5 ![0, 0, 0] inb_S1x1024x1024_S1x1024x512_0_0_0 p.1 p.2
  outAddG a5 ![0, 0, 512] inb_S1x1024x1024_S1x1024x512_0_0_512 p'.1 p'.2

/-- The blocks rounded into the scratch. -/
def casts (d : Dev nD)
     (a0 : Memref sig .tc .vmem S1x1024x1024 .f32) (h0 : a0.IsWhole) (a1 : Memref sig .tc .vmem S1024x1024 .f32) (h1 :
    a1.IsWhole) (a2 : Memref sig .tc .hbm S4x1024x32x128 .f32) (h2 : a2.IsWhole) (a3 : Memref sig .tc .hbm S4x1024x32x128
    .f32) (h3 : a3.IsWhole) (a4 : Memref sig .tc .vmem S1024x1024 .f32) (h4 : a4.IsWhole) (a5 : Memref sig .tc .vmem
    S1x1024x1024 .f32) (h5 : a5.IsWhole) (a6 : Memref sig .tc .vmem S2x1024x1024 .bf16) (h6 : a6.IsWhole) (a7 : Memref sig
    .tc .vmem S2x1024x1024 .bf16) (h7 : a7.IsWhole) (a8 : Memref sig .tc .vmem S2x1024x1024 .bf16) (h8 : a8.IsWhole) (a9 :
    Memref sig .tc .vmem S2x1024x1024 .bf16) (h9 : a9.IsWhole) (a10 : DmaSems sig S8) (a11 : DmaSems sig S4) (a12 :
    DmaSems sig S4) (a13 : DmaSems sig S3) (a14 : DmaSems sig S3) (a15 : DmaSems sig S2) (a16 : Memref sig .tc .vmem
    S2x8x1024x128 .f32) (h16 : a16.IsWhole) (a17 : Memref sig .tc .vmem S2x8x1024x128 .f32) (h17 : a17.IsWhole) (a18 :
    Memref sig .tc .vmem S1024x1024 .bf16) (h18 : a18.IsWhole) (a19 : Memref sig .tc .vmem S1024x1024 .bf16) (h19 :
    a19.IsWhole) (a20 : Memref sig .tc .vmem S1024x1024 .bf16) (h20 : a20.IsWhole) : KProg F PUnit := do
  let w0 ← Prog.lift (.load a1 (Rect.unit (s := S1024x1024) ![0, 0] S1024x1024.size inb_S1024x1024_S1024x1024_0_0).toLoadRect (View.loadsAt_vmem h_S1024x1024))
  let _ ← Prog.lift (.load a9 (Rect.unit (s := S2x1024x1024) ![0, 0, 0] S1x1024x1024.size inb_S2x1024x1024_S1x1024x1024_0_0_0).toLoadRect (View.loadsAt_vmem h_S1x1024x1024))
  Prog.lift (.store a9 (Rect.unit (s := S2x1024x1024) ![0, 0, 0] S1x1024x1024.size inb_S2x1024x1024_S1x1024x1024_0_0_0) (ownVal w0) Finset.univ (View.stores_vmem h_S1x1024x1024 (h9.storeExact_slice rfl _ packedbf16_S2x1024x1024_S1x1024x1024_0_0_0) (fun _ => rfl)) (.inl rfl))
  let w1 ← Prog.lift (.load a4 (Rect.unit (s := S1024x1024) ![0, 0] S1024x1024.size inb_S1024x1024_S1024x1024_0_0).toLoadRect (View.loadsAt_vmem h_S1024x1024))
  let _ ← Prog.lift (.load a9 (Rect.unit (s := S2x1024x1024) ![1, 0, 0] S1x1024x1024.size inb_S2x1024x1024_S1x1024x1024_1_0_0).toLoadRect (View.loadsAt_vmem h_S1x1024x1024))
  Prog.lift (.store a9 (Rect.unit (s := S2x1024x1024) ![1, 0, 0] S1x1024x1024.size inb_S2x1024x1024_S1x1024x1024_1_0_0) (ownVal w1) Finset.univ (View.stores_vmem h_S1x1024x1024 (h9.storeExact_slice rfl _ packedbf16_S2x1024x1024_S1x1024x1024_1_0_0) (fun _ => rfl)) (.inl rfl))
  let x ← Prog.lift (.load a0 (Rect.unit (s := S1x1024x1024) ![0, 0, 0] S1x1024x1024.size inb_S1x1024x1024_S1x1024x1024_0_0_0).toLoadRect (View.loadsAt_vmem h_S1x1024x1024))
  let _ ← Prog.lift (.load a20 (Rect.unit (s := S1024x1024) ![0, 0] S1024x1024.size inb_S1024x1024_S1024x1024_0_0).toLoadRect (View.loadsAt_vmem h_S1024x1024))
  Prog.lift (.store a20 (Rect.unit (s := S1024x1024) ![0, 0] S1024x1024.size inb_S1024x1024_S1024x1024_0_0) (xVal x) Finset.univ (View.stores_vmem h_S1024x1024 (h20.storeExact_slice rfl _ packedbf16_S1024x1024_S1024x1024_0_0) (fun _ => rfl)) (.inl rfl))

/-- The barrier: both neighbours are told, both are heard. -/
def greet (d : Dev nD)
     (a0 : Memref sig .tc .vmem S1x1024x1024 .f32) (h0 : a0.IsWhole) (a1 : Memref sig .tc .vmem S1024x1024 .f32) (h1 :
    a1.IsWhole) (a2 : Memref sig .tc .hbm S4x1024x32x128 .f32) (h2 : a2.IsWhole) (a3 : Memref sig .tc .hbm S4x1024x32x128
    .f32) (h3 : a3.IsWhole) (a4 : Memref sig .tc .vmem S1024x1024 .f32) (h4 : a4.IsWhole) (a5 : Memref sig .tc .vmem
    S1x1024x1024 .f32) (h5 : a5.IsWhole) (a6 : Memref sig .tc .vmem S2x1024x1024 .bf16) (h6 : a6.IsWhole) (a7 : Memref sig
    .tc .vmem S2x1024x1024 .bf16) (h7 : a7.IsWhole) (a8 : Memref sig .tc .vmem S2x1024x1024 .bf16) (h8 : a8.IsWhole) (a9 :
    Memref sig .tc .vmem S2x1024x1024 .bf16) (h9 : a9.IsWhole) (a10 : DmaSems sig S8) (a11 : DmaSems sig S4) (a12 :
    DmaSems sig S4) (a13 : DmaSems sig S3) (a14 : DmaSems sig S3) (a15 : DmaSems sig S2) (a16 : Memref sig .tc .vmem
    S2x8x1024x128 .f32) (h16 : a16.IsWhole) (a17 : Memref sig .tc .vmem S2x8x1024x128 .f32) (h17 : a17.IsWhole) (a18 :
    Memref sig .tc .vmem S1024x1024 .bf16) (h18 : a18.IsWhole) (a19 : Memref sig .tc .vmem S1024x1024 .bf16) (h19 :
    a19.IsWhole) (a20 : Memref sig .tc .vmem S1024x1024 .bf16) (h20 : a20.IsWhole) : KProg F PUnit := do
  semSignalWord (⟨k0_dev1 d, k0_dev1_lt d⟩ : Dev nD) (SemArray.scalar (sig.barrier 0 rfl) : Sems sig S_).sem 1#32
  semSignalWord (⟨k0_dev2 d, k0_dev2_lt d⟩ : Dev nD) (SemArray.scalar (sig.barrier 0 rfl) : Sems sig S_).sem 1#32
  semWaitWord (SemArray.scalar (sig.barrier 0 rfl) : Sems sig S_).sem 2#32

/-- The own block to both neighbours, in four pieces each. -/
def hop1 (d : Dev nD)
     (a0 : Memref sig .tc .vmem S1x1024x1024 .f32) (h0 : a0.IsWhole) (a1 : Memref sig .tc .vmem S1024x1024 .f32) (h1 :
    a1.IsWhole) (a2 : Memref sig .tc .hbm S4x1024x32x128 .f32) (h2 : a2.IsWhole) (a3 : Memref sig .tc .hbm S4x1024x32x128
    .f32) (h3 : a3.IsWhole) (a4 : Memref sig .tc .vmem S1024x1024 .f32) (h4 : a4.IsWhole) (a5 : Memref sig .tc .vmem
    S1x1024x1024 .f32) (h5 : a5.IsWhole) (a6 : Memref sig .tc .vmem S2x1024x1024 .bf16) (h6 : a6.IsWhole) (a7 : Memref sig
    .tc .vmem S2x1024x1024 .bf16) (h7 : a7.IsWhole) (a8 : Memref sig .tc .vmem S2x1024x1024 .bf16) (h8 : a8.IsWhole) (a9 :
    Memref sig .tc .vmem S2x1024x1024 .bf16) (h9 : a9.IsWhole) (a10 : DmaSems sig S8) (a11 : DmaSems sig S4) (a12 :
    DmaSems sig S4) (a13 : DmaSems sig S3) (a14 : DmaSems sig S3) (a15 : DmaSems sig S2) (a16 : Memref sig .tc .vmem
    S2x8x1024x128 .f32) (h16 : a16.IsWhole) (a17 : Memref sig .tc .vmem S2x8x1024x128 .f32) (h17 : a17.IsWhole) (a18 :
    Memref sig .tc .vmem S1024x1024 .bf16) (h18 : a18.IsWhole) (a19 : Memref sig .tc .vmem S1024x1024 .bf16) (h19 :
    a19.IsWhole) (a20 : Memref sig .tc .vmem S1024x1024 .bf16) (h20 : a20.IsWhole) : KProg F PUnit := do
  sendOwnG a9 a6 h9 h6 ⟨k0_dev3 d, k0_dev3_lt d⟩ (SemArray.squeeze (s := S1) (a10.slice (Rect.unit (s := S8) ![0] S1.size inb_S8_S1_0)) S_ squeezes_S1_S_).sem (SemArray.squeeze (s := S1) (a11.slice (Rect.unit (s := S4) ![0] S1.size inb_S4_S1_0)) S_ squeezes_S1_S_).sem ![0, 0, 0] inb_S2x1024x1024_S1x1024x512_0_0_0 wordsbf16_S2x1024x1024_S1x1024x512_0_0_0
  sendOwnG a9 a6 h9 h6 ⟨k0_dev4 d, k0_dev4_lt d⟩ (SemArray.squeeze (s := S1) (a10.slice (Rect.unit (s := S8) ![1] S1.size inb_S8_S1_1)) S_ squeezes_S1_S_).sem (SemArray.squeeze (s := S1) (a11.slice (Rect.unit (s := S4) ![1] S1.size inb_S4_S1_1)) S_ squeezes_S1_S_).sem ![0, 0, 512] inb_S2x1024x1024_S1x1024x512_0_0_512 wordsbf16_S2x1024x1024_S1x1024x512_0_0_512
  sendOwnG a9 a6 h9 h6 ⟨k0_dev5 d, k0_dev5_lt d⟩ (SemArray.squeeze (s := S1) (a10.slice (Rect.unit (s := S8) ![2] S1.size inb_S8_S1_2)) S_ squeezes_S1_S_).sem (SemArray.squeeze (s := S1) (a11.slice (Rect.unit (s := S4) ![2] S1.size inb_S4_S1_2)) S_ squeezes_S1_S_).sem ![1, 0, 0] inb_S2x1024x1024_S1x1024x512_1_0_0 wordsbf16_S2x1024x1024_S1x1024x512_1_0_0
  sendOwnG a9 a6 h9 h6 ⟨k0_dev6 d, k0_dev6_lt d⟩ (SemArray.squeeze (s := S1) (a10.slice (Rect.unit (s := S8) ![3] S1.size inb_S8_S1_3)) S_ squeezes_S1_S_).sem (SemArray.squeeze (s := S1) (a11.slice (Rect.unit (s := S4) ![3] S1.size inb_S4_S1_3)) S_ squeezes_S1_S_).sem ![1, 0, 512] inb_S2x1024x1024_S1x1024x512_1_0_512 wordsbf16_S2x1024x1024_S1x1024x512_1_0_512
  sendOwnG a9 a7 h9 h7 ⟨k0_dev7 d, k0_dev7_lt d⟩ (SemArray.squeeze (s := S1) (a10.slice (Rect.unit (s := S8) ![4] S1.size inb_S8_S1_4)) S_ squeezes_S1_S_).sem (SemArray.squeeze (s := S1) (a12.slice (Rect.unit (s := S4) ![0] S1.size inb_S4_S1_0)) S_ squeezes_S1_S_).sem ![0, 0, 0] inb_S2x1024x1024_S1x1024x512_0_0_0 wordsbf16_S2x1024x1024_S1x1024x512_0_0_0
  sendOwnG a9 a7 h9 h7 ⟨k0_dev8 d, k0_dev8_lt d⟩ (SemArray.squeeze (s := S1) (a10.slice (Rect.unit (s := S8) ![5] S1.size inb_S8_S1_5)) S_ squeezes_S1_S_).sem (SemArray.squeeze (s := S1) (a12.slice (Rect.unit (s := S4) ![1] S1.size inb_S4_S1_1)) S_ squeezes_S1_S_).sem ![0, 0, 512] inb_S2x1024x1024_S1x1024x512_0_0_512 wordsbf16_S2x1024x1024_S1x1024x512_0_0_512
  sendOwnG a9 a7 h9 h7 ⟨k0_dev9 d, k0_dev9_lt d⟩ (SemArray.squeeze (s := S1) (a10.slice (Rect.unit (s := S8) ![6] S1.size inb_S8_S1_6)) S_ squeezes_S1_S_).sem (SemArray.squeeze (s := S1) (a12.slice (Rect.unit (s := S4) ![2] S1.size inb_S4_S1_2)) S_ squeezes_S1_S_).sem ![1, 0, 0] inb_S2x1024x1024_S1x1024x512_1_0_0 wordsbf16_S2x1024x1024_S1x1024x512_1_0_0
  sendOwnG a9 a7 h9 h7 ⟨k0_dev10 d, k0_dev10_lt d⟩ (SemArray.squeeze (s := S1) (a10.slice (Rect.unit (s := S8) ![7] S1.size inb_S8_S1_7)) S_ squeezes_S1_S_).sem (SemArray.squeeze (s := S1) (a12.slice (Rect.unit (s := S4) ![3] S1.size inb_S4_S1_3)) S_ squeezes_S1_S_).sem ![1, 0, 512] inb_S2x1024x1024_S1x1024x512_1_0_512 wordsbf16_S2x1024x1024_S1x1024x512_1_0_512

/-- The own group. -/
def stage0 (d : Dev nD)
     (a0 : Memref sig .tc .vmem S1x1024x1024 .f32) (h0 : a0.IsWhole) (a1 : Memref sig .tc .vmem S1024x1024 .f32) (h1 :
    a1.IsWhole) (a2 : Memref sig .tc .hbm S4x1024x32x128 .f32) (h2 : a2.IsWhole) (a3 : Memref sig .tc .hbm S4x1024x32x128
    .f32) (h3 : a3.IsWhole) (a4 : Memref sig .tc .vmem S1024x1024 .f32) (h4 : a4.IsWhole) (a5 : Memref sig .tc .vmem
    S1x1024x1024 .f32) (h5 : a5.IsWhole) (a6 : Memref sig .tc .vmem S2x1024x1024 .bf16) (h6 : a6.IsWhole) (a7 : Memref sig
    .tc .vmem S2x1024x1024 .bf16) (h7 : a7.IsWhole) (a8 : Memref sig .tc .vmem S2x1024x1024 .bf16) (h8 : a8.IsWhole) (a9 :
    Memref sig .tc .vmem S2x1024x1024 .bf16) (h9 : a9.IsWhole) (a10 : DmaSems sig S8) (a11 : DmaSems sig S4) (a12 :
    DmaSems sig S4) (a13 : DmaSems sig S3) (a14 : DmaSems sig S3) (a15 : DmaSems sig S2) (a16 : Memref sig .tc .vmem
    S2x8x1024x128 .f32) (h16 : a16.IsWhole) (a17 : Memref sig .tc .vmem S2x8x1024x128 .f32) (h17 : a17.IsWhole) (a18 :
    Memref sig .tc .vmem S1024x1024 .bf16) (h18 : a18.IsWhole) (a19 : Memref sig .tc .vmem S1024x1024 .bf16) (h19 :
    a19.IsWhole) (a20 : Memref sig .tc .vmem S1024x1024 .bf16) (h20 : a20.IsWhole) : KProg F PUnit := do
  kvStart1 a2 a3 a15 a16 a17 (k0_off1 d 3#32) (k0_off1_inb d 3)
  kvWait0 a2 a3 a15 a16 a17 (k0_off1 d 0#32) (k0_off1_inb d 0)
  proja a20 a9 a18 h18
  heads0a a16 a17 a18 a19 h19
  projb a20 a9 a18 h18
  heads0b a16 a17 a18 a19 h19
  let p ← outLoadG a19 a9 ![1, 0, 0] inb_S2x1024x1024_S1x1024x512_1_0_0
  let p' ← outLoadG a19 a9 ![1, 0, 512] inb_S2x1024x1024_S1x1024x512_1_0_512
  outSet2 a5 p p'

/-- The left neighbour's group; pieces travel on. -/
def stage1 (d : Dev nD)
     (a0 : Memref sig .tc .vmem S1x1024x1024 .f32) (h0 : a0.IsWhole) (a1 : Memref sig .tc .vmem S1024x1024 .f32) (h1 :
    a1.IsWhole) (a2 : Memref sig .tc .hbm S4x1024x32x128 .f32) (h2 : a2.IsWhole) (a3 : Memref sig .tc .hbm S4x1024x32x128
    .f32) (h3 : a3.IsWhole) (a4 : Memref sig .tc .vmem S1024x1024 .f32) (h4 : a4.IsWhole) (a5 : Memref sig .tc .vmem
    S1x1024x1024 .f32) (h5 : a5.IsWhole) (a6 : Memref sig .tc .vmem S2x1024x1024 .bf16) (h6 : a6.IsWhole) (a7 : Memref sig
    .tc .vmem S2x1024x1024 .bf16) (h7 : a7.IsWhole) (a8 : Memref sig .tc .vmem S2x1024x1024 .bf16) (h8 : a8.IsWhole) (a9 :
    Memref sig .tc .vmem S2x1024x1024 .bf16) (h9 : a9.IsWhole) (a10 : DmaSems sig S8) (a11 : DmaSems sig S4) (a12 :
    DmaSems sig S4) (a13 : DmaSems sig S3) (a14 : DmaSems sig S3) (a15 : DmaSems sig S2) (a16 : Memref sig .tc .vmem
    S2x8x1024x128 .f32) (h16 : a16.IsWhole) (a17 : Memref sig .tc .vmem S2x8x1024x128 .f32) (h17 : a17.IsWhole) (a18 :
    Memref sig .tc .vmem S1024x1024 .bf16) (h18 : a18.IsWhole) (a19 : Memref sig .tc .vmem S1024x1024 .bf16) (h19 :
    a19.IsWhole) (a20 : Memref sig .tc .vmem S1024x1024 .bf16) (h20 : a20.IsWhole) : KProg F PUnit := do
  kvStart0 a2 a3 a15 a16 a17 (k0_off1 d 1#32) (k0_off1_inb d 1)
  waitInG a9 a6 h9 h6 (SemArray.squeeze (s := S1) (a11.slice (Rect.unit (s := S4) ![0] S1.size inb_S4_S1_0)) S_ squeezes_S1_S_).sem ![0, 0, 0] inb_S2x1024x1024_S1x1024x512_0_0_0 wordsbf16_S2x1024x1024_S1x1024x512_0_0_0
  sendG a6 a8 h6 h8 ⟨k0_dev11 d, k0_dev11_lt d⟩ (SemArray.squeeze (s := S1) (a13.slice (Rect.unit (s := S3) ![0] S1.size inb_S3_S1_0)) S_ squeezes_S1_S_).sem (SemArray.squeeze (s := S1) (a14.slice (Rect.unit (s := S3) ![0] S1.size inb_S3_S1_0)) S_ squeezes_S1_S_).sem ![0, 0, 0] inb_S2x1024x1024_S1x1024x512_0_0_0 wordsbf16_S2x1024x1024_S1x1024x512_0_0_0
  kvWait1 a2 a3 a15 a16 a17 (k0_off1 d 3#32) (k0_off1_inb d 3)
  proja a20 a6 a18 h18
  heads1a a16 a17 a18 a19 h19
  waitInG a9 a6 h9 h6 (SemArray.squeeze (s := S1) (a11.slice (Rect.unit (s := S4) ![1] S1.size inb_S4_S1_1)) S_ squeezes_S1_S_).sem ![0, 0, 512] inb_S2x1024x1024_S1x1024x512_0_0_512 wordsbf16_S2x1024x1024_S1x1024x512_0_0_512
  sendG a6 a8 h6 h8 ⟨k0_dev12 d, k0_dev12_lt d⟩ (SemArray.squeeze (s := S1) (a13.slice (Rect.unit (s := S3) ![1] S1.size inb_S3_S1_1)) S_ squeezes_S1_S_).sem (SemArray.squeeze (s := S1) (a14.slice (Rect.unit (s := S3) ![1] S1.size inb_S3_S1_1)) S_ squeezes_S1_S_).sem ![0, 0, 512] inb_S2x1024x1024_S1x1024x512_0_0_512 wordsbf16_S2x1024x1024_S1x1024x512_0_0_512
  projb a20 a6 a18 h18
  heads1b a16 a17 a18 a19 h19
  waitInG a9 a6 h9 h6 (SemArray.squeeze (s := S1) (a11.slice (Rect.unit (s := S4) ![2] S1.size inb_S4_S1_2)) S_ squeezes_S1_S_).sem ![1, 0, 0] inb_S2x1024x1024_S1x1024x512_1_0_0 wordsbf16_S2x1024x1024_S1x1024x512_1_0_0
  let p ← outLoadG a19 a6 ![1, 0, 0] inb_S2x1024x1024_S1x1024x512_1_0_0
  waitInG a9 a6 h9 h6 (SemArray.squeeze (s := S1) (a11.slice (Rect.unit (s := S4) ![3] S1.size inb_S4_S1_3)) S_ squeezes_S1_S_).sem ![1, 0, 512] inb_S2x1024x1024_S1x1024x512_1_0_512 wordsbf16_S2x1024x1024_S1x1024x512_1_0_512
  waitInG a9 a7 h9 h7 (SemArray.squeeze (s := S1) (a12.slice (Rect.unit (s := S4) ![2] S1.size inb_S4_S1_2)) S_ squeezes_S1_S_).sem ![1, 0, 0] inb_S2x1024x1024_S1x1024x512_1_0_0 wordsbf16_S2x1024x1024_S1x1024x512_1_0_0
  waitInG a9 a7 h9 h7 (SemArray.squeeze (s := S1) (a12.slice (Rect.unit (s := S4) ![3] S1.size inb_S4_S1_3)) S_ squeezes_S1_S_).sem ![1, 0, 512] inb_S2x1024x1024_S1x1024x512_1_0_512 wordsbf16_S2x1024x1024_S1x1024x512_1_0_512
  sendFullG a7 a8 h7 h8 ⟨k0_dev13 d, k0_dev13_lt d⟩ (SemArray.squeeze (s := S1) (a13.slice (Rect.unit (s := S3) ![2] S1.size inb_S3_S1_2)) S_ squeezes_S1_S_).sem (SemArray.squeeze (s := S1) (a14.slice (Rect.unit (s := S3) ![2] S1.size inb_S3_S1_2)) S_ squeezes_S1_S_).sem ![1, 0, 0] inb_S2x1024x1024_S1x1024x1024_1_0_0 wordsbf16_S2x1024x1024_S1x1024x1024_1_0_0
  let p' ← outLoadG a19 a6 ![1, 0, 512] inb_S2x1024x1024_S1x1024x512_1_0_512
  outAdd2 a5 p p'

/-- The right neighbour's group. -/
def stage2 (d : Dev nD)
     (a0 : Memref sig .tc .vmem S1x1024x1024 .f32) (h0 : a0.IsWhole) (a1 : Memref sig .tc .vmem S1024x1024 .f32) (h1 :
    a1.IsWhole) (a2 : Memref sig .tc .hbm S4x1024x32x128 .f32) (h2 : a2.IsWhole) (a3 : Memref sig .tc .hbm S4x1024x32x128
    .f32) (h3 : a3.IsWhole) (a4 : Memref sig .tc .vmem S1024x1024 .f32) (h4 : a4.IsWhole) (a5 : Memref sig .tc .vmem
    S1x1024x1024 .f32) (h5 : a5.IsWhole) (a6 : Memref sig .tc .vmem S2x1024x1024 .bf16) (h6 : a6.IsWhole) (a7 : Memref sig
    .tc .vmem S2x1024x1024 .bf16) (h7 : a7.IsWhole) (a8 : Memref sig .tc .vmem S2x1024x1024 .bf16) (h8 : a8.IsWhole) (a9 :
    Memref sig .tc .vmem S2x1024x1024 .bf16) (h9 : a9.IsWhole) (a10 : DmaSems sig S8) (a11 : DmaSems sig S4) (a12 :
    DmaSems sig S4) (a13 : DmaSems sig S3) (a14 : DmaSems sig S3) (a15 : DmaSems sig S2) (a16 : Memref sig .tc .vmem
    S2x8x1024x128 .f32) (h16 : a16.IsWhole) (a17 : Memref sig .tc .vmem S2x8x1024x128 .f32) (h17 : a17.IsWhole) (a18 :
    Memref sig .tc .vmem S1024x1024 .bf16) (h18 : a18.IsWhole) (a19 : Memref sig .tc .vmem S1024x1024 .bf16) (h19 :
    a19.IsWhole) (a20 : Memref sig .tc .vmem S1024x1024 .bf16) (h20 : a20.IsWhole) : KProg F PUnit := do
  kvStart1 a2 a3 a15 a16 a17 (k0_off1 d 2#32) (k0_off1_inb d 2)
  waitInG a9 a7 h9 h7 (SemArray.squeeze (s := S1) (a12.slice (Rect.unit (s := S4) ![0] S1.size inb_S4_S1_0)) S_ squeezes_S1_S_).sem ![0, 0, 0] inb_S2x1024x1024_S1x1024x512_0_0_0 wordsbf16_S2x1024x1024_S1x1024x512_0_0_0
  kvWait0 a2 a3 a15 a16 a17 (k0_off1 d 1#32) (k0_off1_inb d 1)
  proja a20 a7 a18 h18
  heads0a a16 a17 a18 a19 h19
  waitInG a9 a7 h9 h7 (SemArray.squeeze (s := S1) (a12.slice (Rect.unit (s := S4) ![1] S1.size inb_S4_S1_1)) S_ squeezes_S1_S_).sem ![0, 0, 512] inb_S2x1024x1024_S1x1024x512_0_0_512 wordsbf16_S2x1024x1024_S1x1024x512_0_0_512
  projb a20 a7 a18 h18
  heads0b a16 a17 a18 a19 h19
  let p ← outLoadG a19 a7 ![1, 0, 0] inb_S2x1024x1024_S1x1024x512_1_0_0
  let p' ← outLoadG a19 a7 ![1, 0, 512] inb_S2x1024x1024_S1x1024x512_1_0_512
  outAdd2 a5 p p'

/-- The opposite device's group. -/
def stage3 (d : Dev nD)
     (a0 : Memref sig .tc .vmem S1x1024x1024 .f32) (h0 : a0.IsWhole) (a1 : Memref sig .tc .vmem S1024x1024 .f32) (h1 :
    a1.IsWhole) (a2 : Memref sig .tc .hbm S4x1024x32x128 .f32) (h2 : a2.IsWhole) (a3 : Memref sig .tc .hbm S4x1024x32x128
    .f32) (h3 : a3.IsWhole) (a4 : Memref sig .tc .vmem S1024x1024 .f32) (h4 : a4.IsWhole) (a5 : Memref sig .tc .vmem
    S1x1024x1024 .f32) (h5 : a5.IsWhole) (a6 : Memref sig .tc .vmem S2x1024x1024 .bf16) (h6 : a6.IsWhole) (a7 : Memref sig
    .tc .vmem S2x1024x1024 .bf16) (h7 : a7.IsWhole) (a8 : Memref sig .tc .vmem S2x1024x1024 .bf16) (h8 : a8.IsWhole) (a9 :
    Memref sig .tc .vmem S2x1024x1024 .bf16) (h9 : a9.IsWhole) (a10 : DmaSems sig S8) (a11 : DmaSems sig S4) (a12 :
    DmaSems sig S4) (a13 : DmaSems sig S3) (a14 : DmaSems sig S3) (a15 : DmaSems sig S2) (a16 : Memref sig .tc .vmem
    S2x8x1024x128 .f32) (h16 : a16.IsWhole) (a17 : Memref sig .tc .vmem S2x8x1024x128 .f32) (h17 : a17.IsWhole) (a18 :
    Memref sig .tc .vmem S1024x1024 .bf16) (h18 : a18.IsWhole) (a19 : Memref sig .tc .vmem S1024x1024 .bf16) (h19 :
    a19.IsWhole) (a20 : Memref sig .tc .vmem S1024x1024 .bf16) (h20 : a20.IsWhole) : KProg F PUnit := do
  waitG a6 a8 h6 h8 (SemArray.squeeze (s := S1) (a14.slice (Rect.unit (s := S3) ![0] S1.size inb_S3_S1_0)) S_ squeezes_S1_S_).sem ![0, 0, 0] inb_S2x1024x1024_S1x1024x512_0_0_0 wordsbf16_S2x1024x1024_S1x1024x512_0_0_0
  kvWait1 a2 a3 a15 a16 a17 (k0_off1 d 2#32) (k0_off1_inb d 2)
  proja a20 a8 a18 h18
  heads1a a16 a17 a18 a19 h19
  waitG a6 a8 h6 h8 (SemArray.squeeze (s := S1) (a14.slice (Rect.unit (s := S3) ![1] S1.size inb_S3_S1_1)) S_ squeezes_S1_S_).sem ![0, 0, 512] inb_S2x1024x1024_S1x1024x512_0_0_512 wordsbf16_S2x1024x1024_S1x1024x512_0_0_512
  projb a20 a8 a18 h18
  heads1b a16 a17 a18 a19 h19
  waitFullG a7 a8 h7 h8 (SemArray.squeeze (s := S1) (a14.slice (Rect.unit (s := S3) ![2] S1.size inb_S3_S1_2)) S_ squeezes_S1_S_).sem ![1, 0, 0] inb_S2x1024x1024_S1x1024x1024_1_0_0 wordsbf16_S2x1024x1024_S1x1024x1024_1_0_0
  let p ← outLoadG a19 a8 ![1, 0, 0] inb_S2x1024x1024_S1x1024x512_1_0_0
  let p' ← outLoadG a19 a8 ![1, 0, 512] inb_S2x1024x1024_S1x1024x512_1_0_512
  outAdd2 a5 p p'

/-- The sends are awaited. -/
def drain (d : Dev nD)
     (a0 : Memref sig .tc .vmem S1x1024x1024 .f32) (h0 : a0.IsWhole) (a1 : Memref sig .tc .vmem S1024x1024 .f32) (h1 :
    a1.IsWhole) (a2 : Memref sig .tc .hbm S4x1024x32x128 .f32) (h2 : a2.IsWhole) (a3 : Memref sig .tc .hbm S4x1024x32x128
    .f32) (h3 : a3.IsWhole) (a4 : Memref sig .tc .vmem S1024x1024 .f32) (h4 : a4.IsWhole) (a5 : Memref sig .tc .vmem
    S1x1024x1024 .f32) (h5 : a5.IsWhole) (a6 : Memref sig .tc .vmem S2x1024x1024 .bf16) (h6 : a6.IsWhole) (a7 : Memref sig
    .tc .vmem S2x1024x1024 .bf16) (h7 : a7.IsWhole) (a8 : Memref sig .tc .vmem S2x1024x1024 .bf16) (h8 : a8.IsWhole) (a9 :
    Memref sig .tc .vmem S2x1024x1024 .bf16) (h9 : a9.IsWhole) (a10 : DmaSems sig S8) (a11 : DmaSems sig S4) (a12 :
    DmaSems sig S4) (a13 : DmaSems sig S3) (a14 : DmaSems sig S3) (a15 : DmaSems sig S2) (a16 : Memref sig .tc .vmem
    S2x8x1024x128 .f32) (h16 : a16.IsWhole) (a17 : Memref sig .tc .vmem S2x8x1024x128 .f32) (h17 : a17.IsWhole) (a18 :
    Memref sig .tc .vmem S1024x1024 .bf16) (h18 : a18.IsWhole) (a19 : Memref sig .tc .vmem S1024x1024 .bf16) (h19 :
    a19.IsWhole) (a20 : Memref sig .tc .vmem S1024x1024 .bf16) (h20 : a20.IsWhole) : KProg F PUnit := do
  waitOwnG a6 a9 h6 h9 (SemArray.squeeze (s := S1) (a10.slice (Rect.unit (s := S8) ![0] S1.size inb_S8_S1_0)) S_ squeezes_S1_S_).sem ![0, 0, 0] inb_S2x1024x1024_S1x1024x512_0_0_0 wordsbf16_S2x1024x1024_S1x1024x512_0_0_0
  waitOwnG a6 a9 h6 h9 (SemArray.squeeze (s := S1) (a10.slice (Rect.unit (s := S8) ![1] S1.size inb_S8_S1_1)) S_ squeezes_S1_S_).sem ![0, 0, 512] inb_S2x1024x1024_S1x1024x512_0_0_512 wordsbf16_S2x1024x1024_S1x1024x512_0_0_512
  waitOwnG a6 a9 h6 h9 (SemArray.squeeze (s := S1) (a10.slice (Rect.unit (s := S8) ![2] S1.size inb_S8_S1_2)) S_ squeezes_S1_S_).sem ![1, 0, 0] inb_S2x1024x1024_S1x1024x512_1_0_0 wordsbf16_S2x1024x1024_S1x1024x512_1_0_0
  waitOwnG a6 a9 h6 h9 (SemArray.squeeze (s := S1) (a10.slice (Rect.unit (s := S8) ![3] S1.size inb_S8_S1_3)) S_ squeezes_S1_S_).sem ![1, 0, 512] inb_S2x1024x1024_S1x1024x512_1_0_512 wordsbf16_S2x1024x1024_S1x1024x512_1_0_512
  waitOwnG a7 a9 h7 h9 (SemArray.squeeze (s := S1) (a10.slice (Rect.unit (s := S8) ![4] S1.size inb_S8_S1_4)) S_ squeezes_S1_S_).sem ![0, 0, 0] inb_S2x1024x1024_S1x1024x512_0_0_0 wordsbf16_S2x1024x1024_S1x1024x512_0_0_0
  waitOwnG a7 a9 h7 h9 (SemArray.squeeze (s := S1) (a10.slice (Rect.unit (s := S8) ![5] S1.size inb_S8_S1_5)) S_ squeezes_S1_S_).sem ![0, 0, 512] inb_S2x1024x1024_S1x1024x512_0_0_512 wordsbf16_S2x1024x1024_S1x1024x512_0_0_512
  waitOwnG a7 a9 h7 h9 (SemArray.squeeze (s := S1) (a10.slice (Rect.unit (s := S8) ![6] S1.size inb_S8_S1_6)) S_ squeezes_S1_S_).sem ![1, 0, 0] inb_S2x1024x1024_S1x1024x512_1_0_0 wordsbf16_S2x1024x1024_S1x1024x512_1_0_0
  waitOwnG a7 a9 h7 h9 (SemArray.squeeze (s := S1) (a10.slice (Rect.unit (s := S8) ![7] S1.size inb_S8_S1_7)) S_ squeezes_S1_S_).sem ![1, 0, 512] inb_S2x1024x1024_S1x1024x512_1_0_512 wordsbf16_S2x1024x1024_S1x1024x512_1_0_512
  waitG a8 a6 h8 h6 (SemArray.squeeze (s := S1) (a13.slice (Rect.unit (s := S3) ![0] S1.size inb_S3_S1_0)) S_ squeezes_S1_S_).sem ![0, 0, 0] inb_S2x1024x1024_S1x1024x512_0_0_0 wordsbf16_S2x1024x1024_S1x1024x512_0_0_0
  waitG a8 a6 h8 h6 (SemArray.squeeze (s := S1) (a13.slice (Rect.unit (s := S3) ![1] S1.size inb_S3_S1_1)) S_ squeezes_S1_S_).sem ![0, 0, 512] inb_S2x1024x1024_S1x1024x512_0_0_512 wordsbf16_S2x1024x1024_S1x1024x512_0_0_512
  waitFullG a8 a7 h8 h7 (SemArray.squeeze (s := S1) (a13.slice (Rect.unit (s := S3) ![2] S1.size inb_S3_S1_2)) S_ squeezes_S1_S_).sem ![1, 0, 0] inb_S2x1024x1024_S1x1024x1024_1_0_0 wordsbf16_S2x1024x1024_S1x1024x1024_1_0_0

/-- The whole body. -/
def bodyG  (a0 : Memref sig .tc .vmem S1x1024x1024 .f32) (h0 : a0.IsWhole) (a1 : Memref sig .tc .vmem S1024x1024 .f32) (h1 :
    a1.IsWhole) (a2 : Memref sig .tc .hbm S4x1024x32x128 .f32) (h2 : a2.IsWhole) (a3 : Memref sig .tc .hbm S4x1024x32x128
    .f32) (h3 : a3.IsWhole) (a4 : Memref sig .tc .vmem S1024x1024 .f32) (h4 : a4.IsWhole) (a5 : Memref sig .tc .vmem
    S1x1024x1024 .f32) (h5 : a5.IsWhole) (a6 : Memref sig .tc .vmem S2x1024x1024 .bf16) (h6 : a6.IsWhole) (a7 : Memref sig
    .tc .vmem S2x1024x1024 .bf16) (h7 : a7.IsWhole) (a8 : Memref sig .tc .vmem S2x1024x1024 .bf16) (h8 : a8.IsWhole) (a9 :
    Memref sig .tc .vmem S2x1024x1024 .bf16) (h9 : a9.IsWhole) (a10 : DmaSems sig S8) (a11 : DmaSems sig S4) (a12 :
    DmaSems sig S4) (a13 : DmaSems sig S3) (a14 : DmaSems sig S3) (a15 : DmaSems sig S2) (a16 : Memref sig .tc .vmem
    S2x8x1024x128 .f32) (h16 : a16.IsWhole) (a17 : Memref sig .tc .vmem S2x8x1024x128 .f32) (h17 : a17.IsWhole) (a18 :
    Memref sig .tc .vmem S1024x1024 .bf16) (h18 : a18.IsWhole) (a19 : Memref sig .tc .vmem S1024x1024 .bf16) (h19 :
    a19.IsWhole) (a20 : Memref sig .tc .vmem S1024x1024 .bf16) (h20 : a20.IsWhole) : KProg F PUnit := do
  let d ← Prog.lift .deviceId
  kvStart0 a2 a3 a15 a16 a17 (k0_off1 d 0#32) (k0_off1_inb d 0)
  casts d a0 h0 a1 h1 a2 h2 a3 h3 a4 h4 a5 h5 a6 h6 a7 h7 a8 h8 a9 h9 a10 a11 a12 a13 a14 a15 a16 h16 a17 h17
    a18 h18 a19 h19 a20 h20
  greet d a0 h0 a1 h1 a2 h2 a3 h3 a4 h4 a5 h5 a6 h6 a7 h7 a8 h8 a9 h9 a10 a11 a12 a13 a14 a15 a16 h16 a17 h17
    a18 h18 a19 h19 a20 h20
  hop1 d a0 h0 a1 h1 a2 h2 a3 h3 a4 h4 a5 h5 a6 h6 a7 h7 a8 h8 a9 h9 a10 a11 a12 a13 a14 a15 a16 h16 a17 h17
    a18 h18 a19 h19 a20 h20
  stage0 d a0 h0 a1 h1 a2 h2 a3 h3 a4 h4 a5 h5 a6 h6 a7 h7 a8 h8 a9 h9 a10 a11 a12 a13 a14 a15 a16 h16 a17 h17
    a18 h18 a19 h19 a20 h20
  stage1 d a0 h0 a1 h1 a2 h2 a3 h3 a4 h4 a5 h5 a6 h6 a7 h7 a8 h8 a9 h9 a10 a11 a12 a13 a14 a15 a16 h16 a17 h17
    a18 h18 a19 h19 a20 h20
  stage2 d a0 h0 a1 h1 a2 h2 a3 h3 a4 h4 a5 h5 a6 h6 a7 h7 a8 h8 a9 h9 a10 a11 a12 a13 a14 a15 a16 h16 a17 h17
    a18 h18 a19 h19 a20 h20
  stage3 d a0 h0 a1 h1 a2 h2 a3 h3 a4 h4 a5 h5 a6 h6 a7 h7 a8 h8 a9 h9 a10 a11 a12 a13 a14 a15 a16 h16 a17 h17
    a18 h18 a19 h19 a20 h20
  drain d a0 h0 a1 h1 a2 h2 a3 h3 a4 h4 a5 h5 a6 h6 a7 h7 a8 h8 a9 h9 a10 a11 a12 a13 a14 a15 a16 h16 a17 h17
    a18 h18 a19 h19 a20 h20

  pure ⟨⟩

end Cert.KernelIdeal.Attn
-- ==== Proof.Local.lean ====
/-
  The local steps of the body as rules: loads and stores on the scratch and staging buffers, one chunk
  of a head, a whole head, half of a projection, half of an output block. Contents are followed as
  agreement with a target on the part already computed.
-/
module

public import proofs.«01_k».proof.Proof.Body
public import proofs.«01_k».proof.Proof.Gen.KernelIdeal.Launch
public import Idealize.ShloMosaic.Lib.Batch
public import Idealize.ShloMosaic.Lib.Pipeline.Launch
public import Idealize.ShloMosaic.Lib.Pipeline.Kit
public import Idealize.ShloMosaic.Lib.Tactic
public import Idealize.ShloMosaic.Lib.ValueIdx

@[expose] public section

noncomputable section

namespace Cert.KernelIdeal.Attn

open Cert.KernelIdeal Cert.KernelIdeal.Gen
open Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra -/

/-- The devices' cells: rounds whose duties are named by `Bool`. -/
abbrev UB : Type := URounds (GSem nD τ sig) Bool
/-- The pipeline's rounds, the devices' rounds, and the counters of the copies of the keys and values. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the devices' rounds live. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

/-- The weakest precondition of a device's program. -/
abbrev WP (c : Dev nD) {α : Type} (p : KProg F α) (Q : α → sProp 𝕄) : sProp 𝕄 :=
  wp frame (wpE (defs₀ (F := F)) 𝒱₀ (c : Thread nD τ) none) Set.univ p Q

theorem WP_bind (c : Dev nD) {α β : Type} (p : KProg F α) (k : α → KProg F β) (Q : β → sProp 𝕄) :
    WP c (p >>= k) Q = WP c p (fun a => WP c (k a) Q) := wp_bind _ _ _ p k Q

/-! ## Buffers -/

abbrev xM : Memref sig .tc .vmem S1x1024x1024 .f32 := Memref.whole cc0_stg0_0
abbrev wqM : Memref sig .tc .vmem S1024x1024 .f32 := Memref.whole cc0_stg1_0
abbrev kM : Memref sig .tc .hbm S4x1024x32x128 .f32 := Memref.whole main_arg2
abbrev vM : Memref sig .tc .hbm S4x1024x32x128 .f32 := Memref.whole main_arg3
abbrev woM : Memref sig .tc .vmem S1024x1024 .f32 := Memref.whole cc0_stg2_0
abbrev oM : Memref sig .tc .vmem S1x1024x1024 .f32 := Memref.whole cc0_stg3_0
abbrev clM : Memref sig .tc .vmem S2x1024x1024 .bf16 := Memref.whole cc0_scratch0
abbrev crM : Memref sig .tc .vmem S2x1024x1024 .bf16 := Memref.whole cc0_scratch1
abbrev c2M : Memref sig .tc .vmem S2x1024x1024 .bf16 := Memref.whole cc0_scratch2
abbrev ownM : Memref sig .tc .vmem S2x1024x1024 .bf16 := Memref.whole cc0_scratch3
abbrev ksM : Memref sig .tc .vmem S2x8x1024x128 .f32 := Memref.whole cc0_scratch10
abbrev vsM : Memref sig .tc .vmem S2x8x1024x128 .f32 := Memref.whole cc0_scratch11
abbrev qsM : Memref sig .tc .vmem S1024x1024 .bf16 := Memref.whole cc0_scratch12
abbrev cxM : Memref sig .tc .vmem S1024x1024 .bf16 := Memref.whole cc0_scratch13
abbrev xbM : Memref sig .tc .vmem S1024x1024 .bf16 := Memref.whole cc0_scratch14

/-- `f` is `T` where `D` says. -/
def Agree {s : Shape} {α : Type} (D : s.Idx → Prop) (f T : s.Idx → α) : Prop := ∀ i, D i → f i = T i

/-- A store of what `T` holds there extends the agreement by the rectangle stored to. -/
theorem agree_write {b : Ref sig .tc} (r : Rect b.ty.shape) {D D' : b.ty.shape.Idx → Prop} {f T : b.ty.Contents (Elt F)}
    {w : r.shape.Idx → Elt F b.ty.elt} (hf : Agree D f T) (hw : ∀ j, w j = T (r.emb j))
    (hD : ∀ i, D' i → D i ∨ i ∈ r.set) :
    Agree D' (((Memref.whole b).access r : View sig .tc _ _ _).write (Elt F) f w Finset.univ) T := by
  intro i hi
  by_cases h : i ∈ r.set
  · obtain ⟨j, -, rfl⟩ := Finset.mem_map.mp (show i ∈ Finset.univ.map r.emb from by rw [Rect.map_emb_univ]; exact h)
    have := View.write_emb_of_mem (v := ((Memref.whole b).access r : View sig .tc _ _ _)) (Val := Elt F) f w
      (M := Finset.univ) (x := j) (Finset.mem_univ _)
    exact this.trans (hw j)
  · rw [View.write_of_not_mem _ _ _ (by rw [View.setOn_univ, View.set_slice]; simpa using h)]
    exact hf i ((hD i hi).resolve_right h)

/-- A buffer held whole. -/
abbrev held (c : Dev nD) {sh : Shape} {e : EltTy} (M : Memref sig .tc .vmem sh e) (f : Buf (Elt F) (M.view.loc (c : Thread nD τ))) :
    sProp 𝕄 := M.view.loc (c : Thread nD τ) ↦{fullShare} f

/-! ## One chunk -/

theorem chunk_wp (c : Dev nD) (off : Fin 2 → ℕ) (hb : ∀ i, off i + S256x128.size i ≤ S1024x1024.size i)
    (hp : (Rect.unit (s := S1024x1024) off S256x128.size hb).PackedRows (EltTy.packing .bf16))
    (f : Vec F S256x128 .bf16 → FVec F S256x128 .bf16) (fq fc : S1024x1024.Idx → Elt F .bf16) (Q : PUnit → sProp 𝕄) :
    iprop(held c qsM fq ∗ held c cxM fc)
      ⊢ iprop(((held c qsM fq ∗ held c cxM
              ((cxM.access (Rect.unit (s := S1024x1024) off S256x128.size hb) : View sig .tc _ _ _).write (Elt F) fc
                (f (fun j => fq ((Rect.unit (s := S1024x1024) off S256x128.size hb).emb j))) Finset.univ)) -∗ Q ⟨⟩)
        -∗ WP c (chunkG qsM cxM (Memref.isWhole_whole _) off hb hp f) Q) := by
  unfold WP chunkG
  iintro ⟨Hq, Hc⟩ Hk
  simp only [Prog.lift, Prog.bind_op, Prog.bind_ret]
  sl_exec
  sl_step
  iapply Hk
  isplitl [Hq]
  · iexact Hq
  · iexact Hc

/-! ## One head -/

/-- The chunk of rows `n`. -/
def chunkF (n : ℕ) : FVec F S1024x128 .bf16 → FVec F S1024x128 .bf16 → Vec F S256x128 .bf16 → FVec F S256x128 .bf16 :=
  match n with
  | 0 => chunk0
  | 1 => chunk1
  | 2 => chunk2
  | _ => chunk3

/-- The chunk's queries: rows from `256 n`, columns from `128 h`. -/
def qSl (qT : S1024x1024.Idx → Elt F .bf16) (n : Fin 4) (h : Fin 8) : Vec F S256x128 .bf16 := fun j =>
  qT (ix2 (⟨256 * n.val + (j 0).val, by have := (j 0).isLt; have := n.isLt; simp at *; omega⟩ : Fin 1024)
    (⟨128 * h.val + (j 1).val, by have := (j 1).isLt; have := h.isLt; simp at *; omega⟩ : Fin 1024))

/-- The row chunk and the head an element of the context lies in. -/
def rowOf (i : S1024x1024.Idx) : Fin 4 := ⟨(i 0).val / 256, by have := (i 0).isLt; simp at *; omega⟩
def headOf (i : S1024x1024.Idx) : Fin 8 := ⟨(i 1).val / 128, by have := (i 1).isLt; simp at *; omega⟩

/-- A group's context, from the keys and values of its heads and its queries. -/
def cxT (kT vT : Fin 8 → Vec F S1x1x1024x128 .f32) (qT : S1024x1024.Idx → Elt F .bf16) : S1024x1024.Idx → Elt F .bf16 := fun i =>
  chunkF (rowOf i).val (kvVal (kT (headOf i))) (kvVal (vT (headOf i))) (qSl qT (rowOf i) (headOf i))
    (ix2 (⟨(i 0).val % 256, Nat.mod_lt _ (by decide)⟩ : Fin 256) (⟨(i 1).val % 128, Nat.mod_lt _ (by decide)⟩ : Fin 128))

/-- The first `n` chunks, head by head. -/
def Done (n : ℕ) (i : S1024x1024.Idx) : Prop := 4 * ((i 1).val / 128) + (i 0).val / 256 < n

theorem chunk_agree (kT vT : Fin 8 → Vec F S1x1x1024x128 .f32) (qT fq fc : S1024x1024.Idx → Elt F .bf16) (h : Fin 8) (n : Fin 4)
    (off : Fin 2 → ℕ) (hb : ∀ i, off i + S256x128.size i ≤ S1024x1024.size i) (ho : off = ![256 * n.val, 128 * h.val])
    (hq : Agree (fun i => (i 1).val / 128 = h.val) fq qT) (hc : Agree (Done (4 * h.val + n.val)) fc (cxT kT vT qT)) :
    Agree (Done (4 * h.val + n.val + 1))
      ((cxM.access (Rect.unit (s := S1024x1024) off S256x128.size hb) : View sig .tc _ _ _).write (Elt F) fc
        (chunkF n.val (kvVal (kT h)) (kvVal (vT h)) (fun j => fq ((Rect.unit (s := S1024x1024) off S256x128.size hb).emb j))) Finset.univ)
      (cxT kT vT qT) := by
  subst ho
  have hn := n.isLt
  have hh := h.isLt
  refine agree_write (b := cc0_scratch13) _ hc (fun j => ?_) fun i hi => ?_
  · have h0 : (j 0).val < 256 := (j 0).isLt
    have h1 : (j 1).val < 128 := (j 1).isLt
    have e0 : (((Rect.unit (s := S1024x1024) ![256 * n.val, 128 * h.val] S256x128.size hb).emb j) 0).val = 256 * n.val + (j 0).val := by
      rw [Rect.emb_apply]; simp
    have e1 : (((Rect.unit (s := S1024x1024) ![256 * n.val, 128 * h.val] S256x128.size hb).emb j) 1).val = 128 * h.val + (j 1).val := by
      rw [Rect.emb_apply]; simp
    have r0 : rowOf ((Rect.unit (s := S1024x1024) ![256 * n.val, 128 * h.val] S256x128.size hb).emb j) = n :=
      Fin.ext (by show _ / 256 = _; rw [e0]; omega)
    have r1 : headOf ((Rect.unit (s := S1024x1024) ![256 * n.val, 128 * h.val] S256x128.size hb).emb j) = h :=
      Fin.ext (by show _ / 128 = _; rw [e1]; omega)
    show _ = chunkF _ _ _ _ _
    rw [r0, r1]
    have hs : (fun j => fq ((Rect.unit (s := S1024x1024) ![256 * n.val, 128 * h.val] S256x128.size hb).emb j)) = qSl qT n h := by
      funext y
      have hy : (y 1).val < 128 := (y 1).isLt
      have y0 : (((Rect.unit (s := S1024x1024) ![256 * n.val, 128 * h.val] S256x128.size hb).emb y) 0).val = 256 * n.val + (y 0).val := by
        rw [Rect.emb_apply]; simp
      have y1 : (((Rect.unit (s := S1024x1024) ![256 * n.val, 128 * h.val] S256x128.size hb).emb y) 1).val = 128 * h.val + (y 1).val := by
        rw [Rect.emb_apply]; simp
      refine (hq _ (by show _ / 128 = _; rw [y1]; omega)).trans (congrArg qT ?_)
      funext a; refine Fin.ext ?_
      match a with
      | ⟨0, _⟩ => exact y0
      | ⟨1, _⟩ => exact y1
    refine (congrArg (fun q => chunkF n.val (kvVal (kT h)) (kvVal (vT h)) q j) hs).trans ?_
    congr 1
    funext a; refine Fin.ext ?_
    match a with
    | ⟨0, _⟩ => show (j 0).val = _ % 256; rw [e0]; omega
    | ⟨1, _⟩ => show (j 1).val = _ % 128; rw [e1]; omega
  · have i0 : (i 0).val < 1024 := (i 0).isLt
    have i1 : (i 1).val < 1024 := (i 1).isLt
    by_cases hd : Done (4 * h.val + n.val) i
    · exact Or.inl hd
    · refine Or.inr (Rect.mem_set_unit.2 fun a => ?_)
      unfold Done at hi hd
      match a with
      | ⟨0, _⟩ => show 256 * n.val ≤ (i 0).val ∧ (i 0).val < 256 * n.val + 256; omega
      | ⟨1, _⟩ => show 128 * h.val ≤ (i 1).val ∧ (i 1).val < 128 * h.val + 128; omega

/-- Where a head's keys (or values) lie in the scratch. -/
abbrev rKV (s : Fin 2) (h : Fin 8) : Rect S2x8x1024x128 :=
  Rect.unit (s := S2x8x1024x128) ![s.val, h.val, 0, 0] S1x1x1024x128.size
    ((by decide : ∀ (s : Fin 2) (h : Fin 8) i, (![s.val, h.val, 0, 0] : Fin 4 → ℕ) i + S1x1x1024x128.size i ≤ S2x8x1024x128.size i) s h)

/-- A head's place in the scratch, holding `T`. -/
def kvReg (c : Dev nD) (M : Memref sig .tc .vmem S2x8x1024x128 .f32) (s : Fin 2) (h : Fin 8) (T : Vec F S1x1x1024x128 .f32) : sProp 𝕄 :=
  iprop(∃ f : Buf (Elt F) ((M.access (rKV s h)).loc (c : Thread nD τ)), ⌜(M.access (rKV s h)).read (Elt F) f = T⌝
    ∗ ((M.access (rKV s h)).loc (c : Thread nD τ) ↦[(M.access (rKV s h)).set]{fullShare} f))

/-- Both places of a head. -/
def kvHeld (c : Dev nD) (s : Fin 2) (h : Fin 8) (kT vT : Fin 8 → Vec F S1x1x1024x128 .f32) : sProp 𝕄 :=
  iprop(kvReg c ksM s h (kT h) ∗ kvReg c vsM s h (vT h))

/-- The queries computed for the heads below `n`; the context computed for the first `m` chunks. -/
def qHeld (c : Dev nD) (D : S1024x1024.Idx → Prop) (qT : S1024x1024.Idx → Elt F .bf16) : sProp 𝕄 :=
  iprop(∃ f, ⌜Agree D f qT⌝ ∗ held c qsM f)
def cxHeld (c : Dev nD) (D : S1024x1024.Idx → Prop) (T : S1024x1024.Idx → Elt F .bf16) : sProp 𝕄 :=
  iprop(∃ f, ⌜Agree D f T⌝ ∗ held c cxM f)

theorem head_wp (c : Dev nD) (s : Fin 2) (h : Fin 8) (kT vT : Fin 8 → Vec F S1x1x1024x128 .f32) (qT : S1024x1024.Idx → Elt F .bf16)
    (D : S1024x1024.Idx → Prop) (hD : ∀ i, (i 1).val / 128 = h.val → D i)
    (off : Fin 4 → ℕ) (hb : ∀ i, off i + S1x1x1024x128.size i ≤ S2x8x1024x128.size i) (co : ℕ)
    (hb0 : ∀ i, (![0, co] : Fin 2 → ℕ) i + S256x128.size i ≤ S1024x1024.size i)
    (hp0 : (Rect.unit (s := S1024x1024) ![0, co] S256x128.size hb0).PackedRows (EltTy.packing .bf16))
    (hb1 : ∀ i, (![256, co] : Fin 2 → ℕ) i + S256x128.size i ≤ S1024x1024.size i)
    (hp1 : (Rect.unit (s := S1024x1024) ![256, co] S256x128.size hb1).PackedRows (EltTy.packing .bf16))
    (hb2 : ∀ i, (![512, co] : Fin 2 → ℕ) i + S256x128.size i ≤ S1024x1024.size i)
    (hp2 : (Rect.unit (s := S1024x1024) ![512, co] S256x128.size hb2).PackedRows (EltTy.packing .bf16))
    (hb3 : ∀ i, (![768, co] : Fin 2 → ℕ) i + S256x128.size i ≤ S1024x1024.size i)
    (hp3 : (Rect.unit (s := S1024x1024) ![768, co] S256x128.size hb3).PackedRows (EltTy.packing .bf16))
    (ho : off = ![s.val, h.val, 0, 0]) (hco : co = 128 * h.val) (Q : PUnit → sProp 𝕄) :
    iprop(kvHeld c s h kT vT ∗ qHeld c D qT ∗ cxHeld c (Done (4 * h.val)) (cxT kT vT qT))
      ⊢ iprop(((kvHeld c s h kT vT ∗ qHeld c D qT ∗ cxHeld c (Done (4 * (h.val + 1))) (cxT kT vT qT)) -∗ Q ⟨⟩)
        -∗ WP c (headG ksM vsM qsM cxM (Memref.isWhole_whole _) off hb co hb0 hp0 hb1 hp1 hb2 hp2 hb3 hp3) Q) := by
  subst ho hco
  unfold headG kvHeld kvReg qHeld cxHeld
  iintro ⟨⟨⟨%fk, %hk, Hk⟩, ⟨%fv, %hv, Hv⟩⟩, ⟨%fq, %hq, Hq⟩, ⟨%fc, %hc, Hc⟩⟩ HQ
  have hq' : Agree (fun i => (i 1).val / 128 = h.val) fq qT := fun i hi => hq i (hD i hi)
  simp only [Prog.lift, Prog.bind_op, Prog.bind_ret]
  iapply (wp_load_rect 𝒱₀ (c : Thread nD τ) none Set.univ (m := ksM) (r := rKV s h) (f := fk) (q := fullShare)
    (S := (ksM.access (rKV s h)).set) (Finset.Subset.refl _)) $$ Hk
  iintro Hk
  iapply (wp_load_rect 𝒱₀ (c : Thread nD τ) none Set.univ (m := vsM) (r := rKV s h) (f := fv) (q := fullShare)
    (S := (vsM.access (rKV s h)).set) (Finset.Subset.refl _)) $$ Hv
  iintro Hv
  rw [hk, hv]
  rw [wp_bind]
  iapply (chunk_wp c _ _ _ (chunkF 0 (kvVal (kT h)) (kvVal (vT h))) fq fc _) $$ [Hq Hc]
  · isplitl [Hq] <;> iassumption
  iintro ⟨Hq, Hc⟩
  have hc := chunk_agree kT vT qT fq fc h 0 _ hb0 rfl hq' hc
  rw [wp_bind]
  iapply (chunk_wp c _ _ _ (chunkF 1 (kvVal (kT h)) (kvVal (vT h))) fq _ _) $$ [Hq Hc]
  · isplitl [Hq] <;> iassumption
  iintro ⟨Hq, Hc⟩
  have hc := chunk_agree kT vT qT fq _ h 1 _ hb1 rfl hq' hc
  rw [wp_bind]
  iapply (chunk_wp c _ _ _ (chunkF 2 (kvVal (kT h)) (kvVal (vT h))) fq _ _) $$ [Hq Hc]
  · isplitl [Hq] <;> iassumption
  iintro ⟨Hq, Hc⟩
  have hc := chunk_agree kT vT qT fq _ h 2 _ hb2 rfl hq' hc
  iapply (chunk_wp c _ _ _ (chunkF 3 (kvVal (kT h)) (kvVal (vT h))) fq _ _) $$ [Hq Hc]
  · isplitl [Hq] <;> iassumption
  iintro ⟨Hq, Hc⟩
  have hc := chunk_agree kT vT qT fq _ h 3 _ hb3 rfl hq' hc
  iapply HQ
  isplitl [Hk Hv]
  · isplitl [Hk]
    · iexists fk; isplitr
      · ipureintro; exact hk
      · iexact Hk
    · iexists fv; isplitr
      · ipureintro; exact hv
      · iexact Hv
  isplitl [Hq]
  · iexists fq; isplitr
    · ipureintro; exact hq
    · iexact Hq
  · iexists _; isplitr
    · ipureintro; exact hc
    · iexact Hc

/-! ## The projections -/

/-- Half `b` of block `a` of a weight buffer. -/
abbrev rW (a b : Fin 2) : Rect S2x1024x1024 :=
  Rect.unit (s := S2x1024x1024) ![a.val, 0, 512 * b.val] S1x1024x512.size
    ((by decide : ∀ (a b : Fin 2) i, (![a.val, 0, 512 * b.val] : Fin 3 → ℕ) i + S1x1024x512.size i ≤ S2x1024x1024.size i) a b)

/-- The half columns `b` of a square buffer, and of the output block. -/
abbrev rQ (b : Fin 2) : Rect S1024x1024 :=
  Rect.unit (s := S1024x1024) ![0, 512 * b.val] S1024x512.size
    ((by decide : ∀ (b : Fin 2) i, (![0, 512 * b.val] : Fin 2 → ℕ) i + S1024x512.size i ≤ S1024x1024.size i) b)
abbrev rO (b : Fin 2) : Rect S1x1024x1024 :=
  Rect.unit (s := S1x1024x1024) ![0, 0, 512 * b.val] S1x1024x512.size
    ((by decide : ∀ (b : Fin 2) i, (![0, 0, 512 * b.val] : Fin 3 → ℕ) i + S1x1024x512.size i ≤ S1x1024x1024.size i) b)

/-- Half `b` of block `a` of the weights `W`. -/
def wSl (W : S2x1024x1024.Idx → Elt F .bf16) (a b : Fin 2) : Vec F S1x1024x512 .bf16 := fun j => W ((rW a b).emb j)

/-- The half an element lies in. -/
def halfOf (i : S1024x1024.Idx) : Fin 2 := ⟨(i 1).val / 512, by have := (i 1).isLt; simp at *; omega⟩
def halfOfO (i : S1x1024x1024.Idx) : Fin 2 := ⟨(i 2).val / 512, by have := (i 2).isLt; simp at *; omega⟩

/-- The scaled queries of a group. -/
def qTgt (x : Vec F S1024x1024 .bf16) (W : S2x1024x1024.Idx → Elt F .bf16) : S1024x1024.Idx → Elt F .bf16 := fun i =>
  qVal x (wSl W 0 (halfOf i)) (ix2 (⟨(i 0).val, (i 0).isLt⟩ : Fin 1024) (⟨(i 1).val % 512, Nat.mod_lt _ (by decide)⟩ : Fin 512))

/-- The output block after the first group, and after a later one. -/
def oTgt0 (cx : Vec F S1024x1024 .bf16) (W : S2x1024x1024.Idx → Elt F .bf16) : S1x1024x1024.Idx → Elt F .f32 := fun i =>
  oSet cx (wSl W 1 (halfOfO i)) (ix3 (0 : Fin 1) (⟨(i 1).val, (i 1).isLt⟩ : Fin 1024) (⟨(i 2).val % 512, Nat.mod_lt _ (by decide)⟩ : Fin 512))
def oTgt (cx : Vec F S1024x1024 .bf16) (W : S2x1024x1024.Idx → Elt F .bf16) (o : S1x1024x1024.Idx → Elt F .f32) :
    S1x1024x1024.Idx → Elt F .f32 := fun i =>
  oAdd cx (wSl W 1 (halfOfO i)) (fun j => o ((rO (halfOfO i)).emb j))
    (ix3 (0 : Fin 1) (⟨(i 1).val, (i 1).isLt⟩ : Fin 1024) (⟨(i 2).val % 512, Nat.mod_lt _ (by decide)⟩ : Fin 512))

/-- The columns of the halves below `n`. -/
def Cols (n : ℕ) (i : S1024x1024.Idx) : Prop := (i 1).val / 512 < n
def ColsO (n : ℕ) (i : S1x1024x1024.Idx) : Prop := (i 2).val / 512 < n

theorem q_agree (x : Vec F S1024x1024 .bf16) (W : S2x1024x1024.Idx → Elt F .bf16) (fq : S1024x1024.Idx → Elt F .bf16) (b : Fin 2)
    (hq : Agree (Cols b.val) fq (qTgt x W)) :
    Agree (Cols (b.val + 1)) ((qsM.access (rQ b) : View sig .tc _ _ _).write (Elt F) fq (qVal x (wSl W 0 b)) Finset.univ) (qTgt x W) := by
  have hb := b.isLt
  refine agree_write (b := cc0_scratch12) (rQ b) hq (fun j => ?_) fun i hi => ?_
  · have h0 : (j 0).val < 1024 := (j 0).isLt
    have h1 : (j 1).val < 512 := (j 1).isLt
    have e0 : (((rQ b).emb j) 0).val = (j 0).val := by rw [Rect.emb_apply]; simp
    have e1 : (((rQ b).emb j) 1).val = 512 * b.val + (j 1).val := by rw [Rect.emb_apply]; simp
    have r1 : halfOf ((rQ b).emb j) = b := Fin.ext (by show _ / 512 = _; rw [e1]; omega)
    show _ = qVal _ _ _
    rw [r1]
    congr 1
    funext a; refine Fin.ext ?_
    match a with
    | ⟨0, _⟩ => exact e0.symm
    | ⟨1, _⟩ => show (j 1).val = _ % 512; rw [e1]; omega
  · have i0 : (i 0).val < 1024 := (i 0).isLt
    have i1 : (i 1).val < 1024 := (i 1).isLt
    by_cases hd : Cols b.val i
    · exact Or.inl hd
    · refine Or.inr (Rect.mem_set_unit.2 fun a => ?_)
      unfold Cols at hi hd
      match a with
      | ⟨0, _⟩ => show 0 ≤ (i 0).val ∧ (i 0).val < 0 + 1024; omega
      | ⟨1, _⟩ => show 512 * b.val ≤ (i 1).val ∧ (i 1).val < 512 * b.val + 512; omega

/-- Part of a weight buffer, at a share. -/
abbrev wHeld (c : Dev nD) (M : Memref sig .tc .vmem S2x1024x1024 .bf16) (S : Finset (Idx (M.view.loc (c : Thread nD τ))))
    (q : PosShare TreeShare) (f : Buf (Elt F) (M.view.loc (c : Thread nD τ))) : sProp 𝕄 :=
  M.view.loc (c : Thread nD τ) ↦[S]{q} f

theorem z2 : (![0, 0] : Fin 2 → Nat) = fun _ => 0 := funext fun a => by fin_cases a <;> rfl

theorem proj_wp (c : Dev nD) (M : Memref sig .tc .vmem S2x1024x1024 .bf16) (S : Finset (Idx (M.view.loc (c : Thread nD τ))))
    (q : PosShare TreeShare) (f : Buf (Elt F) (M.view.loc (c : Thread nD τ))) (x : Vec F S1024x1024 .bf16)
    (W : S2x1024x1024.Idx → Elt F .bf16) (b : Fin 2)
    (hS : (M.access (rW 0 b)).set ⊆ S) (hf : (M.access (rW 0 b)).read (Elt F) f = wSl W 0 b)
    (off : Fin 3 → ℕ) (hb : ∀ i, off i + S1x1024x512.size i ≤ S2x1024x1024.size i) (off' : Fin 2 → ℕ)
    (hb' : ∀ i, off' i + S1024x512.size i ≤ S1024x1024.size i)
    (hp : (Rect.unit (s := S1024x1024) off' S1024x512.size hb').PackedRows (EltTy.packing .bf16))
    (ho : off = ![0, 0, 512 * b.val]) (ho' : off' = ![0, 512 * b.val]) (Q : PUnit → sProp 𝕄) :
    iprop(held c xbM x ∗ wHeld c M S q f ∗ qHeld c (Cols b.val) (qTgt x W))
      ⊢ iprop(((held c xbM x ∗ wHeld c M S q f ∗ qHeld c (Cols (b.val + 1)) (qTgt x W)) -∗ Q ⟨⟩)
        -∗ WP c (projG xbM M qsM (Memref.isWhole_whole _) off hb off' hb' hp) Q) := by
  subst ho ho'
  unfold projG qHeld
  iintro ⟨Hx, Hw, ⟨%fq, %hq, Hq⟩⟩ HQ
  simp only [Prog.lift, Prog.bind_op, Prog.bind_ret]
  iapply (wp_load_rect 𝒱₀ (c : Thread nD τ) none Set.univ (m := xbM) (r := Rect.unit (s := S1024x1024) ![0, 0] S1024x1024.size Gen.inb_S1024x1024_S1024x1024_0_0)
    (f := x) (q := fullShare) (S := Finset.univ) (Finset.subset_univ _)) $$ Hx
  iintro Hx
  iapply (wp_load_rect 𝒱₀ (c : Thread nD τ) none Set.univ (m := M) (r := rW 0 b) (f := f) (q := q) (S := S) hS) $$ Hw
  iintro Hw
  iapply (wp_load_rect 𝒱₀ (c : Thread nD τ) none Set.univ (m := qsM) (r := rQ b) (f := fq) (q := fullShare) (S := Finset.univ) (Finset.subset_univ _)) $$ Hq
  iintro Hq
  iapply (wp_store 𝒱₀ (c : Thread nD τ) none Set.univ (m := qsM) (r := rQ b) (f := fq) (S := Finset.univ) (Finset.subset_univ _)) $$ Hq
  iintro Hq
  have hx : (xbM.access (Rect.unit (s := S1024x1024) ![0, 0] S1024x1024.size Gen.inb_S1024x1024_S1024x1024_0_0) : View sig .tc _ _ _).read (Elt F) x = x :=
    Memref.read_access_unit_zero (Elt F) cc0_scratch14 z2 _ x
  rw [hx, hf]
  have hq := q_agree x W fq b hq
  rw [wp_ret]
  imodintro
  iapply HQ
  isplitl [Hx]; · iexact Hx
  isplitl [Hw]; · iexact Hw
  iexists _; isplitr
  · ipureintro; exact hq
  · iexact Hq

theorem outLoad_wp (c : Dev nD) (M : Memref sig .tc .vmem S2x1024x1024 .bf16) (S : Finset (Idx (M.view.loc (c : Thread nD τ))))
    (q : PosShare TreeShare) (f : Buf (Elt F) (M.view.loc (c : Thread nD τ))) (cx : Vec F S1024x1024 .bf16)
    (W : S2x1024x1024.Idx → Elt F .bf16) (b : Fin 2)
    (hS : (M.access (rW 1 b)).set ⊆ S) (hf : (M.access (rW 1 b)).read (Elt F) f = wSl W 1 b)
    (off : Fin 3 → ℕ) (hb : ∀ i, off i + S1x1024x512.size i ≤ S2x1024x1024.size i) (ho : off = ![1, 0, 512 * b.val])
    (Q : Vec F S1024x1024 .bf16 × Vec F S1x1024x512 .bf16 → sProp 𝕄) :
    iprop(held c cxM cx ∗ wHeld c M S q f)
      ⊢ iprop(((held c cxM cx ∗ wHeld c M S q f) -∗ Q (cx, wSl W 1 b)) -∗ WP c (outLoadG cxM M off hb) Q) := by
  subst ho
  unfold outLoadG
  iintro ⟨Hx, Hw⟩ HQ
  simp only [Prog.lift, Prog.bind_op, Prog.bind_ret]
  iapply (wp_load_rect 𝒱₀ (c : Thread nD τ) none Set.univ (m := cxM) (r := Rect.unit (s := S1024x1024) ![0, 0] S1024x1024.size Gen.inb_S1024x1024_S1024x1024_0_0)
    (f := cx) (q := fullShare) (S := Finset.univ) (Finset.subset_univ _)) $$ Hx
  iintro Hx
  iapply (wp_load_rect 𝒱₀ (c : Thread nD τ) none Set.univ (m := M) (r := rW 1 b) (f := f) (q := q) (S := S) hS) $$ Hw
  iintro Hw
  have hx : (cxM.access (Rect.unit (s := S1024x1024) ![0, 0] S1024x1024.size Gen.inb_S1024x1024_S1024x1024_0_0) : View sig .tc _ _ _).read (Elt F) cx = cx :=
    Memref.read_access_unit_zero (Elt F) cc0_scratch13 z2 _ cx
  rw [hx, hf]
  simp only [Prog.pure_eq_ret]
  rw [wp_ret]
  imodintro
  iapply HQ
  isplitl [Hx]
  · iexact Hx
  · iexact Hw

theorem o_agree (T : S1x1024x1024.Idx → Elt F .f32) (fo : S1x1024x1024.Idx → Elt F .f32) (b : Fin 2) (w : Vec F S1x1024x512 .f32)
    (hw : ∀ i, halfOfO i = b → T i = w (ix3 (0 : Fin 1) (⟨(i 1).val, (i 1).isLt⟩ : Fin 1024) (⟨(i 2).val % 512, Nat.mod_lt _ (by decide)⟩ : Fin 512)))
    (ho : Agree (ColsO b.val) fo T) :
    Agree (ColsO (b.val + 1)) ((oM.access (rO b) : View sig .tc _ _ _).write (Elt F) fo w Finset.univ) T := by
  have hb := b.isLt
  refine agree_write (b := cc0_stg3_0) (rO b) ho (fun j => ?_) fun i hi => ?_
  · have h0 : (j 0).val < 1 := (j 0).isLt
    have h1 : (j 1).val < 1024 := (j 1).isLt
    have h2 : (j 2).val < 512 := (j 2).isLt
    have e1 : (((rO b).emb j) 1).val = (j 1).val := by rw [Rect.emb_apply]; simp
    have e2 : (((rO b).emb j) 2).val = 512 * b.val + (j 2).val := by rw [Rect.emb_apply]; simp
    have r1 : halfOfO ((rO b).emb j) = b := Fin.ext (by show _ / 512 = _; rw [e2]; omega)
    refine ((hw _ r1).trans (congrArg w ?_)).symm
    funext a; refine Fin.ext ?_
    match a with
    | ⟨0, _⟩ => show 0 = (j 0).val; omega
    | ⟨1, _⟩ => exact e1
    | ⟨2, _⟩ => show _ % 512 = (j 2).val; rw [e2]; omega
  · have i0 : (i 0).val < 1 := (i 0).isLt
    have i1 : (i 1).val < 1024 := (i 1).isLt
    have i2 : (i 2).val < 1024 := (i 2).isLt
    by_cases hd : ColsO b.val i
    · exact Or.inl hd
    · refine Or.inr (Rect.mem_set_unit.2 fun a => ?_)
      unfold ColsO at hi hd
      match a with
      | ⟨0, _⟩ => show 0 ≤ (i 0).val ∧ (i 0).val < 0 + 1; omega
      | ⟨1, _⟩ => show 0 ≤ (i 1).val ∧ (i 1).val < 0 + 1024; omega
      | ⟨2, _⟩ => show 512 * b.val ≤ (i 2).val ∧ (i 2).val < 512 * b.val + 512; omega

theorem agree_all (T fo : S1x1024x1024.Idx → Elt F .f32) (h : Agree (ColsO 2) fo T) : fo = T :=
  funext fun i => h i (by have : (i 2).val < 1024 := (i 2).isLt; unfold ColsO; omega)

theorem outSet2_wp (c : Dev nD) (cx : Vec F S1024x1024 .bf16) (W : S2x1024x1024.Idx → Elt F .bf16)
    (fo : S1x1024x1024.Idx → Elt F .f32) (Q : PUnit → sProp 𝕄) :
    held c oM fo ⊢ iprop((held c oM (oTgt0 cx W) -∗ Q ⟨⟩)
        -∗ WP c (outSet2 oM (cx, wSl W 1 0) (cx, wSl W 1 1)) Q) := by
  unfold outSet2 outSetG WP
  simp only [Prog.lift, Prog.bind_op, Prog.bind_ret]
  iintro Ho HQ
  sl_exec
  sl_step
  have h0 := o_agree (oTgt0 cx W) fo 0 (oSet cx (wSl W 1 0)) (fun i hi => by unfold oTgt0; rw [hi])
    (fun i hi => absurd hi (Nat.not_lt_zero _))
  have h1 := agree_all _ _ (o_agree (oTgt0 cx W) _ 1 (oSet cx (wSl W 1 1)) (fun i hi => by unfold oTgt0; rw [hi]) h0)
  iapply HQ
  rw [← h1]
  iexact Ho

theorem outAdd2_wp (c : Dev nD) (cx : Vec F S1024x1024 .bf16) (W : S2x1024x1024.Idx → Elt F .bf16)
    (o : S1x1024x1024.Idx → Elt F .f32) (Q : PUnit → sProp 𝕄) :
    held c oM o ⊢ iprop((held c oM (oTgt cx W o) -∗ Q ⟨⟩)
        -∗ WP c (outAdd2 oM (cx, wSl W 1 0) (cx, wSl W 1 1)) Q) := by
  unfold outAdd2 outAddG WP
  simp only [Prog.lift, Prog.bind_op, Prog.bind_ret]
  iintro Ho HQ
  iapply (wp_load_rect 𝒱₀ (c : Thread nD τ) none Set.univ (m := oM) (r := rO 0) (f := o) (q := fullShare) (S := Finset.univ) (Finset.subset_univ _)) $$ Ho
  iintro Ho
  iapply (wp_load_rect 𝒱₀ (c : Thread nD τ) none Set.univ (m := oM) (r := rO 0) (f := o) (q := fullShare) (S := Finset.univ) (Finset.subset_univ _)) $$ Ho
  iintro Ho
  iapply (wp_store 𝒱₀ (c : Thread nD τ) none Set.univ (m := oM) (r := rO 0) (f := o) (S := Finset.univ) (Finset.subset_univ _)) $$ Ho
  iintro Ho
  have h0 := o_agree (oTgt cx W o) o 0 (oAdd cx (wSl W 1 0) ((oM.access (rO 0) : View sig .tc _ _ _).read (Elt F) o))
    (fun i hi => by unfold oTgt; rw [hi]; rfl)
    (fun i hi => absurd hi (Nat.not_lt_zero _))
  have hr : (oM.access (rO 1) : View sig .tc _ _ _).read (Elt F)
      ((oM.access (rO 0) : View sig .tc _ _ _).write (Elt F) o (oAdd cx (wSl W 1 0) ((oM.access (rO 0) : View sig .tc _ _ _).read (Elt F) o)) Finset.univ)
      = fun j => o ((rO 1).emb j) := by
    funext j
    refine View.write_of_not_mem _ _ _ ?_
    rw [View.setOn_univ, View.set_slice]
    intro hm
    have hm : (rO 1).emb j ∈ (rO 0).set := by simpa using hm
    have := (Rect.mem_set_unit.1 hm (2 : Fin 3)).2
    have e2 : (((rO 1).emb j) 2).val = 512 + (j 2).val := by rw [Rect.emb_apply]; simp
    rw [e2] at this
    have : 512 + (j 2).val < 0 + 512 := this
    omega
  iapply (wp_load_rect 𝒱₀ (c : Thread nD τ) none Set.univ (m := oM) (r := rO 1) (q := fullShare) (S := Finset.univ) (Finset.subset_univ _)) $$ Ho
  iintro Ho
  iapply (wp_load_rect 𝒱₀ (c : Thread nD τ) none Set.univ (m := oM) (r := rO 1) (q := fullShare) (S := Finset.univ) (Finset.subset_univ _)) $$ Ho
  iintro Ho
  iapply (wp_store 𝒱₀ (c : Thread nD τ) none Set.univ (m := oM) (r := rO 1) (S := Finset.univ) (Finset.subset_univ _)) $$ Ho
  iintro Ho
  have h1 := agree_all _ _ (o_agree (oTgt cx W o) _ 1 (oAdd cx (wSl W 1 1) (fun j => o ((rO 1).emb j))) (fun i hi => by unfold oTgt; rw [hi]) h0)
  rw [hr]
  rw [wp_ret]
  imodintro
  iapply HQ
  rw [← h1]
  iexact Ho

end Cert.KernelIdeal.Attn

end
-- ==== Proof.Kv.lean ====
/-
  The keys and values as rules: the copies of one group's keys and values from HBM into a slot of the
  scratch, started together on one semaphore and awaited together; and the heads of a group.
-/
module

public import proofs.«01_k».proof.Proof.Local
public import Idealize.ShloMosaic.Lib.ValueLayout

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-- The counters' place. -/
abbrev EC : UEmb Counters (MT nD τ sig Unit (Elt F) ℕ UU ℕ) := countersEmb (U := UU)

theorem ret_bind' {E : Type → Type} {α β : Type} (a : α) (k : α → Prog E β) : (Prog.ret a).bind k = k a := rfl

/-! ## What a copy lands -/

/-- A head's place in the scratch, at any contents. -/
def kvFree (c : Dev nD) (M : Memref sig .tc .vmem S2x8x1024x128 .f32) (s : Fin 2) (h : Fin 8) : sProp 𝕄 :=
  iprop(∃ f : Buf (Elt F) ((M.access (rKV s h)).loc (c : Thread nD τ)),
    ((M.access (rKV s h)).loc (c : Thread nD τ) ↦[(M.access (rKV s h)).set]{fullShare} f))
def kvFree2 (c : Dev nD) (s : Fin 2) (h : Fin 8) : sProp 𝕄 := iprop(kvFree c ksM s h ∗ kvFree (F := F) c vsM s h)

theorem kvReg_free (c : Dev nD) (M : Memref sig .tc .vmem S2x8x1024x128 .f32) (s : Fin 2) (h : Fin 8) (T : Vec F S1x1x1024x128 .f32) :
    kvReg c M s h T ⊢ kvFree c M s h := by
  unfold kvReg kvFree
  iintro ⟨%f, -, H⟩
  iexists f; iexact H
theorem kvHeld_free (c : Dev nD) (s : Fin 2) (h : Fin 8) (kT vT : Fin 8 → Vec F S1x1x1024x128 .f32) :
    kvHeld c s h kT vT ⊢ kvFree2 c s h := by
  unfold kvHeld kvFree2
  iintro ⟨Hk, Hv⟩
  isplitl [Hk]
  · iapply (kvReg_free c ksM s h _) $$ Hk
  · iapply (kvReg_free c vsM s h _) $$ Hv

/-- An array in HBM, at some share. -/
def hbmHeld (c : Dev nD) (A : Memref sig .tc .hbm S4x1024x32x128 .f32) (K : Buf (Elt F) (A.view.loc (c : Thread nD τ))) : sProp 𝕄 :=
  iprop(∃ q : PosShare TreeShare, A.view.loc (c : Thread nD τ) ↦[Finset.univ]{q} K)

/-- Head `h` of group `g` of device `d`'s share of an array. -/
def headAt (K : S4x1024x32x128.Idx → Elt F .f32) (d g : Fin 4) (h : Fin 8) : Vec F S1x1x1024x128 .f32 := fun i =>
  K (ix4 d (⟨(i 2).val, (i 2).isLt⟩ : Fin 1024) (⟨8 * g.val + h.val, by omega⟩ : Fin 32) (⟨(i 3).val, (i 3).isLt⟩ : Fin 128))

theorem rs_1a1b (h : S1024x128.numel = S1x1024x1x128.numel) (x : Fin 1024) (y : Fin 128) :
    Shape.reshapeEquiv h (ix2 x y : S1024x128.Idx) = ix4 (⟨0, Nat.one_pos⟩ : Fin 1) x (⟨0, Nat.one_pos⟩ : Fin 1) y :=
  Shape.reshapeEquiv_eq_of_rowMajor h (by
    rw [Shape.rowMajor_val_four, Shape.rowMajor_val_two]
    show (((0 * 1024 + x.val) * 1 + 0) * 128 + y.val) = x.val * 128 + y.val
    omega)

theorem kv_landed (M : Memref sig .tc .vmem S2x8x1024x128 .f32) (s : Fin 2) (h : Fin 8) (off : Fin 4 → ℕ)
    (hb : ∀ i, off i + S1x1x1024x128.size i ≤ S2x8x1024x128.size i) (ho : off = ![s.val, h.val, 0, 0])
    (f : M.view.ty.Contents (Elt F)) (w : S1024x128.Idx → Elt F .f32) :
    (M.access (rKV s h)).read (Elt F) ((kvDst M off hb).view.write (Elt F) f w Finset.univ)
      = fun j => w (ix2 (⟨(j 2).val, (j 2).isLt⟩ : Fin 1024) (⟨(j 3).val, (j 3).isLt⟩ : Fin 128)) := by
  subst ho
  funext j
  have h0 : (j 0).val < 1 := (j 0).isLt
  have h1 : (j 1).val < 1 := (j 1).isLt
  have hj : Shape.reshapeEquiv (squeezes_S1x1x1024x128_S1024x128).numel_eq
      (ix2 (⟨(j 2).val, (j 2).isLt⟩ : Fin 1024) (⟨(j 3).val, (j 3).isLt⟩ : Fin 128) : S1024x128.Idx) = j := by
    refine (reshapeEquiv_ix2_11ab _ _ _).trans ?_
    funext a; refine Fin.ext ?_
    match a with
    | ⟨0, _⟩ => show 0 = (j 0).val; omega
    | ⟨1, _⟩ => show 0 = (j 1).val; omega
    | ⟨2, _⟩ => rfl
    | ⟨3, _⟩ => rfl
  have := View.read_write_of_mem (v := (kvDst M ![s.val, h.val, 0, 0] hb).view) (Val := Elt F) f w
    (M := Finset.univ) (x := ix2 (⟨(j 2).val, (j 2).isLt⟩ : Fin 1024) (⟨(j 3).val, (j 3).isLt⟩ : Fin 128)) (Finset.mem_univ _)
  refine Eq.trans ?_ this
  exact congrArg (fun z => (M.access (rKV s h)).read (Elt F)
    ((kvDst M ![s.val, h.val, 0, 0] hb).view.write (Elt F) f w Finset.univ) z) hj.symm

/-- A head's copied source. -/
theorem srcIdx (d g : Fin 4) (h : Fin 8) (off : Fin 4 → ℕ)
    (hb : ∀ i, off i + S1x1024x1x128.size i ≤ S4x1024x32x128.size i) (ho : off = ![d.val, 0, 8 * g.val + h.val, 0])
    (x : Fin 1024) (y : Fin 128) :
    (Rect.unit (s := S4x1024x32x128) off S1x1024x1x128.size hb).emb
      (Shape.reshapeEquiv (squeezes_S1x1024x1x128_S1024x128).numel_eq (ix2 x y : S1024x128.Idx))
      = ix4 d x (⟨8 * g.val + h.val, by omega⟩ : Fin 32) y := by
  subst ho
  rw [rs_1a1b]
  funext a; refine Fin.ext ?_
  rw [Rect.emb_apply]
  match a with
  | ⟨0, _⟩ => show d.val + 1 * 0 = d.val; omega
  | ⟨1, _⟩ => show 0 + 1 * x.val = x.val; omega
  | ⟨2, _⟩ => show 8 * g.val + h.val + 1 * 0 = 8 * g.val + h.val; omega
  | ⟨3, _⟩ => show 0 + 1 * y.val = y.val; omega

theorem kM_read (K : S4x1024x32x128.Idx → Elt F .f32) (d g : Fin 4) (h : Fin 8) (off : Fin 4 → ℕ)
    (hb : ∀ i, off i + S1x1024x1x128.size i ≤ S4x1024x32x128.size i) (ho : off = ![d.val, 0, 8 * g.val + h.val, 0])
    (x : Fin 1024) (y : Fin 128) :
    (kvSrc kM off hb).view.read (Elt F) K (ix2 x y) = K (ix4 d x (⟨8 * g.val + h.val, by omega⟩ : Fin 32) y) :=
  congrArg K (srcIdx d g h off hb ho x y)
theorem vM_read (K : S4x1024x32x128.Idx → Elt F .f32) (d g : Fin 4) (h : Fin 8) (off : Fin 4 → ℕ)
    (hb : ∀ i, off i + S1x1024x1x128.size i ≤ S4x1024x32x128.size i) (ho : off = ![d.val, 0, 8 * g.val + h.val, 0])
    (x : Fin 1024) (y : Fin 128) :
    (kvSrc vM off hb).view.read (Elt F) K (ix2 x y) = K (ix4 d x (⟨8 * g.val + h.val, by omega⟩ : Fin 32) y) :=
  congrArg K (srcIdx d g h off hb ho x y)

/-! ## The copies of a group -/

/-- The credit of one copy. -/
def kvN : ℕ := (kvDst ksM ![0, 0, 0, 0] inb_S2x8x1024x128_S1x1x1024x128_0_0_0_0).view.dmaCredit
theorem kvN_pos : 0 < kvN := View.dmaCredit_pos _ (by decide)
theorem kvN_k (off : Fin 4 → ℕ) (hb : ∀ i, off i + S1x1x1024x128.size i ≤ S2x8x1024x128.size i) :
    (kvDst ksM off hb).view.dmaCredit = kvN := rfl
theorem kvN_v (off : Fin 4 → ℕ) (hb : ∀ i, off i + S1x1x1024x128.size i ≤ S2x8x1024x128.size i) :
    (kvDst vsM off hb).view.dmaCredit = kvN := rfl

/-- What the copies of a group deliver: the keys of head `h` at `2 h`, its values at `2 h + 1`. -/
def kvDel (c : Dev nD) (s : Fin 2) (kT vT : Fin 8 → Vec F S1x1x1024x128 .f32) (t : Fin 16) : sProp 𝕄 :=
  if t.val % 2 = 0 then kvReg c ksM s ⟨t.val / 2, by omega⟩ (kT ⟨t.val / 2, by omega⟩)
  else kvReg c vsM s ⟨t.val / 2, by omega⟩ (vT ⟨t.val / 2, by omega⟩)

instance kvDel_storable (c : Dev nD) (s : Fin 2) (kT vT : Fin 8 → Vec F S1x1x1024x128 .f32) (t : Fin 16) :
    BI.Storable (upEmb : UEmb _ 𝕄) (kvDel c s kT vT t) := by
  unfold kvDel kvReg
  split <;> infer_instance

theorem kvDel_k (c : Dev nD) (s : Fin 2) (kT vT : Fin 8 → Vec F S1x1x1024x128 .f32) (h : Fin 8) (hh : 2 * h.val < 16) :
    kvDel c s kT vT ⟨2 * h.val, hh⟩ = kvReg c ksM s h (kT h) := by
  unfold kvDel
  rw [if_pos (by show 2 * h.val % 2 = 0; omega)]
  have e : (⟨2 * h.val / 2, by omega⟩ : Fin 8) = h := Fin.ext (by show 2 * h.val / 2 = h.val; omega)
  show kvReg c ksM s ⟨2 * h.val / 2, _⟩ (kT ⟨2 * h.val / 2, _⟩) = _
  rw [e]
theorem kvDel_v (c : Dev nD) (s : Fin 2) (kT vT : Fin 8 → Vec F S1x1x1024x128 .f32) (h : Fin 8) (hh : 2 * h.val + 1 < 16) :
    kvDel c s kT vT ⟨2 * h.val + 1, hh⟩ = kvReg c vsM s h (vT h) := by
  unfold kvDel
  rw [if_neg (by show ¬ (2 * h.val + 1) % 2 = 0; omega)]
  have e : (⟨(2 * h.val + 1) / 2, by omega⟩ : Fin 8) = h := Fin.ext (by show (2 * h.val + 1) / 2 = h.val; omega)
  show kvReg c vsM s ⟨(2 * h.val + 1) / 2, _⟩ (vT ⟨(2 * h.val + 1) / 2, _⟩) = _
  rw [e]

/-- The copies of a group in flight. -/
abbrev kvBatch (c : Dev nD) (sm : DmaSem sig) (s : Fin 2) (kT vT : Fin 8 → Vec F S1x1x1024x128 .f32) (j u : ℕ) : sProp 𝕄 :=
  Transfers.Batch EC (c : Thread nD τ) (.dma sm) () kvN (kvDel c s kT vT) j u

/-- One copy starts. -/
theorem kvCopy_wp (c : Dev nD) (sm : DmaSem sig) (A : Memref sig .tc .hbm S4x1024x32x128 .f32)
    (M : Memref sig .tc .vmem S2x8x1024x128 .f32) (s : Fin 2) (h : Fin 8)
    (kT vT : Fin 8 → Vec F S1x1x1024x128 .f32) (K : Buf (Elt F) (A.view.loc (c : Thread nD τ))) (T : Vec F S1x1x1024x128 .f32)
    (off : Fin 4 → ℕ) (hb : ∀ i, off i + S1x1024x1x128.size i ≤ S4x1024x32x128.size i)
    (off' : Fin 4 → ℕ) (hb' : ∀ i, off' i + S1x1x1024x128.size i ≤ S2x8x1024x128.size i) (ho' : off' = ![s.val, h.val, 0, 0])
    (hT : ∀ x y, (kvSrc A off hb).view.read (Elt F) K (ix2 x y) = T (ix4 (0 : Fin 1) (0 : Fin 1) x y))
    (hN : (kvDst M off' hb').view.dmaCredit = kvN) (j : ℕ) (hj : j < 16) (hD : kvDel c s kT vT ⟨j, hj⟩ = kvReg c M s h T)
    {hs : (kvSrc A off hb).view.WordExact} {hd : (kvDst M off' hb').view.WordExact}
    {ht : DmaTarget.Typed (nD := nD) (τ := τ) (sig := sig) (p := .tc) .hbm (.dma sm) (.here (kvDst M off' hb'))}
    (k : PUnit → KProg F PUnit) (Q : PUnit → sProp 𝕄) :
    iprop(hbmHeld c A K ∗ kvFree c M s h ∗ kvBatch c sm s kT vT j 0)
      ⊢ iprop(((hbmHeld c A K ∗ kvBatch c sm s kT vT (j + 1) 0) -∗ WP c (k ⟨⟩) Q)
        -∗ WP c (.op (.enqueueDma (kvSrc A off hb) (.here (kvDst M off' hb')) (.dma sm) hs hd ht) k) Q) := by
  subst ho'
  unfold hbmHeld kvFree WP
  iintro ⟨⟨%q, HA⟩, ⟨%f, Hf⟩, HB⟩ HQ
  ihave HA' := (pointsTo_share (PosShare.mem_left_op_right q)).1 $$ HA
  icases HA' with ⟨HA1, HA2⟩
  ihave HA2' := (pointsTo_split_subset (Finset.subset_univ (kvSrc A off hb).view.set)).1 $$ HA2
  icases HA2' with ⟨HA2, -⟩
  iapply (Transfers.wp_dmaBatch EC 𝒱₀ (c : Thread nD τ) none (src := kvSrc A off hb) (dst := kvDst M ![s.val, h.val, 0, 0] hb') (sm := .dma sm) () kvN hN
    (Sd := (M.access (rKV s h)).set)
    (View.set_reshape (M.view.slice (rKV s h)) (squeezes_S1x1x1024x128_S1024x128).numel_eq).subset
    (D := kvDel c s kT vT) (j := j) (u := 0) hj (Nat.zero_le _) (q := q.right) (fs := K) (fd := f) (by
      rw [hD]; unfold kvReg
      iintro ⟨Hd, -⟩
      iexists _; isplitr
      on_goal 2 => iexact Hd
      ipureintro
      rw [kv_landed M s h _ hb' rfl]
      funext i
      have i0 : (i 0).val < 1 := (i 0).isLt
      have i1 : (i 1).val < 1 := (i 1).isLt
      refine (hT _ _).trans (congrArg T ?_)
      funext a; refine Fin.ext ?_
      match a with
      | ⟨0, _⟩ => show 0 = (i 0).val; omega
      | ⟨1, _⟩ => show 0 = (i 1).val; omega
      | ⟨2, _⟩ => rfl
      | ⟨3, _⟩ => rfl)) $$ [HA2 Hf HB]
  · isplitl [HA2]; · iexact HA2
    isplitl [Hf]; · iexact Hf
    iexact HB
  iintro HB
  iapply HQ
  isplitl [HA1]
  · iexists q.left; iexact HA1
  · iexact HB

/-- The two copies of a head start. -/
theorem kvPair_wp (c : Dev nD) (sm : DmaSem sig) (s : Fin 2) (d g : Fin 4) (h : Fin 8)
    (K V : S4x1024x32x128.Idx → Elt F .f32)
    (off : Fin 4 → ℕ) (hb : ∀ i, off i + S1x1024x1x128.size i ≤ S4x1024x32x128.size i) (ho : off = ![d.val, 0, 8 * g.val + h.val, 0])
    (off' : Fin 4 → ℕ) (hb' : ∀ i, off' i + S1x1x1024x128.size i ≤ S2x8x1024x128.size i) (ho' : off' = ![s.val, h.val, 0, 0])
    (j j' : ℕ) (hj : j = 2 * h.val) (hj' : j' = j + 2) (Q : PUnit → sProp 𝕄) :
    iprop(hbmHeld c kM K ∗ hbmHeld c vM V ∗ kvFree2 c s h ∗ kvBatch c sm s (headAt K d g) (headAt V d g) j 0)
      ⊢ iprop(((hbmHeld c kM K ∗ hbmHeld c vM V ∗ kvBatch c sm s (headAt K d g) (headAt V d g) j' 0) -∗ Q ⟨⟩)
        -∗ WP c (kvPair kM vM ksM vsM sm off hb off' hb') Q) := by
  subst hj hj'
  unfold kvPair kvFree2
  iintro ⟨HK, HV, ⟨Hk, Hv⟩, HB⟩ HQ
  simp only [Prog.lift, Prog.bind_op, Prog.bind_ret]
  have h8 := h.isLt
  iapply (kvCopy_wp c sm kM ksM s h (headAt K d g) (headAt V d g) K (headAt K d g h) off hb off' hb' ho'
    (fun x y => kM_read K d g h off hb ho x y) (kvN_k _ _) (2 * h.val) (by omega) (kvDel_k c s _ _ h _) _ Q) $$ [HK Hk HB]
  · isplitl [HK]; · iexact HK
    isplitl [Hk]; · iexact Hk
    iexact HB
  iintro ⟨HK, HB⟩
  iapply (kvCopy_wp c sm vM vsM s h (headAt K d g) (headAt V d g) V (headAt V d g h) off hb off' hb' ho'
    (fun x y => vM_read V d g h off hb ho x y) (kvN_v _ _) (2 * h.val + 1) (by omega) (kvDel_v c s _ _ h _) _ Q) $$ [HV Hv HB]
  · isplitl [HV]; · iexact HV
    isplitl [Hv]; · iexact Hv
    iexact HB
  iintro ⟨HV, HB⟩
  rw [WP, wp_ret]
  imodintro
  iapply HQ
  isplitl [HK]; · iexact HK
  isplitl [HV]; · iexact HV
  iexact HB

/-- What a core owes. -/
def ow (c : Dev nD) (O : CellTallies nD τ sig Unit) : sProp 𝕄 := iprop(∃ W, owes (c : Thread nD τ) O W)

/-- The two waits of a head that is not the last. -/
theorem kvWaitPair_wp (c : Dev nD) (sm : DmaSem sig) (O : CellTallies nD τ sig Unit) (Lv : sProp 𝕄) [BI.Persistent Lv]
    (hL : Lv ⊢ MayWait (c : Thread nD τ) (.dma sm) () O) (s : Fin 2) (kT vT : Fin 8 → Vec F S1x1x1024x128 .f32)
    (off : Fin 4 → ℕ) (hb : ∀ i, off i + S1x1024x1x128.size i ≤ S4x1024x32x128.size i)
    (off' : Fin 4 → ℕ) (hb' : ∀ i, off' i + S1x1x1024x128.size i ≤ S2x8x1024x128.size i)
    (n n' : ℕ) (hn : n + 2 < 16) (hn' : n' = n + 2) (Q : PUnit → sProp 𝕄) :
    iprop(Lv ∗ ow c O ∗ kvBatch c sm s kT vT 16 (n * kvN))
      ⊢ iprop(((Lv ∗ ow c O ∗ kvBatch c sm s kT vT 16 (n' * kvN)) -∗ Q ⟨⟩)
        -∗ WP c (kvWaitPair kM vM ksM vsM sm off hb off' hb') Q) := by
  subst hn'
  unfold kvWaitPair ow WP
  iintro ⟨#HL, ⟨%W, HO⟩, HB⟩ HQ
  simp only [Prog.lift, Prog.bind_op, Prog.bind_ret]
  have hp := kvN_pos
  iapply (Transfers.wp_waitBatchO EC 𝒱₀ (c : Thread nD τ) none () (N := kvN) (kvN_k _ _) (D := kvDel c s kT vT) (u := n * kvN)
    (by nlinarith)) $$ [HO HB]
  · isplitl [HB]; · iexact HB
    isplitl [HO]; · iexact HO
    iapply hL $$ HL
  iintro ⟨HB, HO⟩
  rw [show n * kvN + kvN = (n + 1) * kvN by ring]
  iapply (Transfers.wp_waitBatchO EC 𝒱₀ (c : Thread nD τ) none () (N := kvN) (kvN_v _ _) (D := kvDel c s kT vT) (u := (n + 1) * kvN)
    (by nlinarith)) $$ [HO HB]
  · isplitl [HB]; · iexact HB
    isplitl [HO]; · iexact HO
    iapply hL $$ HL
  iintro ⟨HB, HO⟩
  rw [show (n + 1) * kvN + kvN = (n + 2) * kvN by ring, wp_ret]
  imodintro
  iapply HQ
  isplitr; · iexact HL
  isplitl [HO]; · iexists _; iexact HO
  iexact HB

/-- The eight heads of a slot. -/
def kvAll (c : Dev nD) (s : Fin 2) (kT vT : Fin 8 → Vec F S1x1x1024x128 .f32) : sProp 𝕄 :=
  iprop(kvHeld c s 0 kT vT ∗ kvHeld c s 1 kT vT ∗ kvHeld c s 2 kT vT ∗ kvHeld c s 3 kT vT
    ∗ kvHeld c s 4 kT vT ∗ kvHeld c s 5 kT vT ∗ kvHeld c s 6 kT vT ∗ kvHeld c s 7 kT vT)
def kvFreeAll (c : Dev nD) (s : Fin 2) : sProp 𝕄 :=
  iprop(kvFree2 (F := F) c s 0 ∗ kvFree2 (F := F) c s 1 ∗ kvFree2 (F := F) c s 2 ∗ kvFree2 (F := F) c s 3
    ∗ kvFree2 (F := F) c s 4 ∗ kvFree2 (F := F) c s 5 ∗ kvFree2 (F := F) c s 6 ∗ kvFree2 (F := F) c s 7)

theorem kvAll_free (c : Dev nD) (s : Fin 2) (kT vT : Fin 8 → Vec F S1x1x1024x128 .f32) :
    kvAll c s kT vT ⊢ kvFreeAll c s := by
  unfold kvAll kvFreeAll
  exact BI.sep_mono (kvHeld_free _ _ _ _ _) (BI.sep_mono (kvHeld_free _ _ _ _ _) (BI.sep_mono (kvHeld_free _ _ _ _ _) (BI.sep_mono (kvHeld_free _ _ _ _ _)
    (BI.sep_mono (kvHeld_free _ _ _ _ _) (BI.sep_mono (kvHeld_free _ _ _ _ _) (BI.sep_mono (kvHeld_free _ _ _ _ _) (kvHeld_free _ _ _ _ _)))))))

theorem kvDel_all (c : Dev nD) (s : Fin 2) (kT vT : Fin 8 → Vec F S1x1x1024x128 .f32) :
    bigSep Finset.univ (kvDel c s kT vT) ⊢ kvAll c s kT vT := by
  rw [bigSep_univ_eq_bigSepL [0, 1, 2, 3, 4, 5, 6, 7, 8, 9, 10, 11, 12, 13, 14, 15] (by decide) (by decide) _]
  unfold kvAll kvHeld
  show iprop(kvDel c s kT vT ⟨2 * (0 : Fin 8).val, by decide⟩ ∗ kvDel c s kT vT ⟨2 * (0 : Fin 8).val + 1, by decide⟩
    ∗ kvDel c s kT vT ⟨2 * (1 : Fin 8).val, by decide⟩ ∗ kvDel c s kT vT ⟨2 * (1 : Fin 8).val + 1, by decide⟩
    ∗ kvDel c s kT vT ⟨2 * (2 : Fin 8).val, by decide⟩ ∗ kvDel c s kT vT ⟨2 * (2 : Fin 8).val + 1, by decide⟩
    ∗ kvDel c s kT vT ⟨2 * (3 : Fin 8).val, by decide⟩ ∗ kvDel c s kT vT ⟨2 * (3 : Fin 8).val + 1, by decide⟩
    ∗ kvDel c s kT vT ⟨2 * (4 : Fin 8).val, by decide⟩ ∗ kvDel c s kT vT ⟨2 * (4 : Fin 8).val + 1, by decide⟩
    ∗ kvDel c s kT vT ⟨2 * (5 : Fin 8).val, by decide⟩ ∗ kvDel c s kT vT ⟨2 * (5 : Fin 8).val + 1, by decide⟩
    ∗ kvDel c s kT vT ⟨2 * (6 : Fin 8).val, by decide⟩ ∗ kvDel c s kT vT ⟨2 * (6 : Fin 8).val + 1, by decide⟩
    ∗ kvDel c s kT vT ⟨2 * (7 : Fin 8).val, by decide⟩ ∗ kvDel c s kT vT ⟨2 * (7 : Fin 8).val + 1, by decide⟩) ⊢ _
  simp only [kvDel_k, kvDel_v]
  iintro ⟨H0, H1, H2, H3, H4, H5, H6, H7, H8, H9, HA, HB, HC, HD, HE, HF⟩
  isplitl [H0 H1]; · isplitl [H0] <;> iassumption
  isplitl [H2 H3]; · isplitl [H2] <;> iassumption
  isplitl [H4 H5]; · isplitl [H4] <;> iassumption
  isplitl [H6 H7]; · isplitl [H6] <;> iassumption
  isplitl [H8 H9]; · isplitl [H8] <;> iassumption
  isplitl [HA HB]; · isplitl [HA] <;> iassumption
  isplitl [HC HD]; · isplitl [HC] <;> iassumption
  isplitl [HE] <;> iassumption

/-- The two waits of the last head. -/
theorem kvWaitLast_wp (c : Dev nD) (sm : DmaSem sig) (O : CellTallies nD τ sig Unit) (Lv : sProp 𝕄) [BI.Persistent Lv]
    (hL : Lv ⊢ MayWait (c : Thread nD τ) (.dma sm) () O) (s : Fin 2) (kT vT : Fin 8 → Vec F S1x1x1024x128 .f32)
    (off : Fin 4 → ℕ) (hb : ∀ i, off i + S1x1024x1x128.size i ≤ S4x1024x32x128.size i)
    (off' : Fin 4 → ℕ) (hb' : ∀ i, off' i + S1x1x1024x128.size i ≤ S2x8x1024x128.size i)
    (Q : PUnit → sProp 𝕄) :
    iprop(Lv ∗ ow c O ∗ kvBatch c sm s kT vT 16 (14 * kvN))
      ⊢ iprop(((Lv ∗ ow c O ∗ kvAll c s kT vT ∗ semVal ((c : Thread nD τ), .dma sm) 0) -∗ Q ⟨⟩)
        -∗ WP c (kvWaitPair kM vM ksM vsM sm off hb off' hb') Q) := by
  unfold kvWaitPair ow WP
  iintro ⟨#HL, ⟨%W, HO⟩, HB⟩ HQ
  simp only [Prog.lift, Prog.bind_op, Prog.bind_ret]
  have hp := kvN_pos
  iapply (Transfers.wp_waitBatchO EC 𝒱₀ (c : Thread nD τ) none () (N := kvN) (kvN_k _ _) (D := kvDel c s kT vT) (u := 14 * kvN)
    (by nlinarith)) $$ [HO HB]
  · isplitl [HB]; · iexact HB
    isplitl [HO]; · iexact HO
    iapply hL $$ HL
  iintro ⟨HB, HO⟩
  rw [show 14 * kvN + kvN = 15 * kvN by ring]
  iapply (Transfers.wp_waitBatchLastO EC 𝒱₀ (c : Thread nD τ) none () (N := kvN) (kvN_v _ _) hp (D := kvDel c s kT vT) (u := 15 * kvN)
    (by ring)) $$ [HO HB]
  · isplitl [HB]; · iexact HB
    isplitl [HO]; · iexact HO
    iapply hL $$ HL
  iintro ⟨HD, Hs, HO⟩
  rw [wp_ret]
  imodintro
  iapply HQ
  isplitr; · iexact HL
  isplitl [HO]; · iexists _; iexact HO
  isplitl [HD]; · iapply (kvDel_all c s kT vT) $$ HD
  iexact Hs

/-- All the copies of a group start. -/
theorem kvStart_wp (c : Dev nD) (sm : DmaSem sig) (s : Fin 2) (d g : Fin 4) (K V : S4x1024x32x128.Idx → Elt F .f32)
    (off : BitVec 32 → Fin 4 → ℕ) (hb : ∀ h : Fin 8, ∀ i, off (BitVec.ofNat 32 h.val) i + S1x1024x1x128.size i ≤ S4x1024x32x128.size i)
    (ho : ∀ h : Fin 8, off (BitVec.ofNat 32 h.val) = ![d.val, 0, 8 * g.val + h.val, 0])
    (o : Fin 8 → Fin 4 → ℕ) (hb' : ∀ h, ∀ i, o h i + S1x1x1024x128.size i ≤ S2x8x1024x128.size i) (ho' : ∀ h, o h = ![s.val, h.val, 0, 0])
    (Q : PUnit → sProp 𝕄) :
    iprop(hbmHeld c kM K ∗ hbmHeld c vM V ∗ kvFreeAll c s ∗ semVal ((c : Thread nD τ), .dma sm) 0)
      ⊢ iprop(((hbmHeld c kM K ∗ hbmHeld c vM V ∗ kvBatch c sm s (headAt K d g) (headAt V d g) 16 0) -∗ Q ⟨⟩)
        -∗ WP c (do
            kvPair kM vM ksM vsM sm (off (BitVec.ofNat 32 (0 : Fin 8).val)) (hb 0) (o 0) (hb' 0)
            kvPair kM vM ksM vsM sm (off (BitVec.ofNat 32 (1 : Fin 8).val)) (hb 1) (o 1) (hb' 1)
            kvPair kM vM ksM vsM sm (off (BitVec.ofNat 32 (2 : Fin 8).val)) (hb 2) (o 2) (hb' 2)
            kvPair kM vM ksM vsM sm (off (BitVec.ofNat 32 (3 : Fin 8).val)) (hb 3) (o 3) (hb' 3)
            kvPair kM vM ksM vsM sm (off (BitVec.ofNat 32 (4 : Fin 8).val)) (hb 4) (o 4) (hb' 4)
            kvPair kM vM ksM vsM sm (off (BitVec.ofNat 32 (5 : Fin 8).val)) (hb 5) (o 5) (hb' 5)
            kvPair kM vM ksM vsM sm (off (BitVec.ofNat 32 (6 : Fin 8).val)) (hb 6) (o 6) (hb' 6)
            kvPair kM vM ksM vsM sm (off (BitVec.ofNat 32 (7 : Fin 8).val)) (hb 7) (o 7) (hb' 7)) Q) := by
  unfold kvFreeAll
  iintro ⟨HK, HV, ⟨F0, F1, F2, F3, F4, F5, F6, F7⟩, Hs⟩ HQ
  unfold WP
  imod (Transfers.batch_alloc' (Lvl := ℕ) EC (c : Thread nD τ) () kvN (kvDel c s (headAt K d g) (headAt V d g)) (sm := .dma sm) (E := Set.univ)) $$ Hs with HB
  rw [wp_bind]
  iapply (kvPair_wp c sm s d g 0 K V _ (hb 0) (ho 0) _ (hb' 0) (ho' 0) 0 2 rfl rfl _) $$ [HK HV F0 HB]
  · isplitl [HK]; · iexact HK
    isplitl [HV]; · iexact HV
    isplitl [F0]; · iexact F0
    iexact HB
  iintro ⟨HK, HV, HB⟩
  rw [wp_bind]
  iapply (kvPair_wp c sm s d g 1 K V _ (hb 1) (ho 1) _ (hb' 1) (ho' 1) 2 4 rfl rfl _) $$ [HK HV F1 HB]
  · isplitl [HK]; · iexact HK
    isplitl [HV]; · iexact HV
    isplitl [F1]; · iexact F1
    iexact HB
  iintro ⟨HK, HV, HB⟩
  rw [wp_bind]
  iapply (kvPair_wp c sm s d g 2 K V _ (hb 2) (ho 2) _ (hb' 2) (ho' 2) 4 6 rfl rfl _) $$ [HK HV F2 HB]
  · isplitl [HK]; · iexact HK
    isplitl [HV]; · iexact HV
    isplitl [F2]; · iexact F2
    iexact HB
  iintro ⟨HK, HV, HB⟩
  rw [wp_bind]
  iapply (kvPair_wp c sm s d g 3 K V _ (hb 3) (ho 3) _ (hb' 3) (ho' 3) 6 8 rfl rfl _) $$ [HK HV F3 HB]
  · isplitl [HK]; · iexact HK
    isplitl [HV]; · iexact HV
    isplitl [F3]; · iexact F3
    iexact HB
  iintro ⟨HK, HV, HB⟩
  rw [wp_bind]
  iapply (kvPair_wp c sm s d g 4 K V _ (hb 4) (ho 4) _ (hb' 4) (ho' 4) 8 10 rfl rfl _) $$ [HK HV F4 HB]
  · isplitl [HK]; · iexact HK
    isplitl [HV]; · iexact HV
    isplitl [F4]; · iexact F4
    iexact HB
  iintro ⟨HK, HV, HB⟩
  rw [wp_bind]
  iapply (kvPair_wp c sm s d g 5 K V _ (hb 5) (ho 5) _ (hb' 5) (ho' 5) 10 12 rfl rfl _) $$ [HK HV F5 HB]
  · isplitl [HK]; · iexact HK
    isplitl [HV]; · iexact HV
    isplitl [F5]; · iexact F5
    iexact HB
  iintro ⟨HK, HV, HB⟩
  rw [wp_bind]
  iapply (kvPair_wp c sm s d g 6 K V _ (hb 6) (ho 6) _ (hb' 6) (ho' 6) 12 14 rfl rfl _) $$ [HK HV F6 HB]
  · isplitl [HK]; · iexact HK
    isplitl [HV]; · iexact HV
    isplitl [F6]; · iexact F6
    iexact HB
  iintro ⟨HK, HV, HB⟩
  iapply (kvPair_wp c sm s d g 7 K V _ (hb 7) (ho 7) _ (hb' 7) (ho' 7) 14 16 rfl rfl _) $$ [HK HV F7 HB]
  · isplitl [HK]; · iexact HK
    isplitl [HV]; · iexact HV
    isplitl [F7]; · iexact F7
    iexact HB
  iexact HQ

/-- All the copies of a group are awaited. -/
theorem kvWait_wp (c : Dev nD) (sm : DmaSem sig) (O : CellTallies nD τ sig Unit) (Lv : sProp 𝕄) [BI.Persistent Lv]
    (hL : Lv ⊢ MayWait (c : Thread nD τ) (.dma sm) () O) (s : Fin 2) (kT vT : Fin 8 → Vec F S1x1x1024x128 .f32)
    (off : Fin 8 → Fin 4 → ℕ) (hb : ∀ h : Fin 8, ∀ i, off h i + S1x1024x1x128.size i ≤ S4x1024x32x128.size i)
    (o : Fin 8 → Fin 4 → ℕ) (hb' : ∀ h, ∀ i, o h i + S1x1x1024x128.size i ≤ S2x8x1024x128.size i)
    (Q : PUnit → sProp 𝕄) :
    iprop(Lv ∗ ow c O ∗ kvBatch c sm s kT vT 16 0)
      ⊢ iprop(((Lv ∗ ow c O ∗ kvAll c s kT vT ∗ semVal ((c : Thread nD τ), .dma sm) 0) -∗ Q ⟨⟩)
        -∗ WP c (do
            kvWaitPair kM vM ksM vsM sm (off 0) (hb 0) (o 0) (hb' 0)
            kvWaitPair kM vM ksM vsM sm (off 1) (hb 1) (o 1) (hb' 1)
            kvWaitPair kM vM ksM vsM sm (off 2) (hb 2) (o 2) (hb' 2)
            kvWaitPair kM vM ksM vsM sm (off 3) (hb 3) (o 3) (hb' 3)
            kvWaitPair kM vM ksM vsM sm (off 4) (hb 4) (o 4) (hb' 4)
            kvWaitPair kM vM ksM vsM sm (off 5) (hb 5) (o 5) (hb' 5)
            kvWaitPair kM vM ksM vsM sm (off 6) (hb 6) (o 6) (hb' 6)
            kvWaitPair kM vM ksM vsM sm (off 7) (hb 7) (o 7) (hb' 7)) Q) := by
  iintro H HQ
  unfold WP
  rw [show kvBatch c sm s kT vT 16 0 = kvBatch c sm s kT vT 16 (0 * kvN) by rw [Nat.zero_mul]]
  rw [wp_bind]
  iapply (kvWaitPair_wp c sm O Lv hL s kT vT _ (hb 0) _ (hb' 0) 0 2 (by decide) rfl _) $$ H
  iintro H
  rw [wp_bind]
  iapply (kvWaitPair_wp c sm O Lv hL s kT vT _ (hb 1) _ (hb' 1) 2 4 (by decide) rfl _) $$ H
  iintro H
  rw [wp_bind]
  iapply (kvWaitPair_wp c sm O Lv hL s kT vT _ (hb 2) _ (hb' 2) 4 6 (by decide) rfl _) $$ H
  iintro H
  rw [wp_bind]
  iapply (kvWaitPair_wp c sm O Lv hL s kT vT _ (hb 3) _ (hb' 3) 6 8 (by decide) rfl _) $$ H
  iintro H
  rw [wp_bind]
  iapply (kvWaitPair_wp c sm O Lv hL s kT vT _ (hb 4) _ (hb' 4) 8 10 (by decide) rfl _) $$ H
  iintro H
  rw [wp_bind]
  iapply (kvWaitPair_wp c sm O Lv hL s kT vT _ (hb 5) _ (hb' 5) 10 12 (by decide) rfl _) $$ H
  iintro H
  rw [wp_bind]
  iapply (kvWaitPair_wp c sm O Lv hL s kT vT _ (hb 6) _ (hb' 6) 12 14 (by decide) rfl _) $$ H
  iintro H
  iapply (kvWaitLast_wp c sm O Lv hL s kT vT _ (hb 7) _ (hb' 7) _) $$ H
  iexact HQ

/-- Where each head of a slot goes. -/
def slotOff (s : ℕ) (h : Fin 8) : Fin 4 → ℕ := ![s, h.val, 0, 0]
theorem slotOff_inb : ∀ (s : Fin 2) (h : Fin 8), ∀ i, slotOff s.val h i + S1x1x1024x128.size i ≤ S2x8x1024x128.size i := by
  unfold slotOff; decide

/-- The semaphores of the two slots. -/
abbrev kvSem (s : Fin 2) : DmaSem sig := (⟨26 + s.val, by have := s.isLt; show 26 + s.val < 28; omega⟩ : Fin 28)

theorem kvStart0_wp (c : Dev nD) (d g : Fin 4) (K V : S4x1024x32x128.Idx → Elt F .f32)
    (off : BitVec 32 → Fin 4 → ℕ) (hb : ∀ h : Fin 8, ∀ i, off (BitVec.ofNat 32 h.val) i + S1x1024x1x128.size i ≤ S4x1024x32x128.size i)
    (ho : ∀ h : Fin 8, off (BitVec.ofNat 32 h.val) = ![d.val, 0, 8 * g.val + h.val, 0]) (Q : PUnit → sProp 𝕄) :
    iprop(hbmHeld c kM K ∗ hbmHeld c vM V ∗ kvFreeAll c 0 ∗ semVal ((c : Thread nD τ), .dma (kvSem 0)) 0)
      ⊢ iprop(((hbmHeld c kM K ∗ hbmHeld c vM V ∗ kvBatch c (kvSem 0) 0 (headAt K d g) (headAt V d g) 16 0) -∗ Q ⟨⟩)
        -∗ WP c (kvStart0 kM vM cc0_scratch9 ksM vsM off hb) Q) :=
  kvStart_wp c (kvSem 0) 0 d g K V off hb ho (slotOff 0) (slotOff_inb 0) (fun h => rfl) Q
theorem kvStart1_wp (c : Dev nD) (d g : Fin 4) (K V : S4x1024x32x128.Idx → Elt F .f32)
    (off : BitVec 32 → Fin 4 → ℕ) (hb : ∀ h : Fin 8, ∀ i, off (BitVec.ofNat 32 h.val) i + S1x1024x1x128.size i ≤ S4x1024x32x128.size i)
    (ho : ∀ h : Fin 8, off (BitVec.ofNat 32 h.val) = ![d.val, 0, 8 * g.val + h.val, 0]) (Q : PUnit → sProp 𝕄) :
    iprop(hbmHeld c kM K ∗ hbmHeld c vM V ∗ kvFreeAll c 1 ∗ semVal ((c : Thread nD τ), .dma (kvSem 1)) 0)
      ⊢ iprop(((hbmHeld c kM K ∗ hbmHeld c vM V ∗ kvBatch c (kvSem 1) 1 (headAt K d g) (headAt V d g) 16 0) -∗ Q ⟨⟩)
        -∗ WP c (kvStart1 kM vM cc0_scratch9 ksM vsM off hb) Q) :=
  kvStart_wp c (kvSem 1) 1 d g K V off hb ho (slotOff 1) (slotOff_inb 1) (fun h => rfl) Q

theorem kvWait0_wp (c : Dev nD) (O : CellTallies nD τ sig Unit) (Lv : sProp 𝕄) [BI.Persistent Lv]
    (hL : Lv ⊢ MayWait (c : Thread nD τ) (.dma (kvSem 0)) () O) (kT vT : Fin 8 → Vec F S1x1x1024x128 .f32)
    (off : BitVec 32 → Fin 4 → ℕ) (hb : ∀ h : Fin 8, ∀ i, off (BitVec.ofNat 32 h.val) i + S1x1024x1x128.size i ≤ S4x1024x32x128.size i)
    (Q : PUnit → sProp 𝕄) :
    iprop(Lv ∗ ow c O ∗ kvBatch c (kvSem 0) 0 kT vT 16 0)
      ⊢ iprop(((Lv ∗ ow c O ∗ kvAll c 0 kT vT ∗ semVal ((c : Thread nD τ), .dma (kvSem 0)) 0) -∗ Q ⟨⟩)
        -∗ WP c (kvWait0 kM vM cc0_scratch9 ksM vsM off hb) Q) :=
  kvWait_wp c (kvSem 0) O Lv hL 0 kT vT (fun h => off (BitVec.ofNat 32 h.val)) hb (slotOff 0) (slotOff_inb 0) Q
theorem kvWait1_wp (c : Dev nD) (O : CellTallies nD τ sig Unit) (Lv : sProp 𝕄) [BI.Persistent Lv]
    (hL : Lv ⊢ MayWait (c : Thread nD τ) (.dma (kvSem 1)) () O) (kT vT : Fin 8 → Vec F S1x1x1024x128 .f32)
    (off : BitVec 32 → Fin 4 → ℕ) (hb : ∀ h : Fin 8, ∀ i, off (BitVec.ofNat 32 h.val) i + S1x1024x1x128.size i ≤ S4x1024x32x128.size i)
    (Q : PUnit → sProp 𝕄) :
    iprop(Lv ∗ ow c O ∗ kvBatch c (kvSem 1) 1 kT vT 16 0)
      ⊢ iprop(((Lv ∗ ow c O ∗ kvAll c 1 kT vT ∗ semVal ((c : Thread nD τ), .dma (kvSem 1)) 0) -∗ Q ⟨⟩)
        -∗ WP c (kvWait1 kM vM cc0_scratch9 ksM vsM off hb) Q) :=
  kvWait_wp c (kvSem 1) O Lv hL 1 kT vT (fun h => off (BitVec.ofNat 32 h.val)) hb (slotOff 1) (slotOff_inb 1) Q

/-! ## The heads of half a group -/

theorem hb4 : ∀ (n : Fin 4) (h : Fin 8) i, (![256 * n.val, 128 * h.val] : Fin 2 → ℕ) i + S256x128.size i ≤ S1024x1024.size i := by decide

/-- Four heads in a row. -/
theorem heads4_wp (c : Dev nD) (s : Fin 2) (e0 e1 e2 e3 : Fin 8) (h1 : e1.val = e0.val + 1) (h2 : e2.val = e1.val + 1) (h3 : e3.val = e2.val + 1)
    (kT vT : Fin 8 → Vec F S1x1x1024x128 .f32) (qT : S1024x1024.Idx → Elt F .bf16) (n : ℕ) (hn : e3.val < 4 * n)
    {o : Fin 8 → Fin 4 → ℕ} (hb : ∀ h, ∀ i, o h i + S1x1x1024x128.size i ≤ S2x8x1024x128.size i) (ho : ∀ h, o h = ![s.val, h.val, 0, 0])
    (hp : ∀ (n : Fin 4) (h : Fin 8), (Rect.unit (s := S1024x1024) ![256 * n.val, 128 * h.val] S256x128.size (hb4 n h)).PackedRows (EltTy.packing .bf16))
    (Q : PUnit → sProp 𝕄) :
    iprop((kvHeld c s e0 kT vT ∗ kvHeld c s e1 kT vT ∗ kvHeld c s e2 kT vT ∗ kvHeld c s e3 kT vT)
        ∗ qHeld c (Cols n) qT ∗ cxHeld c (Done (4 * e0.val)) (cxT kT vT qT))
      ⊢ iprop((((kvHeld c s e0 kT vT ∗ kvHeld c s e1 kT vT ∗ kvHeld c s e2 kT vT ∗ kvHeld c s e3 kT vT)
        ∗ qHeld c (Cols n) qT ∗ cxHeld c (Done (4 * (e3.val + 1))) (cxT kT vT qT)) -∗ Q ⟨⟩)
        -∗ WP c (do
          headG ksM vsM qsM cxM (Memref.isWhole_whole _) (o e0) (hb e0) (128 * e0.val) (hb4 0 e0) (hp 0 e0) (hb4 1 e0) (hp 1 e0) (hb4 2 e0) (hp 2 e0) (hb4 3 e0) (hp 3 e0)
          headG ksM vsM qsM cxM (Memref.isWhole_whole _) (o e1) (hb e1) (128 * e1.val) (hb4 0 e1) (hp 0 e1) (hb4 1 e1) (hp 1 e1) (hb4 2 e1) (hp 2 e1) (hb4 3 e1) (hp 3 e1)
          headG ksM vsM qsM cxM (Memref.isWhole_whole _) (o e2) (hb e2) (128 * e2.val) (hb4 0 e2) (hp 0 e2) (hb4 1 e2) (hp 1 e2) (hb4 2 e2) (hp 2 e2) (hb4 3 e2) (hp 3 e2)
          headG ksM vsM qsM cxM (Memref.isWhole_whole _) (o e3) (hb e3) (128 * e3.val) (hb4 0 e3) (hp 0 e3) (hb4 1 e3) (hp 1 e3) (hb4 2 e3) (hp 2 e3) (hb4 3 e3) (hp 3 e3)) Q) := by
  have hd : ∀ (e : Fin 8), e.val ≤ e3.val → ∀ i : S1024x1024.Idx, (i 1).val / 128 = e.val → Cols n i := fun e he i hi => by
    unfold Cols; omega
  iintro ⟨⟨K0, K1, K2, K3⟩, Hq, Hc⟩ HQ
  unfold WP
  rw [wp_bind]
  iapply (head_wp c s e0 kT vT qT (Cols n) (hd e0 (by omega)) _ (hb e0) _ (hb4 0 e0) (hp 0 e0) (hb4 1 e0) (hp 1 e0) (hb4 2 e0) (hp 2 e0) (hb4 3 e0) (hp 3 e0)
    (ho e0) rfl _) $$ [K0 Hq Hc]
  · isplitl [K0]; · iexact K0
    isplitl [Hq]; · iexact Hq
    iexact Hc
  iintro ⟨K0, Hq, Hc⟩
  rw [wp_bind, ← h1]
  iapply (head_wp c s e1 kT vT qT (Cols n) (hd e1 (by omega)) _ (hb e1) _ (hb4 0 e1) (hp 0 e1) (hb4 1 e1) (hp 1 e1) (hb4 2 e1) (hp 2 e1) (hb4 3 e1) (hp 3 e1)
    (ho e1) rfl _) $$ [K1 Hq Hc]
  · isplitl [K1]; · iexact K1
    isplitl [Hq]; · iexact Hq
    iexact Hc
  iintro ⟨K1, Hq, Hc⟩
  rw [wp_bind, ← h2]
  iapply (head_wp c s e2 kT vT qT (Cols n) (hd e2 (by omega)) _ (hb e2) _ (hb4 0 e2) (hp 0 e2) (hb4 1 e2) (hp 1 e2) (hb4 2 e2) (hp 2 e2) (hb4 3 e2) (hp 3 e2)
    (ho e2) rfl _) $$ [K2 Hq Hc]
  · isplitl [K2]; · iexact K2
    isplitl [Hq]; · iexact Hq
    iexact Hc
  iintro ⟨K2, Hq, Hc⟩
  rw [← h3]
  iapply (head_wp c s e3 kT vT qT (Cols n) (hd e3 (by omega)) _ (hb e3) _ (hb4 0 e3) (hp 0 e3) (hb4 1 e3) (hp 1 e3) (hb4 2 e3) (hp 2 e3) (hb4 3 e3) (hp 3 e3)
    (ho e3) rfl _) $$ [K3 Hq Hc]
  · isplitl [K3]; · iexact K3
    isplitl [Hq]; · iexact Hq
    iexact Hc
  iintro ⟨K3, Hq, Hc⟩
  iapply HQ
  isplitl [K0 K1 K2 K3]
  · isplitl [K0]; · iexact K0
    isplitl [K1]; · iexact K1
    isplitl [K2] <;> iassumption
  isplitl [Hq] <;> iassumption

theorem hpk : ∀ (n : Fin 4) (h : Fin 8), (Rect.unit (s := S1024x1024) ![256 * n.val, 128 * h.val] S256x128.size (hb4 n h)).PackedRows (EltTy.packing .bf16) := by
  decide

theorem heads0a_wp (c : Dev nD) (kT vT : Fin 8 → Vec F S1x1x1024x128 .f32) (qT : S1024x1024.Idx → Elt F .bf16) (Q : PUnit → sProp 𝕄) :
    iprop((kvHeld c 0 0 kT vT ∗ kvHeld c 0 1 kT vT ∗ kvHeld c 0 2 kT vT ∗ kvHeld c 0 3 kT vT)
        ∗ qHeld c (Cols 1) qT ∗ cxHeld c (Done 0) (cxT kT vT qT))
      ⊢ iprop((((kvHeld c 0 0 kT vT ∗ kvHeld c 0 1 kT vT ∗ kvHeld c 0 2 kT vT ∗ kvHeld c 0 3 kT vT)
        ∗ qHeld c (Cols 1) qT ∗ cxHeld c (Done 16) (cxT kT vT qT)) -∗ Q ⟨⟩)
        -∗ WP c (heads0a ksM vsM qsM cxM (Memref.isWhole_whole _)) Q) :=
  heads4_wp c 0 0 1 2 3 rfl rfl rfl kT vT qT 1 (by decide) (o := slotOff 0) (slotOff_inb 0) (fun _ => rfl) hpk Q
theorem heads0b_wp (c : Dev nD) (kT vT : Fin 8 → Vec F S1x1x1024x128 .f32) (qT : S1024x1024.Idx → Elt F .bf16) (Q : PUnit → sProp 𝕄) :
    iprop((kvHeld c 0 4 kT vT ∗ kvHeld c 0 5 kT vT ∗ kvHeld c 0 6 kT vT ∗ kvHeld c 0 7 kT vT)
        ∗ qHeld c (Cols 2) qT ∗ cxHeld c (Done 16) (cxT kT vT qT))
      ⊢ iprop((((kvHeld c 0 4 kT vT ∗ kvHeld c 0 5 kT vT ∗ kvHeld c 0 6 kT vT ∗ kvHeld c 0 7 kT vT)
        ∗ qHeld c (Cols 2) qT ∗ cxHeld c (Done 32) (cxT kT vT qT)) -∗ Q ⟨⟩)
        -∗ WP c (heads0b ksM vsM qsM cxM (Memref.isWhole_whole _)) Q) :=
  heads4_wp c 0 4 5 6 7 rfl rfl rfl kT vT qT 2 (by decide) (o := slotOff 0) (slotOff_inb 0) (fun _ => rfl) hpk Q
theorem heads1a_wp (c : Dev nD) (kT vT : Fin 8 → Vec F S1x1x1024x128 .f32) (qT : S1024x1024.Idx → Elt F .bf16) (Q : PUnit → sProp 𝕄) :
    iprop((kvHeld c 1 0 kT vT ∗ kvHeld c 1 1 kT vT ∗ kvHeld c 1 2 kT vT ∗ kvHeld c 1 3 kT vT)
        ∗ qHeld c (Cols 1) qT ∗ cxHeld c (Done 0) (cxT kT vT qT))
      ⊢ iprop((((kvHeld c 1 0 kT vT ∗ kvHeld c 1 1 kT vT ∗ kvHeld c 1 2 kT vT ∗ kvHeld c 1 3 kT vT)
        ∗ qHeld c (Cols 1) qT ∗ cxHeld c (Done 16) (cxT kT vT qT)) -∗ Q ⟨⟩)
        -∗ WP c (heads1a ksM vsM qsM cxM (Memref.isWhole_whole _)) Q) :=
  heads4_wp c 1 0 1 2 3 rfl rfl rfl kT vT qT 1 (by decide) (o := slotOff 1) (slotOff_inb 1) (fun _ => rfl) hpk Q
theorem heads1b_wp (c : Dev nD) (kT vT : Fin 8 → Vec F S1x1x1024x128 .f32) (qT : S1024x1024.Idx → Elt F .bf16) (Q : PUnit → sProp 𝕄) :
    iprop((kvHeld c 1 4 kT vT ∗ kvHeld c 1 5 kT vT ∗ kvHeld c 1 6 kT vT ∗ kvHeld c 1 7 kT vT)
        ∗ qHeld c (Cols 2) qT ∗ cxHeld c (Done 16) (cxT kT vT qT))
      ⊢ iprop((((kvHeld c 1 4 kT vT ∗ kvHeld c 1 5 kT vT ∗ kvHeld c 1 6 kT vT ∗ kvHeld c 1 7 kT vT)
        ∗ qHeld c (Cols 2) qT ∗ cxHeld c (Done 32) (cxT kT vT qT)) -∗ Q ⟨⟩)
        -∗ WP c (heads1b ksM vsM qsM cxM (Memref.isWhole_whole _)) Q) :=
  heads4_wp c 1 4 5 6 7 rfl rfl rfl kT vT qT 2 (by decide) (o := slotOff 1) (slotOff_inb 1) (fun _ => rfl) hpk Q

end Cert.KernelIdeal.Attn

end
-- ==== Proof.Protocol.lean ====
/-
  The exchange of weight blocks between the devices: the eleven transfers a device makes, the cells
  they run on, what each hands over, and the rules of a handshake, a transfer and a wait.
-/
module

public import proofs.«01_k».proof.Proof.Kv

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## The ring -/

/-- The device `k` places to the right. -/
def sh (k : ℕ) (c : Dev nD) : Dev nD := (⟨(c.val + k) % 4, Nat.mod_lt _ (by decide)⟩ : Fin 4)

theorem sh_sh (a b : ℕ) (c : Dev nD) : sh a (sh b c) = sh (b + a) c := by
  refine Fin.ext ?_
  show ((c.val + b) % 4 + a) % 4 = (c.val + (b + a)) % 4
  omega
theorem sh_four (c : Dev nD) : sh 4 c = c := by
  refine Fin.ext ?_
  show (c.val + 4) % 4 = c.val
  have : c.val < 4 := c.isLt
  omega
theorem sh_zero (c : Dev nD) : sh 0 c = c := by
  refine Fin.ext ?_
  show (c.val + 0) % 4 = c.val
  have : c.val < 4 := c.isLt
  omega

/-! ## The transfers

  A device makes eleven: its own block by halves to the right (0 to 3) and to the left (4 to 7), the
  first block that came from the left on to the right by halves (8 and 9), the second block that came
  from the right on to the left (10). -/

/-- Which way a transfer goes. -/
def dirOf (t : Fin 11) : ℕ := if t.val < 4 ∨ t.val = 8 ∨ t.val = 9 then 1 else 3
/-- Where it goes from `c`. -/
def tgt (t : Fin 11) (c : Dev nD) : Dev nD := sh (dirOf t) c
/-- Whose block it carries, counted from the sender; from the receiver. -/
def srcO (t : Fin 11) : ℕ := if t.val < 8 then 0 else if t.val < 10 then 3 else 1
def rcvO (t : Fin 11) : ℕ := if t.val < 4 then 3 else if t.val < 8 then 1 else 2

theorem rcvO_tgt : ∀ (t : Fin 11) (c : Dev nD), sh (rcvO t) (tgt t c) = sh (srcO t) c := by decide

/-- A whole weight block of the second row. -/
abbrev rF : Rect S2x1024x1024 := Rect.unit (s := S2x1024x1024) ![1, 0, 0] S1x1024x1024.size Gen.inb_S2x1024x1024_S1x1024x1024_1_0_0

/-- The part of the buffers it covers. -/
def tReg : Fin 11 → Finset S2x1024x1024.Idx :=
  ![(rW 0 0).set, (rW 0 1).set, (rW 1 0).set, (rW 1 1).set, (rW 0 0).set, (rW 0 1).set, (rW 1 0).set, (rW 1 1).set,
    (rW 0 0).set, (rW 0 1).set, rF.set]

/-- A part of the block buffers: from the left 0, from the right 1, the relayed ones 2, the own one 3. -/
def wPt (b : Fin 4) (c : Dev nD) (S : Finset S2x1024x1024.Idx) (q : PosShare TreeShare) (f : S2x1024x1024.Idx → Elt F .bf16) : sProp 𝕄 :=
  match b with
  | 0 => clM.view.loc (c : Thread nD τ) ↦[S]{q} f
  | 1 => crM.view.loc (c : Thread nD τ) ↦[S]{q} f
  | 2 => c2M.view.loc (c : Thread nD τ) ↦[S]{q} f
  | 3 => ownM.view.loc (c : Thread nD τ) ↦[S]{q} f

instance wPt_storable (b : Fin 4) (c : Dev nD) (S : Finset S2x1024x1024.Idx) (q : PosShare TreeShare) (f : S2x1024x1024.Idx → Elt F .bf16) :
    BI.Storable (upEmb : UEmb _ 𝕄) (wPt b c S q f) := by
  unfold wPt
  split <;> infer_instance

def srcB : Fin 11 → Fin 4 := ![3, 3, 3, 3, 3, 3, 3, 3, 0, 0, 1]
def dstB : Fin 11 → Fin 4 := ![0, 0, 0, 0, 1, 1, 1, 1, 2, 2, 2]
/-- The share a transfer takes of what it reads. -/
def sQ (t : Fin 11) : PosShare TreeShare :=
  if t.val < 4 then fullShare.right.left else if t.val < 8 then fullShare.right.right else fullShare.right

/-- What a transfer's receive cell and send cell give: the part landed in, with the block; the part read. -/
def rcvPay (wb : Dev nD → S2x1024x1024.Idx → Elt F .bf16) (c : Dev nD) (t : Fin 11) : sProp 𝕄 :=
  wPt (dstB t) c (tReg t) fullShare (wb (sh (rcvO t) c))
def sndPay (wb : Dev nD → S2x1024x1024.Idx → Elt F .bf16) (c : Dev nD) (t : Fin 11) : sProp 𝕄 :=
  wPt (srcB t) c (tReg t) (sQ t) (wb (sh (srcO t) c))
/-- The part a transfer lands in, at any contents. -/
def free (c : Dev nD) (t : Fin 11) : sProp 𝕄 := iprop(∃ f, wPt (F := F) (dstB t) c (tReg t) fullShare f)

instance rcvPay_storable (wb : Dev nD → S2x1024x1024.Idx → Elt F .bf16) (c : Dev nD) (t : Fin 11) :
    BI.Storable (upEmb : UEmb _ 𝕄) (rcvPay wb c t) := by unfold rcvPay; infer_instance
instance sndPay_storable (wb : Dev nD → S2x1024x1024.Idx → Elt F .bf16) (c : Dev nD) (t : Fin 11) :
    BI.Storable (upEmb : UEmb _ 𝕄) (sndPay wb c t) := by unfold sndPay; infer_instance
instance free_storable (c : Dev nD) (t : Fin 11) :
    BI.Storable (upEmb : UEmb _ 𝕄) (free (F := F) c t) := by unfold free; infer_instance

/-! ## The cells -/

abbrev barS : Sem sig := (SemArray.scalar (sig.barrier 0 rfl) : Sems sig S_).sem

/-- A transfer's receive semaphore (`true`) and send semaphore (`false`). -/
abbrev Tx : Type := Bool × Fin 11
def xNum (x : Tx) : ℕ := if x.1 then (if x.2.val < 8 then 12 + x.2.val else 15 + x.2.val) else (if x.2.val < 8 then 4 + x.2.val else 12 + x.2.val)
theorem xNum_lt : ∀ x : Tx, xNum x < 28 := by decide
def xS (x : Tx) : DmaSem sig := (⟨xNum x, xNum_lt x⟩ : Fin 28)
/-- Which transfer's a semaphore is. -/
def dec (q : DmaSem sig) : Option Tx :=
  if q.val < 4 then none else if q.val < 12 then some (false, Fin.ofNat 11 (q.val - 4)) else if q.val < 20 then some (true, Fin.ofNat 11 (q.val - 12))
  else if q.val < 23 then some (false, Fin.ofNat 11 (q.val - 12)) else if q.val < 26 then some (true, Fin.ofNat 11 (q.val - 15)) else none
theorem dec_xS : ∀ x : Tx, dec (xS x) = some x := by decide

abbrev barCell (c : Dev nD) : GSem nD τ sig := ((c : Thread nD τ), .reg barS)
abbrev xCell (c : Dev nD) (x : Tx) : GSem nD τ sig := ((c : Thread nD τ), .dma (xS x))

/-- The cells of a device: its barrier, then the semaphores of the transfers. -/
def csem (k : Fin 23) : SemLoc sig :=
  if h : k.val = 0 then .reg barS else .dma ((⟨k.val + 3, by have := k.isLt; omega⟩ : Fin 28) : DmaSem sig)
abbrev kcell (ck : Dev nD × Fin 23) : GSem nD τ sig := ((ck.1 : Thread nD τ), csem ck.2)
def xIx (x : Tx) : Fin 23 := Fin.ofNat 23 (xNum x - 3)
theorem csem_xIx : ∀ x : Tx, csem (xIx x) = .dma (xS x) := by decide
theorem csem_zero : csem 0 = .reg barS := rfl

abbrev halfM (M : Memref sig .tc .vmem S2x1024x1024 .bf16) (off : Fin 3 → ℕ) (hb : ∀ i, off i + S1x1024x512.size i ≤ S2x1024x1024.size i) :
    Memref sig .tc .vmem S1024x512 .bf16 :=
  Memref.squeeze (s := S1x1024x512) (M.slice (Rect.unit (s := S2x1024x1024) off S1x1024x512.size hb) (fun _ => rfl)) S1024x512 Gen.squeezes_S1x1024x512_S1024x512
abbrev fullM (M : Memref sig .tc .vmem S2x1024x1024 .bf16) (off : Fin 3 → ℕ) (hb : ∀ i, off i + S1x1024x1024.size i ≤ S2x1024x1024.size i) :
    Memref sig .tc .vmem S1024x1024 .bf16 :=
  Memref.squeeze (s := S1x1024x1024) (M.slice (Rect.unit (s := S2x1024x1024) off S1x1024x1024.size hb) (fun _ => rfl)) S1024x1024 Gen.squeezes_S1x1024x1024_S1024x1024

/-- What a transfer counts. -/
def NN (t : Fin 11) : ℕ :=
  if t.val < 10 then (halfM clM ![0, 0, 0] Gen.inb_S2x1024x1024_S1x1024x512_0_0_0).view.dmaCredit
  else (fullM clM ![1, 0, 0] Gen.inb_S2x1024x1024_S1x1024x1024_1_0_0).view.dmaCredit
theorem NN_pos (t : Fin 11) : 0 < NN t := by
  unfold NN
  split <;> exact View.dmaCredit_pos _ (by decide)

/-! ## The schedule -/

/-- What the two signals of a device's barrier hand it: the right neighbour's (`true`) the parts it lands its right-going
    transfers in, the left neighbour's the rest. -/
def barPay (c : Dev nD) (d : Bool) : sProp 𝕄 :=
  if d then iprop(free (F := F) (sh 1 c) 0 ∗ free (F := F) (sh 1 c) 1 ∗ free (F := F) (sh 1 c) 2 ∗ free (F := F) (sh 1 c) 3 ∗ free (F := F) (sh 1 c) 8 ∗ free (F := F) (sh 1 c) 9)
  else iprop(free (F := F) (sh 3 c) 4 ∗ free (F := F) (sh 3 c) 5 ∗ free (F := F) (sh 3 c) 6 ∗ free (F := F) (sh 3 c) 7 ∗ free (F := F) (sh 3 c) 10)

instance barPay_storable (c : Dev nD) (d : Bool) : BI.Storable (upEmb : UEmb _ 𝕄) (barPay (F := F) c d) := by
  unfold barPay
  split <;> infer_instance

variable (wb : Dev nD → S2x1024x1024.Idx → Elt F .bf16)

def xPay (c : Dev nD) (x : Tx) : sProp 𝕄 := if x.1 then rcvPay wb c x.2 else sndPay wb c x.2
instance xPay_storable (c : Dev nD) (x : Tx) : BI.Storable (upEmb : UEmb _ 𝕄) (xPay wb c x) := by
  unfold xPay
  split <;> infer_instance

def amt (s : SemLoc sig) : ℕ := match s with
  | .reg _ => 1
  | .dma q => match dec q with
    | some x => NN x.2
    | none => 1
theorem amt_pos (s : SemLoc sig) : 0 < amt s := by
  unfold amt
  split
  · exact Nat.one_pos
  · split
    · exact NN_pos _
    · exact Nat.one_pos
def dts (s : SemLoc sig) : Finset Bool := match s with
  | .reg _ => Finset.univ
  | .dma q => if (dec q).isSome then {false} else ∅
def pay (c : Dev nD) (s : SemLoc sig) (d : Bool) : sProp 𝕄 := match s with
  | .reg _ => barPay c d
  | .dma q => match dec q with
    | some x => xPay wb c x
    | none => iprop(emp)

/-- One round: a barrier has a unit from each neighbour, the cell of a transfer what the transfer counts. -/
def rd : Rounds.Schedule (GSem nD τ sig) Bool 𝕄 where
  duties g r := if r = 0 ∧ g.1.2 = .tc then dts g.2 else ∅
  unitless _ := False
  amount g _ _ := amt g.2
  payload g _ d := pay wb g.1.1 g.2 d
  amount_pos g _ _ _ := amt_pos g.2

instance rd_payload_storable (g : GSem nD τ sig) (r : ℕ) (d : Bool) :
    BI.Storable (upEmb : UEmb _ 𝕄) ((rd wb).payload g r d) := by
  show BI.Storable upEmb (pay wb g.1.1 g.2 d)
  unfold pay
  split
  · infer_instance
  · split <;> infer_instance

theorem amt_x (x : Tx) : amt (.dma (xS x)) = NN x.2 := by unfold amt; simp only [dec_xS]
theorem dts_x (x : Tx) : dts (.dma (xS x)) = {false} := by unfold dts; simp only [dec_xS]; rfl
theorem pay_x (c : Dev nD) (x : Tx) (d : Bool) : pay wb c (.dma (xS x)) d = xPay wb c x := by unfold pay; simp only [dec_xS]

theorem duties_bar (c : Dev nD) : (rd wb).duties (barCell c) 0 = Finset.univ := by dsimp only [rd]; exact if_pos ⟨rfl, rfl⟩
theorem duties_x (c : Dev nD) (x : Tx) : (rd wb).duties (xCell c x) 0 = {false} := by
  dsimp only [rd]; rw [if_pos ⟨rfl, rfl⟩]; exact dts_x x
theorem duties_later (g : GSem nD τ sig) : ∀ r, 1 ≤ r → (rd wb).duties g r = ∅ :=
  fun r hr => by dsimp only [rd]; rw [if_neg fun h => by omega]
theorem amount_bar (c : Dev nD) (d : Bool) : (rd wb).amount (barCell c) 0 d = 1 := rfl
theorem amount_x (c : Dev nD) (x : Tx) (d : Bool) : (rd wb).amount (xCell c x) 0 d = NN x.2 := amt_x x
theorem payload_bar (c : Dev nD) (d : Bool) : (rd wb).payload (barCell c) 0 d = barPay c d := rfl
theorem payload_x (c : Dev nD) (x : Tx) (d : Bool) : (rd wb).payload (xCell c x) 0 d = xPay wb c x := pay_x wb c x d
theorem expect_bar (c : Dev nD) : (rd wb).expect (barCell c) 0 = 2 := by
  unfold Schedule.expect Schedule.amountOf
  rw [duties_bar, Finset.sum_congr rfl fun d _ => amount_bar wb c d, Finset.sum_const, Finset.card_univ, Fintype.card_bool, smul_eq_mul]
theorem expect_x (c : Dev nD) (x : Tx) : (rd wb).expect (xCell c x) 0 = NN x.2 := by
  unfold Schedule.expect Schedule.amountOf; rw [duties_x, Finset.sum_singleton, amount_x]
theorem rest_bar (c : Dev nD) : bigSep ((rd wb).duties (barCell c) 0 \ ∅) (fun d => (rd wb).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_x (c : Dev nD) (x : Tx) : bigSep ((rd wb).duties (xCell c x) 0 \ ∅) (fun d => (rd wb).payload (xCell c x) 0 d) = xPay wb c x := by
  rw [Finset.sdiff_empty, duties_x, bigSep_singleton, payload_x]

/-! ## What a device owes; the levels -/

/-- What a device that has yet to make the transfers `l` owes, the first of them last. -/
def owedL (c : Dev nD) : List (Fin 11) → CellTallies nD τ sig Unit
  | [] => 0
  | t :: ts => owedL c ts + tallyAt (xCell (tgt t c) (true, t)) () (NN t)
def allT : List (Fin 11) := [0, 1, 2, 3, 4, 5, 6, 7, 8, 9, 10]
/-- Before the second signal; before both. -/
def O₁ (c : Dev nD) : CellTallies nD τ sig Unit := owedL c allT + tallyAt (barCell (sh 1 c)) () 1
def O₀ (c : Dev nD) : CellTallies nD τ sig Unit := O₁ c + tallyAt (barCell (sh 3 c)) () 1

def L (g : GSem nD τ sig) : Finset Unit := if g.1.2 = .tc then {()} else ∅
/-- Barriers at 1, the first transfers' receive cells at 2, the relays' at 3, everything else at 0. -/
def lvS (s : SemLoc sig) : ℕ := match s with
  | .reg _ => 1
  | .dma q => match dec q with
    | some (true, t) => if t.val < 8 then 2 else 3
    | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem owedL_pos {c : Dev nD} {g : GSem nD τ sig} {u : Unit} : ∀ {l : List (Fin 11)}, 0 < owedL c l g u → ∃ t ∈ l, g = xCell (tgt t c) (true, t)
  | [], h => absurd h (Nat.lt_irrefl 0)
  | t :: ts, h => by
    unfold owedL at h
    rw [Pi.add_apply, Finsupp.add_apply, tallyAt_apply] at h
    by_cases hg : g = xCell (tgt t c) (true, t) ∧ u = ()
    · exact ⟨t, List.mem_cons_self, hg.1⟩
    · rw [if_neg hg, Nat.add_zero] at h
      obtain ⟨t', ht', e⟩ := owedL_pos h
      exact ⟨t', List.mem_cons_of_mem _ ht', e⟩

/-- A wait at a level below every transfer yet to be made. -/
theorem mayWait_list (c : Dev nD) (sm : SemLoc sig) (l : List (Fin 11)) (h : ∀ t ∈ l, lvS sm < lvS (.dma (xS (true, t)))) :
    (levAts L lv : sProp 𝕄) ⊢ MayWait (c : Thread nD τ) sm () (owedL c l) :=
  MayOwe.of_cut (L := L) (lev := lv) (lvS sm) (fun p hp => by rw [Finset.mem_singleton.mp hp, L_tc]; exact Finset.mem_singleton_self _)
    (fun g u hg => by obtain ⟨t, -, rfl⟩ := owedL_pos hg; exact Finset.mem_singleton_self _)
    (fun p hp => by rw [Finset.mem_singleton.mp hp]; exact le_refl _)
    (fun g u hg => by obtain ⟨t, ht, rfl⟩ := owedL_pos hg; exact h t ht)

theorem owedL_pos' (l : List (Fin 11)) {c : Dev nD} {g : GSem nD τ sig} {u : Unit}
    (h : 0 < (owedL c l + tallyAt (barCell (sh 1 c)) () 1 + tallyAt (barCell (sh 3 c)) () 1) g u) :
    (∃ t ∈ l, g = xCell (tgt t c) (true, t)) ∨ g = barCell (sh 1 c) ∨ g = barCell (sh 3 c) := by
  rw [Pi.add_apply, Finsupp.add_apply, Pi.add_apply, Finsupp.add_apply, tallyAt_apply, tallyAt_apply] at h
  by_cases h1 : g = barCell (sh 1 c)
  · exact Or.inr (Or.inl h1)
  by_cases h3 : g = barCell (sh 3 c)
  · exact Or.inr (Or.inr h3)
  rw [if_neg (fun h' => h1 h'.1), if_neg (fun h' => h3 h'.1)] at h
  exact Or.inl (owedL_pos h)
theorem O₀_pos {c : Dev nD} {g : GSem nD τ sig} {u : Unit} (h : 0 < O₀ c g u) :
    (∃ t ∈ allT, g = xCell (tgt t c) (true, t)) ∨ g = barCell (sh 1 c) ∨ g = barCell (sh 3 c) :=
  owedL_pos' allT h

theorem lvS_pos : ∀ t : Fin 11, 0 < lvS (.dma (xS (true, t))) := by decide

theorem mayWait_stage (c : Dev nD) (q : DmaSem sig) (hq : lvS (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, -, rfl⟩ | rfl | rfl <;> exact Finset.mem_singleton_self _)
      (fun p hp => by rw [Finset.mem_singleton.mp hp]; exact le_of_eq hq)
      (fun g u hg => by
        rcases O₀_pos hg with ⟨t, -, rfl⟩ | rfl | rfl
        · exact lvS_pos t
        · exact Nat.one_pos
        · exact Nat.one_pos)
  · rw [MayWait_zero]; iintro -; iempintro

/-! ## The shared records -/

/-- Every cell's invariant, and that it has reached its round. -/
def records (K : Dev nD × Fin 23 → ℕ) : sProp 𝕄 :=
  iprop((bigSep Finset.univ fun ck : Dev nD × Fin 23 => cellInv ER (rd wb) (K ck) (kcell ck))
    ∗ bigSep Finset.univ fun ck : Dev nD × Fin 23 => reached ER (kcell ck) 0)

instance records_persistent (K : Dev nD × Fin 23 → ℕ) : BI.Persistent (records wb K) := by unfold records; infer_instance

variable (K : Dev nD × Fin 23 → ℕ)

theorem rec_at (ck : Dev nD × Fin 23) :
    records wb K ⊢ iprop(cellInv ER (rd wb) (K ck) (kcell ck) ∗ reached ER (kcell ck) 0) := by
  unfold records
  iintro ⟨#HI, #HR⟩
  isplitr
  · iapply (show (bigSep Finset.univ fun ck : Dev nD × Fin 23 => (cellInv ER (rd wb) (K ck) (kcell ck) : sProp 𝕄)) ⊢ _ from bigSep_elim (Finset.mem_univ ck)); iexact HI
  · iapply (show (bigSep Finset.univ fun ck : Dev nD × Fin 23 => (reached ER (kcell ck) 0 : sProp 𝕄)) ⊢ _ from bigSep_elim (Finset.mem_univ ck)); iexact HR
theorem rec_bar (c : Dev nD) : records wb K ⊢ iprop(cellInv ER (rd wb) (K (c, 0)) (barCell c) ∗ reached ER (barCell c) 0) := rec_at wb K (c, 0)
theorem rec_x (c : Dev nD) (x : Tx) : records wb K ⊢ iprop(cellInv ER (rd wb) (K (c, xIx x)) (xCell c x) ∗ reached ER (xCell c x) 0) := by
  have h := rec_at wb K (c, xIx x)
  have e : kcell (c, xIx x) = xCell c x := congrArg (fun s => ((c : Thread nD τ), s)) (csem_xIx x)
  rw [e] at h
  exact h

/-! ## The waits and the transfers -/

/-- What a wait needs of its own: the credit and the place in the round. -/
def wRes (c : Dev nD) (x : Tx) : sProp 𝕄 := iprop(cred (tallyAt (xCell c x) () (NN x.2)) ∗ atPos ER (xCell c x) 0 ∅ 0)

theorem wait_wp (c : Dev nD) (x : Tx) {sh₁ sh₂ : Shape} (src : Memref sig .tc .vmem sh₁ .bf16) (dst : Memref sig .tc .vmem sh₂ .bf16) (sm : DmaSem sig)
    (hsm : sm = xS x) (hN : dst.view.dmaCredit = NN x.2) (l : List (Fin 11)) (hl : ∀ t ∈ l, lvS (.dma (xS x)) < lvS (.dma (xS (true, t))))
    (h1 : src.view.WordExact) (h2 : dst.view.WordExact) {α : Type} (k : PUnit → KProg F α) (Q : α → sProp 𝕄) :
    iprop(records wb K ∗ levAts L lv ∗ wRes c x ∗ ow c (owedL c l))
      ⊢ iprop(((xPay wb c x ∗ ow c (owedL c l) ∗ semVal (xCell c x) 0) -∗ WP c (k ⟨⟩) Q)
        -∗ WP c (.op (.waitDma2 sm src dst h1 h2) k) Q) := by
  subst hsm
  unfold ow WP wRes
  iintro ⟨#HR, #HL, ⟨Hc, Hat⟩, ⟨%W, HO⟩⟩ HQ
  icases (rec_x wb K c x) $$ HR with ⟨#HI, -⟩
  iapply (Rounds.wp_wait_rest_token 𝒱₀ ER (rd wb) (c : Thread nD τ) none (κ := K (c, xIx x))
      (wpE_waitDma2_eq 𝒱₀ (c : Thread nD τ) none Set.univ) (Set.mem_univ _) () (O := owedL c l) (W := W) (R := 0) (m := 0) (T := ∅)
      (by rw [Nat.zero_add, expect_x, hN])) $$ [Hc HO Hat]
  · isplitr; · iexact HI
    isplitl [Hc]; · rw [hN]; iexact Hc
    isplitl [HO]; · iexact HO
    isplitr; · iapply (mayWait_list c _ l hl); iexact HL
    iexact Hat
  iintro ⟨HO, Hat, -, Hpay⟩
  ihave Hp := (Entails.of_eq (rest_x wb c x)) $$ Hpay
  imod (Rounds.cell_close ER (rd wb) (Set.mem_univ (K (c, xIx x))) (fun h => h) (R := 0 + 1) (duties_later wb (xCell c x))) $$ [Hat] with Hz
  · isplitr; · iexact HI
    iexact Hat
  iapply HQ
  isplitl [Hp]; · iexact Hp
  isplitl [HO]; · iexists _; iexact HO
  iexact Hz

/-- What a transfer needs: what it reads, where it lands, and the tokens of its two cells. -/
def sTok (c : Dev nD) (t : Fin 11) : sProp 𝕄 := iprop(dutyTok ER (xCell c (false, t)) 0 false ∗ dutyTok ER (xCell (tgt t c) (true, t)) 0 false)

theorem send_wp (c : Dev nD) (t : Fin 11) {sh₁ : Shape} (src dst : Memref sig .tc .vmem sh₁ .bf16) (p : Dev nD) (snd rcv : DmaSem sig)
    (hp : p = tgt t c) (hs : snd = xS (false, t)) (hr : rcv = xS (true, t)) (hN : dst.view.dmaCredit = NN t)
    (q : PosShare TreeShare) (fs : Buf (Elt F) (src.view.loc (c : Thread nD τ)))
    (hS : sndPay wb c t = (src.view.loc (c : Thread nD τ) ↦[src.view.set]{q} fs : sProp 𝕄))
    (hD : ∀ e : Dev nD, free (F := F) e t ⊢ iprop(∃ fd : Buf (Elt F) (dst.view.loc (e : Thread nD τ)), (dst.view.loc (e : Thread nD τ) ↦[dst.view.set]{fullShare} fd)))
    (hR : ∀ (e : Dev nD) (fd : Buf (Elt F) (dst.view.loc (e : Thread nD τ))), sh (rcvO t) e = sh (srcO t) c →
      ((dst.view.loc (e : Thread nD τ) ↦[dst.view.set]{fullShare} (dst.view.write (Elt F) fd (src.view.read (Elt F) fs) Finset.univ)) : sProp 𝕄) ⊢ rcvPay wb e t)
    (l : List (Fin 11)) {hsc : dst.view.ref.isScScratch = false}
    {hsrc : src.view.WordExact} {hdst : dst.view.WordExact}
    {hsem : DmaTarget.Typed .vmem (.dma rcv) (.remote (Dev.tc p : Thread nD τ) dst (.dma snd) hsc)}
    {α : Type} (k : PUnit → KProg F α) (Q : α → sProp 𝕄) :
    iprop(records wb K ∗ sndPay wb c t ∗ free (F := F) (tgt t c) t ∗ sTok c t ∗ ow c (owedL c (t :: l)))
      ⊢ iprop(((cred (tallyAt (xCell c (false, t)) () (NN t)) ∗ ow c (owedL c l)) -∗ WP c (k ⟨⟩) Q)
        -∗ WP c (.op (.enqueueDma src (.remote (Dev.tc p : Thread nD τ) dst (.dma snd) hsc) (.dma rcv) hsrc hdst hsem) k) Q) := by
  subst hp hs hr
  unfold ow WP sTok
  iintro ⟨#HR, HS, HD, ⟨Ht1, Ht2⟩, ⟨%W, HO⟩⟩ HQ
  icases (rec_x wb K c (false, t)) $$ HR with ⟨#HI1, #HR1⟩
  icases (rec_x wb K (tgt t c) (true, t)) $$ HR with ⟨#HI2, #HR2⟩
  icases (hD (tgt t c)) $$ HD with ⟨%fd, HD⟩
  ihave HS := (Entails.of_eq hS) $$ HS
  iapply (Rounds.wp_send_pointsTo 𝒱₀ ER (rd wb) (c : Thread nD τ) none (κ₁ := K (c, xIx (false, t))) (κ₂ := K (tgt t c, xIx (true, t)))
    (r₁ := 0) (r₂ := 0) (d₁ := false) (d₂ := false) (fd := fd)
    (by rw [duties_x]; exact Finset.mem_singleton_self _) (by rw [duties_x]; exact Finset.mem_singleton_self _)
    () () (NN t) (show dst.view.amount (.dma (xS (true, t))) = NN t from hN) (amount_x wb c (false, t) false) (amount_x wb (tgt t c) (true, t) false) (owedL c l) rfl (W := W)
    (by rw [payload_x]; exact Entails.of_eq hS.symm)
    (by rw [payload_x]; exact hR _ fd (rcvO_tgt t c))) $$ [HS HD HO Ht1 Ht2]
  · isplitr; · iexact HI1
    isplitr; · iexact HI2
    isplitl [HS]; · iexact HS
    isplitl [HD]; · iexact HD
    isplitl [HO]; · iexact HO
    isplitl [Ht1]; · iexact Ht1
    isplitr; · iexact HR1
    isplitl [Ht2]; · iexact Ht2
    iexact HR2
  iintro ⟨Hc, HO⟩
  iapply HQ
  isplitl [Hc]; · iexact Hc
  iexists _; iexact HO

end Cert.KernelIdeal.Attn

end
-- ==== Proof.Steps.lean ====
/-
  The parts of the body that move blocks, as rules: the casts, the handshake, one transfer, one wait,
  and how the buffers fall into the parts transferred.
-/
module

public import proofs.«01_k».proof.Proof.Protocol

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## The parts of the body at their buffers -/

def castsC (c : Dev nD) : KProg F PUnit :=
  casts c xM (Memref.isWhole_whole _) wqM (Memref.isWhole_whole _) kM (Memref.isWhole_whole _) vM (Memref.isWhole_whole _) woM (Memref.isWhole_whole _) oM (Memref.isWhole_whole _) clM (Memref.isWhole_whole _) crM (Memref.isWhole_whole _) c2M (Memref.isWhole_whole _) ownM (Memref.isWhole_whole _)
    cc0_scratch4 cc0_scratch5 cc0_scratch6 cc0_scratch7 cc0_scratch8 cc0_scratch9 ksM (Memref.isWhole_whole _) vsM (Memref.isWhole_whole _) qsM (Memref.isWhole_whole _) cxM (Memref.isWhole_whole _) xbM (Memref.isWhole_whole _)
def greetC (c : Dev nD) : KProg F PUnit :=
  greet c xM (Memref.isWhole_whole _) wqM (Memref.isWhole_whole _) kM (Memref.isWhole_whole _) vM (Memref.isWhole_whole _) woM (Memref.isWhole_whole _) oM (Memref.isWhole_whole _) clM (Memref.isWhole_whole _) crM (Memref.isWhole_whole _) c2M (Memref.isWhole_whole _) ownM (Memref.isWhole_whole _)
    cc0_scratch4 cc0_scratch5 cc0_scratch6 cc0_scratch7 cc0_scratch8 cc0_scratch9 ksM (Memref.isWhole_whole _) vsM (Memref.isWhole_whole _) qsM (Memref.isWhole_whole _) cxM (Memref.isWhole_whole _) xbM (Memref.isWhole_whole _)
def hop1C (c : Dev nD) : KProg F PUnit :=
  hop1 c xM (Memref.isWhole_whole _) wqM (Memref.isWhole_whole _) kM (Memref.isWhole_whole _) vM (Memref.isWhole_whole _) woM (Memref.isWhole_whole _) oM (Memref.isWhole_whole _) clM (Memref.isWhole_whole _) crM (Memref.isWhole_whole _) c2M (Memref.isWhole_whole _) ownM (Memref.isWhole_whole _)
    cc0_scratch4 cc0_scratch5 cc0_scratch6 cc0_scratch7 cc0_scratch8 cc0_scratch9 ksM (Memref.isWhole_whole _) vsM (Memref.isWhole_whole _) qsM (Memref.isWhole_whole _) cxM (Memref.isWhole_whole _) xbM (Memref.isWhole_whole _)
def stage0C (c : Dev nD) : KProg F PUnit :=
  stage0 c xM (Memref.isWhole_whole _) wqM (Memref.isWhole_whole _) kM (Memref.isWhole_whole _) vM (Memref.isWhole_whole _) woM (Memref.isWhole_whole _) oM (Memref.isWhole_whole _) clM (Memref.isWhole_whole _) crM (Memref.isWhole_whole _) c2M (Memref.isWhole_whole _) ownM (Memref.isWhole_whole _)
    cc0_scratch4 cc0_scratch5 cc0_scratch6 cc0_scratch7 cc0_scratch8 cc0_scratch9 ksM (Memref.isWhole_whole _) vsM (Memref.isWhole_whole _) qsM (Memref.isWhole_whole _) cxM (Memref.isWhole_whole _) xbM (Memref.isWhole_whole _)
def stage1C (c : Dev nD) : KProg F PUnit :=
  stage1 c xM (Memref.isWhole_whole _) wqM (Memref.isWhole_whole _) kM (Memref.isWhole_whole _) vM (Memref.isWhole_whole _) woM (Memref.isWhole_whole _) oM (Memref.isWhole_whole _) clM (Memref.isWhole_whole _) crM (Memref.isWhole_whole _) c2M (Memref.isWhole_whole _) ownM (Memref.isWhole_whole _)
    cc0_scratch4 cc0_scratch5 cc0_scratch6 cc0_scratch7 cc0_scratch8 cc0_scratch9 ksM (Memref.isWhole_whole _) vsM (Memref.isWhole_whole _) qsM (Memref.isWhole_whole _) cxM (Memref.isWhole_whole _) xbM (Memref.isWhole_whole _)
def stage2C (c : Dev nD) : KProg F PUnit :=
  stage2 c xM (Memref.isWhole_whole _) wqM (Memref.isWhole_whole _) kM (Memref.isWhole_whole _) vM (Memref.isWhole_whole _) woM (Memref.isWhole_whole _) oM (Memref.isWhole_whole _) clM (Memref.isWhole_whole _) crM (Memref.isWhole_whole _) c2M (Memref.isWhole_whole _) ownM (Memref.isWhole_whole _)
    cc0_scratch4 cc0_scratch5 cc0_scratch6 cc0_scratch7 cc0_scratch8 cc0_scratch9 ksM (Memref.isWhole_whole _) vsM (Memref.isWhole_whole _) qsM (Memref.isWhole_whole _) cxM (Memref.isWhole_whole _) xbM (Memref.isWhole_whole _)
def stage3C (c : Dev nD) : KProg F PUnit :=
  stage3 c xM (Memref.isWhole_whole _) wqM (Memref.isWhole_whole _) kM (Memref.isWhole_whole _) vM (Memref.isWhole_whole _) woM (Memref.isWhole_whole _) oM (Memref.isWhole_whole _) clM (Memref.isWhole_whole _) crM (Memref.isWhole_whole _) c2M (Memref.isWhole_whole _) ownM (Memref.isWhole_whole _)
    cc0_scratch4 cc0_scratch5 cc0_scratch6 cc0_scratch7 cc0_scratch8 cc0_scratch9 ksM (Memref.isWhole_whole _) vsM (Memref.isWhole_whole _) qsM (Memref.isWhole_whole _) cxM (Memref.isWhole_whole _) xbM (Memref.isWhole_whole _)
def drainC (c : Dev nD) : KProg F PUnit :=
  drain c xM (Memref.isWhole_whole _) wqM (Memref.isWhole_whole _) kM (Memref.isWhole_whole _) vM (Memref.isWhole_whole _) woM (Memref.isWhole_whole _) oM (Memref.isWhole_whole _) clM (Memref.isWhole_whole _) crM (Memref.isWhole_whole _) c2M (Memref.isWhole_whole _) ownM (Memref.isWhole_whole _)
    cc0_scratch4 cc0_scratch5 cc0_scratch6 cc0_scratch7 cc0_scratch8 cc0_scratch9 ksM (Memref.isWhole_whole _) vsM (Memref.isWhole_whole _) qsM (Memref.isWhole_whole _) cxM (Memref.isWhole_whole _) xbM (Memref.isWhole_whole _)

/-! ## The casts -/

/-- A device's weight block in the narrow type: its columns of the query weights, its rows of the output weights. -/
def ownF (wq wo : S1024x1024.Idx → Elt F .f32) : S2x1024x1024.Idx → Elt F .bf16 := fun i =>
  ownVal (if (i 0).val = 0 then wq else wo)
    (ix3 (0 : Fin 1) (⟨(i 1).val, (i 1).isLt⟩ : Fin 1024) (⟨(i 2).val, (i 2).isLt⟩ : Fin 1024))

/-- The first `n` rows of a block buffer. -/
def Rows (n : ℕ) (i : S2x1024x1024.Idx) : Prop := (i 0).val < n

theorem own_agree (wq wo : S1024x1024.Idx → Elt F .f32) (f : S2x1024x1024.Idx → Elt F .bf16) (a : Fin 2)
    (hb : ∀ i, (![a.val, 0, 0] : Fin 3 → ℕ) i + S1x1024x1024.size i ≤ S2x1024x1024.size i)
    (hf : Agree (Rows a.val) f (ownF wq wo)) :
    Agree (Rows (a.val + 1)) ((ownM.access (Rect.unit (s := S2x1024x1024) ![a.val, 0, 0] S1x1024x1024.size hb) : View sig .tc _ _ _).write (Elt F) f
      (ownVal (if a.val = 0 then wq else wo)) Finset.univ) (ownF wq wo) := by
  have ha := a.isLt
  refine agree_write (b := cc0_scratch3) _ hf (fun j => ?_) fun i hi => ?_
  · have h0 : (j 0).val < 1 := (j 0).isLt
    have e0 : (((Rect.unit (s := S2x1024x1024) ![a.val, 0, 0] S1x1024x1024.size hb).emb j) 0).val = a.val := by
      rw [Rect.emb_apply]; simp; omega
    have e1 : (((Rect.unit (s := S2x1024x1024) ![a.val, 0, 0] S1x1024x1024.size hb).emb j) 1).val = (j 1).val := by
      rw [Rect.emb_apply]; simp
    have e2 : (((Rect.unit (s := S2x1024x1024) ![a.val, 0, 0] S1x1024x1024.size hb).emb j) 2).val = (j 2).val := by
      rw [Rect.emb_apply]; simp
    unfold ownF
    rw [e0]
    refine congrArg _ ?_
    funext x; refine Fin.ext ?_
    match x with
    | ⟨0, _⟩ => show (j 0).val = 0; omega
    | ⟨1, _⟩ => exact e1.symm
    | ⟨2, _⟩ => exact e2.symm
  · have i0 : (i 0).val < 2 := (i 0).isLt
    have i1 : (i 1).val < 1024 := (i 1).isLt
    have i2 : (i 2).val < 1024 := (i 2).isLt
    by_cases hd : Rows a.val i
    · exact Or.inl hd
    · refine Or.inr (Rect.mem_set_unit.2 fun x => ?_)
      unfold Rows at hi hd
      match x with
      | ⟨0, _⟩ => show a.val ≤ (i 0).val ∧ (i 0).val < a.val + 1; omega
      | ⟨1, _⟩ => show 0 ≤ (i 1).val ∧ (i 1).val < 0 + 1024; omega
      | ⟨2, _⟩ => show 0 ≤ (i 2).val ∧ (i 2).val < 0 + 1024; omega

abbrev rSq : Rect S1024x1024 := Rect.unit (s := S1024x1024) ![0, 0] S1024x1024.size Gen.inb_S1024x1024_S1024x1024_0_0
abbrev rX : Rect S1x1024x1024 := Rect.unit (s := S1x1024x1024) ![0, 0, 0] S1x1024x1024.size Gen.inb_S1x1024x1024_S1x1024x1024_0_0_0
abbrev rRow0 : Rect S2x1024x1024 := Rect.unit (s := S2x1024x1024) ![0, 0, 0] S1x1024x1024.size Gen.inb_S2x1024x1024_S1x1024x1024_0_0_0

theorem z3 : (![0, 0, 0] : Fin 3 → Nat) = fun _ => 0 := funext fun a => by fin_cases a <;> rfl

theorem casts_wp (c : Dev nD) (x : S1x1024x1024.Idx → Elt F .f32) (wq wo : S1024x1024.Idx → Elt F .f32) (Q : PUnit → sProp 𝕄) :
    iprop(held c xM x ∗ held c wqM wq ∗ held c woM wo ∗ (∃ f, held c ownM f) ∗ (∃ f, held c xbM f))
      ⊢ iprop(((held c xM x ∗ held c wqM wq ∗ held c woM wo ∗ held c ownM (ownF wq wo) ∗ held c xbM (xVal x)) -∗ Q ⟨⟩)
        -∗ WP c (castsC c) Q) := by
  unfold castsC casts
  iintro ⟨Hx, Hq, Ho, ⟨%f, Hf⟩, ⟨%g, Hg⟩⟩ HQ
  simp only [Prog.lift, Prog.bind_op, Prog.bind_ret]
  iapply (wp_load_rect 𝒱₀ (c : Thread nD τ) none Set.univ (m := wqM) (r := rSq) (f := wq) (q := fullShare) (S := Finset.univ) (Finset.subset_univ _)) $$ Hq
  iintro Hq
  iapply (wp_load_rect 𝒱₀ (c : Thread nD τ) none Set.univ (m := ownM) (r := rRow0) (f := f) (q := fullShare) (S := Finset.univ) (Finset.subset_univ _)) $$ Hf
  iintro Hf
  iapply (wp_store 𝒱₀ (c : Thread nD τ) none Set.univ (m := ownM) (r := rRow0) (f := f) (S := Finset.univ) (Finset.subset_univ _)) $$ Hf
  iintro Hf
  iapply (wp_load_rect 𝒱₀ (c : Thread nD τ) none Set.univ (m := woM) (r := rSq) (f := wo) (q := fullShare) (S := Finset.univ) (Finset.subset_univ _)) $$ Ho
  iintro Ho
  iapply (wp_load_rect 𝒱₀ (c : Thread nD τ) none Set.univ (m := ownM) (r := rF) (q := fullShare) (S := Finset.univ) (Finset.subset_univ _)) $$ Hf
  iintro Hf
  iapply (wp_store 𝒱₀ (c : Thread nD τ) none Set.univ (m := ownM) (r := rF) (S := Finset.univ) (Finset.subset_univ _)) $$ Hf
  iintro Hf
  iapply (wp_load_rect 𝒱₀ (c : Thread nD τ) none Set.univ (m := xM) (r := rX) (f := x) (q := fullShare) (S := Finset.univ) (Finset.subset_univ _)) $$ Hx
  iintro Hx
  iapply (wp_load_rect 𝒱₀ (c : Thread nD τ) none Set.univ (m := xbM) (r := rSq) (f := g) (q := fullShare) (S := Finset.univ) (Finset.subset_univ _)) $$ Hg
  iintro Hg
  iapply (wp_store 𝒱₀ (c : Thread nD τ) none Set.univ (m := xbM) (r := rSq) (f := g) (S := Finset.univ) (Finset.subset_univ _)) $$ Hg
  iintro Hg
  have hq : (wqM.access (Rect.unit (s := S1024x1024) ![0, 0] S1024x1024.size Gen.inb_S1024x1024_S1024x1024_0_0) : View sig .tc _ _ _).read (Elt F) wq = wq :=
    Memref.read_access_unit_zero (Elt F) cc0_stg1_0 z2 _ wq
  have ho : (woM.access (Rect.unit (s := S1024x1024) ![0, 0] S1024x1024.size Gen.inb_S1024x1024_S1024x1024_0_0) : View sig .tc _ _ _).read (Elt F) wo = wo :=
    Memref.read_access_unit_zero (Elt F) cc0_stg2_0 z2 _ wo
  have hx : (xM.access (Rect.unit (s := S1x1024x1024) ![0, 0, 0] S1x1024x1024.size Gen.inb_S1x1024x1024_S1x1024x1024_0_0_0) : View sig .tc _ _ _).read (Elt F) x = x :=
    Memref.read_access_unit_zero (Elt F) cc0_stg0_0 z3 _ x
  have hg : ∀ w, (xbM.access (Rect.unit (s := S1024x1024) ![0, 0] S1024x1024.size Gen.inb_S1024x1024_S1024x1024_0_0) : View sig .tc _ _ _).write (Elt F) g w Finset.univ = w :=
    fun w => Memref.write_access_unit_zero_univ (Elt F) cc0_scratch14 z2 _ g w
  rw [hq, ho, hx, hg]
  have h0 := own_agree wq wo f 0 Gen.inb_S2x1024x1024_S1x1024x1024_0_0_0 (fun i hi => absurd hi (Nat.not_lt_zero _))
  have h1 := own_agree wq wo _ 1 Gen.inb_S2x1024x1024_S1x1024x1024_1_0_0 h0
  have h2 := funext fun i => h1 i (show (i 0).val < 2 from (i 0).isLt)
  rw [wp_ret]
  imodintro
  iapply HQ
  isplitl [Hx]; · iexact Hx
  isplitl [Hq]; · iexact Hq
  isplitl [Ho]; · iexact Ho
  isplitl [Hf]; · rw [← h2]; iexact Hf
  iexact Hg

/-! ## The handshake -/

variable (wb : Dev nD → S2x1024x1024.Idx → Elt F .bf16) (K : Dev nD × Fin 23 → ℕ)

/-- A device's places in the blocks it is sent: all that is handed over by its two signals. -/
def frees1 (c : Dev nD) : sProp 𝕄 :=
  iprop(free (F := F) c 0 ∗ free (F := F) c 1 ∗ free (F := F) c 2 ∗ free (F := F) c 3 ∗ free (F := F) c 8 ∗ free (F := F) c 9)
def frees3 (c : Dev nD) : sProp 𝕄 :=
  iprop(free (F := F) c 4 ∗ free (F := F) c 5 ∗ free (F := F) c 6 ∗ free (F := F) c 7 ∗ free (F := F) c 10)

theorem lvS_bar : ∀ t ∈ allT, lvS (.reg barS) < lvS (.dma (xS (true, t))) := by decide

theorem greet_wp (c : Dev nD) (Q : PUnit → sProp 𝕄) :
    iprop(records wb K ∗ levAts L lv ∗ ow c (O₀ c) ∗ dutyTok ER (barCell (sh 3 c)) 0 true ∗ dutyTok ER (barCell (sh 1 c)) 0 false
        ∗ cred (tallyAt (barCell c) () 2) ∗ atPos ER (barCell c) 0 ∅ 0 ∗ frees1 (F := F) c ∗ frees3 (F := F) c)
      ⊢ iprop(((frees1 (F := F) (sh 1 c) ∗ frees3 (F := F) (sh 3 c) ∗ ow c (owedL c allT) ∗ semVal (barCell c) 0) -∗ Q ⟨⟩)
        -∗ WP c (greetC c) Q) := by
  unfold greetC greet ow WP
  have e1 : (⟨k0_dev1 c, Gen.k0_dev1_lt c⟩ : Dev nD) = sh 3 c := Fin.ext (Gen.k0_dev1_eq c)
  have e2 : (⟨k0_dev2 c, Gen.k0_dev2_lt c⟩ : Dev nD) = sh 1 c := Fin.ext (Gen.k0_dev2_eq c)
  have e3 : sh 1 (sh 3 c) = c := (sh_sh 1 3 c).trans (sh_four c)
  have e4 : sh 3 (sh 1 c) = c := (sh_sh 3 1 c).trans (sh_four c)
  iintro ⟨#HR, #HL, ⟨%W, HO⟩, Ht1, Ht2, Hc, Hat, Hf1, Hf3⟩ HQ
  simp only [semSignalWord, semWaitWord, Prog.lift, Prog.bind_op, Prog.bind_ret, Prog.pure_eq_ret]
  simp only [e1, e2]
  icases (rec_bar wb K c) $$ HR with ⟨#HI, -⟩
  icases (rec_bar wb K (sh 3 c)) $$ HR with ⟨#HI3, #HR3⟩
  icases (rec_bar wb K (sh 1 c)) $$ HR with ⟨#HI1, #HR1⟩
  unfold O₀
  iapply (Rounds.wp_signal 𝒱₀ ER (rd wb) (c : Thread nD τ) none (dst := (sh 3 c : Thread nD τ)) (κ := K (sh 3 c, 0))
      (d := true) (by rw [duties_bar]; exact Finset.mem_univ _) ((amount_bar wb (sh 3 c) true).trans (by decide)) () (O₁ c) rfl)
    $$ [HO Ht1 Hf1]
  · isplitr; · iexact HI3
    isplitl [HO]; · iexact HO
    isplitl [Ht1]; · iexact Ht1
    isplitl [Hf1]
    · rw [payload_bar]
      unfold barPay
      rw [if_pos rfl, e3]
      unfold frees1
      iexact Hf1
    iexact HR3
  iintro HO
  unfold O₁
  iapply (Rounds.wp_signal 𝒱₀ ER (rd wb) (c : Thread nD τ) none (dst := (sh 1 c : Thread nD τ)) (κ := K (sh 1 c, 0))
      (d := false) (by rw [duties_bar]; exact Finset.mem_univ _) ((amount_bar wb (sh 1 c) false).trans (by decide)) () (owedL c allT) rfl)
    $$ [HO Ht2 Hf3]
  · isplitr; · iexact HI1
    isplitl [HO]; · iexact HO
    isplitl [Ht2]; · iexact Ht2
    isplitl [Hf3]
    · rw [payload_bar]
      unfold barPay
      rw [if_neg Bool.false_ne_true, e4]
      unfold frees3
      iexact Hf3
    iexact HR1
  iintro HO
  iapply (Rounds.wp_wait_rest_token 𝒱₀ ER (rd wb) (c : Thread nD τ) none (κ := K (c, 0))
      (wpE_semWait_eq 𝒱₀ (c : Thread nD τ) none Set.univ) (Set.mem_univ _) () (O := owedL c allT) (W := W) (R := 0) (m := 0) (T := ∅)
      (by rw [expect_bar]; decide)) $$ [Hc HO Hat]
  · isplitr; · iexact HI
    isplitl [Hc]; · iexact Hc
    isplitl [HO]; · iexact HO
    isplitr; · iapply (mayWait_list c _ allT lvS_bar); iexact HL
    iexact Hat
  iintro ⟨HO, Hat, -, Hpay⟩
  ihave Hp := (Entails.of_eq (rest_bar wb c)) $$ Hpay
  imod (Rounds.cell_close ER (rd wb) (Set.mem_univ (K (c, 0))) (fun h => h) (R := 0 + 1) (duties_later wb (barCell c))) $$ [Hat] with Hz
  · isplitr; · iexact HI
    iexact Hat
  unfold barPay
  rw [if_pos rfl, if_neg Bool.false_ne_true]
  icases Hp with ⟨Hp3, Hp1⟩
  rw [wp_ret]
  imodintro
  iapply HQ
  isplitl [Hp1]; · unfold frees1; iexact Hp1
  isplitl [Hp3]; · unfold frees3; iexact Hp3
  isplitl [HO]; · iexists _; iexact HO
  iexact Hz

end Cert.KernelIdeal.Attn

end
-- ==== Proof.Xfer.lean ====
/-
  The transfers and the waits of the body at the buffers they are made on, and how a block buffer falls
  into the parts transferred.
-/
module

public import proofs.«01_k».proof.Proof.Steps

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## The parts of a block buffer -/

theorem set_half (a e : Fin 2) (off : Fin 3 → ℕ) (hb : ∀ i, off i + S1x1024x512.size i ≤ S2x1024x1024.size i)
    (ho : off = ![a.val, 0, 512 * e.val]) :
    (halfM clM off hb).view.set = (rW a e).set ∧ (halfM crM off hb).view.set = (rW a e).set
      ∧ (halfM c2M off hb).view.set = (rW a e).set ∧ (halfM ownM off hb).view.set = (rW a e).set := by
  subst ho
  exact ⟨(View.set_reshape _ _).trans (View.set_slice_whole cc0_scratch0 _), (View.set_reshape _ _).trans (View.set_slice_whole cc0_scratch1 _),
    (View.set_reshape _ _).trans (View.set_slice_whole cc0_scratch2 _), (View.set_reshape _ _).trans (View.set_slice_whole cc0_scratch3 _)⟩
theorem set_full (off : Fin 3 → ℕ) (hb : ∀ i, off i + S1x1024x1024.size i ≤ S2x1024x1024.size i) (ho : off = ![1, 0, 0]) :
    (fullM clM off hb).view.set = rF.set ∧ (fullM crM off hb).view.set = rF.set
      ∧ (fullM c2M off hb).view.set = rF.set ∧ (fullM ownM off hb).view.set = rF.set := by
  subst ho
  exact ⟨(View.set_reshape _ _).trans (View.set_slice_whole cc0_scratch0 _), (View.set_reshape _ _).trans (View.set_slice_whole cc0_scratch1 _),
    (View.set_reshape _ _).trans (View.set_slice_whole cc0_scratch2 _), (View.set_reshape _ _).trans (View.set_slice_whole cc0_scratch3 _)⟩

theorem mem_rW (a e : Fin 2) (i : S2x1024x1024.Idx) : i ∈ (rW a e).set ↔ (i 0).val = a.val ∧ (i 2).val / 512 = e.val := by
  have i0 : (i 0).val < 2 := (i 0).isLt
  have i1 : (i 1).val < 1024 := (i 1).isLt
  have i2 : (i 2).val < 1024 := (i 2).isLt
  rw [Rect.mem_set_unit]
  constructor
  · intro h
    have h0 : a.val ≤ (i 0).val ∧ (i 0).val < a.val + 1 := h 0
    have h2 : 512 * e.val ≤ (i 2).val ∧ (i 2).val < 512 * e.val + 512 := h 2
    omega
  · rintro ⟨h0, h2⟩ x
    match x with
    | ⟨0, _⟩ => show a.val ≤ (i 0).val ∧ (i 0).val < a.val + 1; omega
    | ⟨1, _⟩ => show 0 ≤ (i 1).val ∧ (i 1).val < 0 + 1024; omega
    | ⟨2, _⟩ => show 512 * e.val ≤ (i 2).val ∧ (i 2).val < 512 * e.val + 512; omega
theorem mem_rF (i : S2x1024x1024.Idx) : i ∈ rF.set ↔ (i 0).val = 1 := by
  have i0 : (i 0).val < 2 := (i 0).isLt
  have i1 : (i 1).val < 1024 := (i 1).isLt
  have i2 : (i 2).val < 1024 := (i 2).isLt
  rw [Rect.mem_set_unit]
  constructor
  · intro h
    have h0 : 1 ≤ (i 0).val ∧ (i 0).val < 1 + 1 := h 0
    omega
  · rintro h x
    match x with
    | ⟨0, _⟩ => show 1 ≤ (i 0).val ∧ (i 0).val < 1 + 1; omega
    | ⟨1, _⟩ => show 0 ≤ (i 1).val ∧ (i 1).val < 0 + 1024; omega
    | ⟨2, _⟩ => show 0 ≤ (i 2).val ∧ (i 2).val < 0 + 1024; omega

theorem rW_sub_rF (e : Fin 2) : (rW 1 e).set ⊆ rF.set := fun i hi => (mem_rF i).2 ((mem_rW 1 e i).1 hi).1

theorem rF_eq : rF.set = (rW 1 0).set ∪ (rW 1 1).set := by
  ext i
  have i2 : (i 2).val < 1024 := (i 2).isLt
  rw [Finset.mem_union, mem_rF, mem_rW, mem_rW]
  constructor
  · intro h
    by_cases h2 : (i 2).val / 512 = 0
    · exact Or.inl ⟨h, h2⟩
    · exact Or.inr ⟨h, by show _ = 1; omega⟩
  · rintro (h | h) <;> exact h.1
theorem univ_eq : (Finset.univ : Finset S2x1024x1024.Idx) = (rW 0 0).set ∪ ((rW 0 1).set ∪ rF.set) := by
  ext i
  have i0 : (i 0).val < 2 := (i 0).isLt
  have i2 : (i 2).val < 1024 := (i 2).isLt
  rw [Finset.mem_union, Finset.mem_union, mem_rF, mem_rW, mem_rW]
  refine ⟨fun _ => ?_, fun _ => Finset.mem_univ _⟩
  show ((i 0).val = 0 ∧ (i 2).val / 512 = 0) ∨ ((i 0).val = 0 ∧ (i 2).val / 512 = 1) ∨ (i 0).val = 1
  omega
theorem disj_row : Disjoint (rW 1 0).set (rW 1 1).set := Finset.disjoint_left.2 fun i h h' => by
  have h := ((mem_rW 1 0 i).1 h).2
  have h' := ((mem_rW 1 1 i).1 h').2
  rw [h] at h'
  exact absurd h' (by decide)
theorem disj_01 : Disjoint (rW 0 1).set rF.set := Finset.disjoint_left.2 fun i h h' => by
  have h := ((mem_rW 0 1 i).1 h).1
  rw [(mem_rF i).1 h'] at h
  exact absurd h (by decide)
theorem disj_0 : Disjoint (rW 0 0).set ((rW 0 1).set ∪ rF.set) := Finset.disjoint_left.2 fun i h h' => by
  have h := (mem_rW 0 0 i).1 h
  rcases Finset.mem_union.1 h' with h' | h'
  · have h' := ((mem_rW 0 1 i).1 h').2
    rw [h.2] at h'
    exact absurd h' (by decide)
  · have h := h.1
    rw [(mem_rF i).1 h'] at h
    exact absurd h (by decide)

theorem wPt_share (b : Fin 4) (c : Dev nD) (S : Finset S2x1024x1024.Idx) (q : PosShare TreeShare) (f : S2x1024x1024.Idx → Elt F .bf16) :
    wPt b c S q f ⊣⊢ iprop(wPt b c S q.left f ∗ wPt b c S q.right f) := by
  unfold wPt
  split <;> exact pointsTo_share (PosShare.mem_left_op_right _)
theorem wPt_union (b : Fin 4) (c : Dev nD) (S T : Finset S2x1024x1024.Idx) (h : Disjoint S T) (q : PosShare TreeShare)
    (f : S2x1024x1024.Idx → Elt F .bf16) : wPt b c (S ∪ T) q f ⊣⊢ iprop(wPt b c S q f ∗ wPt b c T q f) := by
  unfold wPt
  split <;> exact pointsTo_union h
/-- The second row by halves. -/
theorem wPt_row (b : Fin 4) (c : Dev nD) (q : PosShare TreeShare) (f : S2x1024x1024.Idx → Elt F .bf16) :
    wPt b c rF.set q f ⊣⊢ iprop(wPt b c (rW 1 0).set q f ∗ wPt b c (rW 1 1).set q f) := by
  rw [rF_eq]; exact wPt_union b c _ _ disj_row q f
/-- A buffer by the halves of its first row and its second row. -/
theorem wPt_three (b : Fin 4) (c : Dev nD) (q : PosShare TreeShare) (f : S2x1024x1024.Idx → Elt F .bf16) :
    wPt b c Finset.univ q f ⊣⊢ iprop(wPt b c (rW 0 0).set q f ∗ wPt b c (rW 0 1).set q f ∗ wPt b c rF.set q f) := by
  rw [univ_eq]
  have h1 := wPt_union b c _ _ disj_0 q f
  have h2 := wPt_union b c _ _ disj_01 q f
  constructor
  · exact h1.1.trans (BI.sep_mono (BI.Entails.refl _) h2.1)
  · exact (BI.sep_mono (BI.Entails.refl _) h2.2).trans h1.2

/-! ## One transfer -/

/-- What lands of a block is the block, on the part landed in. -/
theorem land (e : Dev nD) {sh₁ : Shape} (dst : Memref sig .tc .vmem sh₁ .bf16) (fd g : Buf (Elt F) (dst.view.loc (e : Thread nD τ))) :
    ((dst.view.loc (e : Thread nD τ) ↦[dst.view.set]{fullShare} (dst.view.write (Elt F) fd (dst.view.read (Elt F) g) Finset.univ)) : sProp 𝕄)
      = (dst.view.loc (e : Thread nD τ) ↦[dst.view.set]{fullShare} g) :=
  pointsTo_congr fun i hi => by rw [View.write_read_eq_piecewise, View.setOn_univ, Finset.piecewise_eq_of_mem _ _ _ hi]

variable (wb : Dev nD → S2x1024x1024.Idx → Elt F .bf16) (K : Dev nD × Fin 23 → ℕ)

/-- What a transfer needs besides what it reads: where it lands, its two cells' tokens, and the place in the round of its send. -/
def sRest (c : Dev nD) (t : Fin 11) : sProp 𝕄 :=
  iprop(free (F := F) (tgt t c) t ∗ sTok (F := F) c t ∗ atPos ER (xCell c (false, t)) 0 ∅ 0)
/-- What a transfer needs. -/
def sIn (c : Dev nD) (t : Fin 11) : sProp 𝕄 := iprop(sndPay wb c t ∗ sRest (F := F) c t)

/-- Half of the device's own block goes to the right. -/
theorem sendR_wp (c : Dev nD) (t : Fin 11) (a e : Fin 2) (hB : srcB t = 3) (hd : dstB t = 0) (hreg : tReg t = (rW a e).set)
    (h1 : ownM.IsWhole) (h2 : clM.IsWhole) (p : Dev nD) (snd rcv : DmaSem sig) (off : Fin 3 → ℕ)
    (hb : ∀ i, off i + S1x1024x512.size i ≤ S2x1024x1024.size i)
    (hw : (Rect.unit (s := S2x1024x1024) off S1x1024x512.size hb).WholeWords (EltTy.packing .bf16)) (ho : off = ![a.val, 0, 512 * e.val])
    (hp : p = tgt t c) (hs : snd = xS (false, t)) (hr : rcv = xS (true, t)) (hN : (halfM clM off hb).view.dmaCredit = NN t)
    (l : List (Fin 11)) (Q : PUnit → sProp 𝕄) :
    iprop(records wb K ∗ sIn wb c t ∗ ow c (owedL c (t :: l)))
      ⊢ iprop(((wRes c (false, t) ∗ ow c (owedL c l)) -∗ Q ⟨⟩) -∗ WP c (sendOwnG ownM clM h1 h2 p snd rcv off hb hw) Q) := by
  unfold sendOwnG sIn sRest wRes
  simp only [Prog.lift]
  iintro ⟨#HR, ⟨HS, HD, Ht, Hat⟩, HO⟩ HQ
  iapply (send_wp wb K c t (halfM ownM off hb) (halfM clM off hb) p snd rcv hp hs hr hN (sQ t) (wb (sh (srcO t) c))
    (by
      unfold sndPay; rw [hB, hreg]
      exact congrArg (fun S : Finset S2x1024x1024.Idx => (ownM.view.loc (c : Thread nD τ) ↦[S]{sQ t} wb (sh (srcO t) c) : sProp 𝕄)) (set_half a e off hb ho).2.2.2.symm)
    (fun d => by
      unfold free; rw [hd, hreg]
      iintro ⟨%f, H⟩
      iexists f
      iapply (show wPt 0 d (rW a e).set fullShare f ⊢ _ from Entails.of_eq (congrArg (fun S : Finset S2x1024x1024.Idx => (clM.view.loc (d : Thread nD τ) ↦[S]{fullShare} f : sProp 𝕄)) (set_half a e off hb ho).1.symm)) $$ H)
    (fun d fd he => by
      unfold rcvPay; rw [hd, hreg, he]
      exact (Entails.of_eq (land d (halfM clM off hb) fd (wb (sh (srcO t) c)))).trans
        (Entails.of_eq (congrArg (fun S : Finset S2x1024x1024.Idx => (clM.view.loc (d : Thread nD τ) ↦[S]{fullShare} wb (sh (srcO t) c) : sProp 𝕄)) (set_half a e off hb ho).1)))
    l) $$ [HS HD Ht HO]
  · isplitr; · iexact HR
    isplitl [HS]; · iexact HS
    isplitl [HD]; · iexact HD
    isplitl [Ht]; · iexact Ht
    iexact HO
  iintro ⟨Hc, HO⟩
  rw [WP, wp_ret]
  imodintro
  iapply HQ
  isplitl [Hc Hat]
  · isplitl [Hc]; · iexact Hc
    iexact Hat
  iexact HO

/-- Half of the device's own block goes to the left. -/
theorem sendL_wp (c : Dev nD) (t : Fin 11) (a e : Fin 2) (hB : srcB t = 3) (hd : dstB t = 1) (hreg : tReg t = (rW a e).set)
    (h1 : ownM.IsWhole) (h2 : crM.IsWhole) (p : Dev nD) (snd rcv : DmaSem sig) (off : Fin 3 → ℕ)
    (hb : ∀ i, off i + S1x1024x512.size i ≤ S2x1024x1024.size i)
    (hw : (Rect.unit (s := S2x1024x1024) off S1x1024x512.size hb).WholeWords (EltTy.packing .bf16)) (ho : off = ![a.val, 0, 512 * e.val])
    (hp : p = tgt t c) (hs : snd = xS (false, t)) (hr : rcv = xS (true, t)) (hN : (halfM crM off hb).view.dmaCredit = NN t)
    (l : List (Fin 11)) (Q : PUnit → sProp 𝕄) :
    iprop(records wb K ∗ sIn wb c t ∗ ow c (owedL c (t :: l)))
      ⊢ iprop(((wRes c (false, t) ∗ ow c (owedL c l)) -∗ Q ⟨⟩) -∗ WP c (sendOwnG ownM crM h1 h2 p snd rcv off hb hw) Q) := by
  unfold sendOwnG sIn sRest wRes
  simp only [Prog.lift]
  iintro ⟨#HR, ⟨HS, HD, Ht, Hat⟩, HO⟩ HQ
  iapply (send_wp wb K c t (halfM ownM off hb) (halfM crM off hb) p snd rcv hp hs hr hN (sQ t) (wb (sh (srcO t) c))
    (by
      unfold sndPay; rw [hB, hreg]
      exact congrArg (fun S : Finset S2x1024x1024.Idx => (ownM.view.loc (c : Thread nD τ) ↦[S]{sQ t} wb (sh (srcO t) c) : sProp 𝕄)) (set_half a e off hb ho).2.2.2.symm)
    (fun d => by
      unfold free; rw [hd, hreg]
      iintro ⟨%f, H⟩
      iexists f
      iapply (show wPt 1 d (rW a e).set fullShare f ⊢ _ from Entails.of_eq (congrArg (fun S : Finset S2x1024x1024.Idx => (crM.view.loc (d : Thread nD τ) ↦[S]{fullShare} f : sProp 𝕄)) (set_half a e off hb ho).2.1.symm)) $$ H)
    (fun d fd he => by
      unfold rcvPay; rw [hd, hreg, he]
      exact (Entails.of_eq (land d (halfM crM off hb) fd (wb (sh (srcO t) c)))).trans
        (Entails.of_eq (congrArg (fun S : Finset S2x1024x1024.Idx => (crM.view.loc (d : Thread nD τ) ↦[S]{fullShare} wb (sh (srcO t) c) : sProp 𝕄)) (set_half a e off hb ho).2.1)))
    l) $$ [HS HD Ht HO]
  · isplitr; · iexact HR
    isplitl [HS]; · iexact HS
    isplitl [HD]; · iexact HD
    isplitl [Ht]; · iexact Ht
    iexact HO
  iintro ⟨Hc, HO⟩
  rw [WP, wp_ret]
  imodintro
  iapply HQ
  isplitl [Hc Hat]
  · isplitl [Hc]; · iexact Hc
    iexact Hat
  iexact HO

/-- Half of the left neighbour's block goes on to the right. -/
theorem relayR_wp (c : Dev nD) (t : Fin 11) (a e : Fin 2) (hB : srcB t = 0) (hd : dstB t = 2) (hreg : tReg t = (rW a e).set)
    (h1 : clM.IsWhole) (h2 : c2M.IsWhole) (p : Dev nD) (snd rcv : DmaSem sig) (off : Fin 3 → ℕ)
    (hb : ∀ i, off i + S1x1024x512.size i ≤ S2x1024x1024.size i)
    (hw : (Rect.unit (s := S2x1024x1024) off S1x1024x512.size hb).WholeWords (EltTy.packing .bf16)) (ho : off = ![a.val, 0, 512 * e.val])
    (hp : p = tgt t c) (hs : snd = xS (false, t)) (hr : rcv = xS (true, t)) (hN : (halfM c2M off hb).view.dmaCredit = NN t)
    (l : List (Fin 11)) (Q : PUnit → sProp 𝕄) :
    iprop(records wb K ∗ sIn wb c t ∗ ow c (owedL c (t :: l)))
      ⊢ iprop(((wRes c (false, t) ∗ ow c (owedL c l)) -∗ Q ⟨⟩) -∗ WP c (sendG clM c2M h1 h2 p snd rcv off hb hw) Q) := by
  unfold sendG sIn sRest wRes
  simp only [Prog.lift]
  iintro ⟨#HR, ⟨HS, HD, Ht, Hat⟩, HO⟩ HQ
  iapply (send_wp wb K c t (halfM clM off hb) (halfM c2M off hb) p snd rcv hp hs hr hN (sQ t) (wb (sh (srcO t) c))
    (by
      unfold sndPay; rw [hB, hreg]
      exact congrArg (fun S : Finset S2x1024x1024.Idx => (clM.view.loc (c : Thread nD τ) ↦[S]{sQ t} wb (sh (srcO t) c) : sProp 𝕄)) (set_half a e off hb ho).1.symm)
    (fun d => by
      unfold free; rw [hd, hreg]
      iintro ⟨%f, H⟩
      iexists f
      iapply (show wPt 2 d (rW a e).set fullShare f ⊢ _ from Entails.of_eq (congrArg (fun S : Finset S2x1024x1024.Idx => (c2M.view.loc (d : Thread nD τ) ↦[S]{fullShare} f : sProp 𝕄)) (set_half a e off hb ho).2.2.1.symm)) $$ H)
    (fun d fd he => by
      unfold rcvPay; rw [hd, hreg, he]
      exact (Entails.of_eq (land d (halfM c2M off hb) fd (wb (sh (srcO t) c)))).trans
        (Entails.of_eq (congrArg (fun S : Finset S2x1024x1024.Idx => (c2M.view.loc (d : Thread nD τ) ↦[S]{fullShare} wb (sh (srcO t) c) : sProp 𝕄)) (set_half a e off hb ho).2.2.1)))
    l) $$ [HS HD Ht HO]
  · isplitr; · iexact HR
    isplitl [HS]; · iexact HS
    isplitl [HD]; · iexact HD
    isplitl [Ht]; · iexact Ht
    iexact HO
  iintro ⟨Hc, HO⟩
  rw [WP, wp_ret]
  imodintro
  iapply HQ
  isplitl [Hc Hat]
  · isplitl [Hc]; · iexact Hc
    iexact Hat
  iexact HO

/-- A block of the right neighbour goes on to the left. -/
theorem relayL_wp (c : Dev nD) (t : Fin 11) (hB : srcB t = 1) (hd : dstB t = 2) (hreg : tReg t = rF.set)
    (h1 : crM.IsWhole) (h2 : c2M.IsWhole) (p : Dev nD) (snd rcv : DmaSem sig) (off : Fin 3 → ℕ)
    (hb : ∀ i, off i + S1x1024x1024.size i ≤ S2x1024x1024.size i)
    (hw : (Rect.unit (s := S2x1024x1024) off S1x1024x1024.size hb).WholeWords (EltTy.packing .bf16)) (ho : off = ![1, 0, 0])
    (hp : p = tgt t c) (hs : snd = xS (false, t)) (hr : rcv = xS (true, t)) (hN : (fullM c2M off hb).view.dmaCredit = NN t)
    (l : List (Fin 11)) (Q : PUnit → sProp 𝕄) :
    iprop(records wb K ∗ sIn wb c t ∗ ow c (owedL c (t :: l)))
      ⊢ iprop(((wRes c (false, t) ∗ ow c (owedL c l)) -∗ Q ⟨⟩) -∗ WP c (sendFullG crM c2M h1 h2 p snd rcv off hb hw) Q) := by
  unfold sendFullG sIn sRest wRes
  simp only [Prog.lift]
  iintro ⟨#HR, ⟨HS, HD, Ht, Hat⟩, HO⟩ HQ
  iapply (send_wp wb K c t (fullM crM off hb) (fullM c2M off hb) p snd rcv hp hs hr hN (sQ t) (wb (sh (srcO t) c))
    (by
      unfold sndPay; rw [hB, hreg]
      exact congrArg (fun S : Finset S2x1024x1024.Idx => (crM.view.loc (c : Thread nD τ) ↦[S]{sQ t} wb (sh (srcO t) c) : sProp 𝕄)) (set_full off hb ho).2.1.symm)
    (fun d => by
      unfold free; rw [hd, hreg]
      iintro ⟨%f, H⟩
      iexists f
      iapply (show wPt 2 d rF.set fullShare f ⊢ _ from Entails.of_eq (congrArg (fun S : Finset S2x1024x1024.Idx => (c2M.view.loc (d : Thread nD τ) ↦[S]{fullShare} f : sProp 𝕄)) (set_full off hb ho).2.2.1.symm)) $$ H)
    (fun d fd he => by
      unfold rcvPay; rw [hd, hreg, he]
      exact (Entails.of_eq (land d (fullM c2M off hb) fd (wb (sh (srcO t) c)))).trans
        (Entails.of_eq (congrArg (fun S : Finset S2x1024x1024.Idx => (c2M.view.loc (d : Thread nD τ) ↦[S]{fullShare} wb (sh (srcO t) c) : sProp 𝕄)) (set_full off hb ho).2.2.1)))
    l) $$ [HS HD Ht HO]
  · isplitr; · iexact HR
    isplitl [HS]; · iexact HS
    isplitl [HD]; · iexact HD
    isplitl [Ht]; · iexact Ht
    iexact HO
  iintro ⟨Hc, HO⟩
  rw [WP, wp_ret]
  imodintro
  iapply HQ
  isplitl [Hc Hat]
  · isplitl [Hc]; · iexact Hc
    iexact Hat
  iexact HO

/-! ## One wait -/

/-- A wait for half of a neighbour's block. -/
theorem waitIn_wp (c : Dev nD) (x : Tx) (src dst : Memref sig .tc .vmem S2x1024x1024 .bf16) (h1 : src.IsWhole) (h2 : dst.IsWhole)
    (sm : DmaSem sig) (hsm : sm = xS x) (off : Fin 3 → ℕ) (hb : ∀ i, off i + S1x1024x512.size i ≤ S2x1024x1024.size i)
    (hw : (Rect.unit (s := S2x1024x1024) off S1x1024x512.size hb).WholeWords (EltTy.packing .bf16)) (hx : x.2.val < 10)
    (l : List (Fin 11)) (hl : ∀ t ∈ l, lvS (.dma (xS x)) < lvS (.dma (xS (true, t)))) (Q : PUnit → sProp 𝕄) :
    iprop(records wb K ∗ levAts L lv ∗ wRes c x ∗ ow c (owedL c l))
      ⊢ iprop(((xPay wb c x ∗ ow c (owedL c l) ∗ semVal (xCell c x) 0) -∗ Q ⟨⟩) -∗ WP c (waitInG src dst h1 h2 sm off hb hw) Q) := by
  unfold waitInG
  simp only [Prog.lift]
  iintro H HQ
  iapply (wait_wp wb K c x (halfM src off hb) (halfM dst off hb) sm hsm (by unfold NN; rw [if_pos hx]) l hl) $$ H
  iintro H
  rw [WP, wp_ret]
  imodintro
  iapply HQ $$ H

/-- A wait for half of a block relayed. -/
theorem waitHalf_wp (c : Dev nD) (x : Tx) (src dst : Memref sig .tc .vmem S2x1024x1024 .bf16) (h1 : src.IsWhole) (h2 : dst.IsWhole)
    (sm : DmaSem sig) (hsm : sm = xS x) (off : Fin 3 → ℕ) (hb : ∀ i, off i + S1x1024x512.size i ≤ S2x1024x1024.size i)
    (hw : (Rect.unit (s := S2x1024x1024) off S1x1024x512.size hb).WholeWords (EltTy.packing .bf16)) (hx : x.2.val < 10)
    (l : List (Fin 11)) (hl : ∀ t ∈ l, lvS (.dma (xS x)) < lvS (.dma (xS (true, t)))) (Q : PUnit → sProp 𝕄) :
    iprop(records wb K ∗ levAts L lv ∗ wRes c x ∗ ow c (owedL c l))
      ⊢ iprop(((xPay wb c x ∗ ow c (owedL c l) ∗ semVal (xCell c x) 0) -∗ Q ⟨⟩) -∗ WP c (waitG src dst h1 h2 sm off hb hw) Q) := by
  unfold waitG
  simp only [Prog.lift]
  iintro H HQ
  iapply (wait_wp wb K c x (halfM src off hb) (halfM dst off hb) sm hsm (by unfold NN; rw [if_pos hx]) l hl) $$ H
  iintro H
  rw [WP, wp_ret]
  imodintro
  iapply HQ $$ H

/-- A wait for a send of half of the own block. -/
theorem waitOwn_wp (c : Dev nD) (x : Tx) (src dst : Memref sig .tc .vmem S2x1024x1024 .bf16) (h1 : src.IsWhole) (h2 : dst.IsWhole)
    (sm : DmaSem sig) (hsm : sm = xS x) (off : Fin 3 → ℕ) (hb : ∀ i, off i + S1x1024x512.size i ≤ S2x1024x1024.size i)
    (hw : (Rect.unit (s := S2x1024x1024) off S1x1024x512.size hb).WholeWords (EltTy.packing .bf16)) (hx : x.2.val < 10)
    (l : List (Fin 11)) (hl : ∀ t ∈ l, lvS (.dma (xS x)) < lvS (.dma (xS (true, t)))) (Q : PUnit → sProp 𝕄) :
    iprop(records wb K ∗ levAts L lv ∗ wRes c x ∗ ow c (owedL c l))
      ⊢ iprop(((xPay wb c x ∗ ow c (owedL c l) ∗ semVal (xCell c x) 0) -∗ Q ⟨⟩) -∗ WP c (waitOwnG src dst h1 h2 sm off hb hw) Q) := by
  unfold waitOwnG
  simp only [Prog.lift]
  iintro H HQ
  iapply (wait_wp wb K c x (halfM src off hb) (halfM dst off hb) sm hsm (by unfold NN; rw [if_pos hx]) l hl) $$ H
  iintro H
  rw [WP, wp_ret]
  imodintro
  iapply HQ $$ H

/-- A wait for a whole block. -/
theorem waitFull_wp (c : Dev nD) (x : Tx) (src dst : Memref sig .tc .vmem S2x1024x1024 .bf16) (h1 : src.IsWhole) (h2 : dst.IsWhole)
    (sm : DmaSem sig) (hsm : sm = xS x) (off : Fin 3 → ℕ) (hb : ∀ i, off i + S1x1024x1024.size i ≤ S2x1024x1024.size i)
    (hw : (Rect.unit (s := S2x1024x1024) off S1x1024x1024.size hb).WholeWords (EltTy.packing .bf16)) (hx : ¬ x.2.val < 10)
    (l : List (Fin 11)) (hl : ∀ t ∈ l, lvS (.dma (xS x)) < lvS (.dma (xS (true, t)))) (Q : PUnit → sProp 𝕄) :
    iprop(records wb K ∗ levAts L lv ∗ wRes c x ∗ ow c (owedL c l))
      ⊢ iprop(((xPay wb c x ∗ ow c (owedL c l) ∗ semVal (xCell c x) 0) -∗ Q ⟨⟩) -∗ WP c (waitFullG src dst h1 h2 sm off hb hw) Q) := by
  unfold waitFullG
  simp only [Prog.lift]
  iintro H HQ
  iapply (wait_wp wb K c x (fullM src off hb) (fullM dst off hb) sm hsm (by unfold NN; rw [if_neg hx]) l hl) $$ H
  iintro H
  rw [WP, wp_ret]
  imodintro
  iapply HQ $$ H

end Cert.KernelIdeal.Attn

end
-- ==== Proof.Stages.lean ====
/-
  The stages of the body as rules: each brings a neighbour's weight block and adds that group's part of the output.
-/
module

public import proofs.«01_k».proof.Proof.Xfer

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## The computing parts at the buffers -/

theorem proja_wp (c : Dev nD) (M : Memref sig .tc .vmem S2x1024x1024 .bf16) (S : Finset (Idx (M.view.loc (c : Thread nD τ))))
    (q : PosShare TreeShare) (f : Buf (Elt F) (M.view.loc (c : Thread nD τ))) (x : Vec F S1024x1024 .bf16) (W : S2x1024x1024.Idx → Elt F .bf16)
    (hS : (M.access (rW 0 0)).set ⊆ S) (hf : (M.access (rW 0 0)).read (Elt F) f = wSl W 0 0) (Q : PUnit → sProp 𝕄) :
    iprop(held c xbM x ∗ wHeld c M S q f ∗ (∃ g, held (F := F) c qsM g))
      ⊢ iprop(((held c xbM x ∗ wHeld c M S q f ∗ qHeld c (Cols 1) (qTgt x W)) -∗ Q ⟨⟩)
        -∗ WP c (proja xbM M qsM (Memref.isWhole_whole _)) Q) := by
  iintro ⟨Hx, Hw, ⟨%g, Hg⟩⟩
  iapply (proj_wp c M S q f x W 0 hS hf ![0, 0, 0] Gen.inb_S2x1024x1024_S1x1024x512_0_0_0 ![0, 0] Gen.inb_S1024x1024_S1024x512_0_0
    Gen.packedbf16_S1024x1024_S1024x512_0_0 rfl rfl Q)
  isplitl [Hx]; · iexact Hx
  isplitl [Hw]; · iexact Hw
  unfold qHeld
  iexists g
  isplitr
  · ipureintro
    exact fun i hi => absurd hi (Nat.not_lt_zero _)
  iexact Hg
theorem projb_wp (c : Dev nD) (M : Memref sig .tc .vmem S2x1024x1024 .bf16) (S : Finset (Idx (M.view.loc (c : Thread nD τ))))
    (q : PosShare TreeShare) (f : Buf (Elt F) (M.view.loc (c : Thread nD τ))) (x : Vec F S1024x1024 .bf16) (W : S2x1024x1024.Idx → Elt F .bf16)
    (hS : (M.access (rW 0 1)).set ⊆ S) (hf : (M.access (rW 0 1)).read (Elt F) f = wSl W 0 1) (Q : PUnit → sProp 𝕄) :
    iprop(held c xbM x ∗ wHeld c M S q f ∗ qHeld c (Cols 1) (qTgt x W))
      ⊢ iprop(((held c xbM x ∗ wHeld c M S q f ∗ qHeld c (Cols 2) (qTgt x W)) -∗ Q ⟨⟩)
        -∗ WP c (projb xbM M qsM (Memref.isWhole_whole _)) Q) :=
  proj_wp c M S q f x W 1 hS hf ![0, 0, 512] Gen.inb_S2x1024x1024_S1x1024x512_0_0_512 ![0, 512] Gen.inb_S1024x1024_S1024x512_0_512
    Gen.packedbf16_S1024x1024_S1024x512_0_512 rfl rfl Q

/-- Both halves of the heads of a slot, with the slot held whole around them. -/
theorem first_four (c : Dev nD) (s : Fin 2) (p : KProg F PUnit) (kT vT : Fin 8 → Vec F S1x1x1024x128 .f32) (qT : S1024x1024.Idx → Elt F .bf16)
    (hp : ∀ Q : PUnit → sProp 𝕄, iprop((kvHeld c s 0 kT vT ∗ kvHeld c s 1 kT vT ∗ kvHeld c s 2 kT vT ∗ kvHeld c s 3 kT vT)
        ∗ qHeld c (Cols 1) qT ∗ cxHeld c (Done 0) (cxT kT vT qT))
      ⊢ iprop((((kvHeld c s 0 kT vT ∗ kvHeld c s 1 kT vT ∗ kvHeld c s 2 kT vT ∗ kvHeld c s 3 kT vT)
        ∗ qHeld c (Cols 1) qT ∗ cxHeld c (Done 16) (cxT kT vT qT)) -∗ Q ⟨⟩) -∗ WP c p Q)) (Q : PUnit → sProp 𝕄) :
    iprop(kvAll c s kT vT ∗ qHeld c (Cols 1) qT ∗ (∃ g, held (F := F) c cxM g))
      ⊢ iprop(((kvAll c s kT vT ∗ qHeld c (Cols 1) qT ∗ cxHeld c (Done 16) (cxT kT vT qT)) -∗ Q ⟨⟩) -∗ WP c p Q) := by
  unfold kvAll
  iintro ⟨⟨K0, K1, K2, K3, Kr⟩, Hq, ⟨%g, Hg⟩⟩ HQ
  iapply (hp Q) $$ [K0 K1 K2 K3 Hq Hg]
  · isplitl [K0 K1 K2 K3]
    · iframe
    isplitl [Hq]; · iexact Hq
    unfold cxHeld
    iexists g
    isplitr
    · ipureintro
      exact fun i hi => absurd hi (Nat.not_lt_zero _)
    iexact Hg
  iintro ⟨⟨K0, K1, K2, K3⟩, Hq, Hc⟩
  iapply HQ
  iframe
theorem cx_all (c : Dev nD) (T : S1024x1024.Idx → Elt F .bf16) : cxHeld c (Done 32) T ⊢ held c cxM T := by
  unfold cxHeld
  iintro ⟨%f, %hf, H⟩
  have e : f = T := funext fun i => hf i (by
    have i0 : (i 0).val < 1024 := (i 0).isLt
    have i1 : (i 1).val < 1024 := (i 1).isLt
    unfold Done; omega)
  rw [← e]
  iexact H
theorem last_four (c : Dev nD) (s : Fin 2) (p : KProg F PUnit) (kT vT : Fin 8 → Vec F S1x1x1024x128 .f32) (qT : S1024x1024.Idx → Elt F .bf16)
    (hp : ∀ Q : PUnit → sProp 𝕄, iprop((kvHeld c s 4 kT vT ∗ kvHeld c s 5 kT vT ∗ kvHeld c s 6 kT vT ∗ kvHeld c s 7 kT vT)
        ∗ qHeld c (Cols 2) qT ∗ cxHeld c (Done 16) (cxT kT vT qT))
      ⊢ iprop((((kvHeld c s 4 kT vT ∗ kvHeld c s 5 kT vT ∗ kvHeld c s 6 kT vT ∗ kvHeld c s 7 kT vT)
        ∗ qHeld c (Cols 2) qT ∗ cxHeld c (Done 32) (cxT kT vT qT)) -∗ Q ⟨⟩) -∗ WP c p Q)) (Q : PUnit → sProp 𝕄) :
    iprop(kvAll c s kT vT ∗ qHeld c (Cols 2) qT ∗ cxHeld c (Done 16) (cxT kT vT qT))
      ⊢ iprop(((kvFreeAll (F := F) c s ∗ (∃ g, held (F := F) c qsM g) ∗ held c cxM (cxT kT vT qT)) -∗ Q ⟨⟩) -∗ WP c p Q) := by
  iintro ⟨HK, Hq, Hc⟩ HQ
  unfold kvAll
  icases HK with ⟨K0, K1, K2, K3, Kr⟩
  iapply (hp Q) $$ [Kr Hq Hc]
  · iframe
  iintro ⟨⟨K4, K5, K6, K7⟩, Hq, Hc⟩
  iapply HQ
  isplitl [K0 K1 K2 K3 K4 K5 K6 K7]
  · iapply (kvAll_free c s kT vT)
    unfold kvAll
    iframe
  isplitl [Hq]
  · unfold qHeld
    icases Hq with ⟨%f, -, H⟩
    iexists f
    iexact H
  iapply (cx_all c (cxT kT vT qT)) $$ Hc

/-! ## The parts of the buffers by name -/

theorem wPt_cl (c : Dev nD) (S : Finset S2x1024x1024.Idx) (q : PosShare TreeShare) (f : S2x1024x1024.Idx → Elt F .bf16) :
    wPt 0 c S q f = wHeld c clM S q f := rfl
theorem wPt_cr (c : Dev nD) (S : Finset S2x1024x1024.Idx) (q : PosShare TreeShare) (f : S2x1024x1024.Idx → Elt F .bf16) :
    wPt 1 c S q f = wHeld c crM S q f := rfl
theorem wPt_c2 (c : Dev nD) (S : Finset S2x1024x1024.Idx) (q : PosShare TreeShare) (f : S2x1024x1024.Idx → Elt F .bf16) :
    wPt 2 c S q f = wHeld c c2M S q f := rfl
theorem wPt_own (c : Dev nD) (S : Finset S2x1024x1024.Idx) (q : PosShare TreeShare) (f : S2x1024x1024.Idx → Elt F .bf16) :
    wPt 3 c S q f = wHeld c ownM S q f := rfl
theorem acc_cl (a b : Fin 2) : (clM.access (rW a b) : View sig .tc _ _ _).set = (rW a b).set := View.set_slice_whole cc0_scratch0 _
theorem acc_cr (a b : Fin 2) : (crM.access (rW a b) : View sig .tc _ _ _).set = (rW a b).set := View.set_slice_whole cc0_scratch1 _
theorem acc_c2 (a b : Fin 2) : (c2M.access (rW a b) : View sig .tc _ _ _).set = (rW a b).set := View.set_slice_whole cc0_scratch2 _

/-! ## What a stage leaves -/

variable (wb : Dev nD → S2x1024x1024.Idx → Elt F .bf16) (Kx : Dev nD × Fin 23 → ℕ)
variable (x : Vec F S1024x1024 .bf16) (K V : S4x1024x32x128.Idx → Elt F .f32)

/-- The context of the group `r` to the right. -/
def cxV (c : Dev nD) (r : ℕ) : Vec F S1024x1024 .bf16 := cxT (headAt K c (sh r c)) (headAt V c (sh r c)) (qTgt x (wb (sh r c)))
/-- The output after each of the four groups. -/
def out0 (c : Dev nD) : S1x1024x1024.Idx → Elt F .f32 := oTgt0 (cxV wb x K V c 0) (wb (sh 0 c))
def out1 (c : Dev nD) : S1x1024x1024.Idx → Elt F .f32 := oTgt (cxV wb x K V c 3) (wb (sh 3 c)) (out0 wb x K V c)
def out2 (c : Dev nD) : S1x1024x1024.Idx → Elt F .f32 := oTgt (cxV wb x K V c 1) (wb (sh 1 c)) (out1 wb x K V c)
def out3 (c : Dev nD) : S1x1024x1024.Idx → Elt F .f32 := oTgt (cxV wb x K V c 2) (wb (sh 2 c)) (out2 wb x K V c)

/-- The heads of the group `r` on their way to a slot. -/
abbrev kvIn (c : Dev nD) (s : Fin 2) (r : ℕ) : sProp 𝕄 := kvBatch c (kvSem s) s (headAt K c (sh r c)) (headAt V c (sh r c)) 16 0
/-- An idle slot. -/
def kvIdle (c : Dev nD) (s : Fin 2) : sProp 𝕄 := iprop(kvFreeAll (F := F) c s ∗ semVal ((c : Thread nD τ), .dma (kvSem s)) 0)
/-- What every stage holds on to. -/
def Hold (c : Dev nD) : sProp 𝕄 :=
  iprop(hbmHeld c kM K ∗ hbmHeld c vM V ∗ held c xbM x ∗ (∃ g, held (F := F) c qsM g) ∗ (∃ g, held (F := F) c cxM g))

theorem off_eq (c : Dev nD) (r : Fin 4) (h : Fin 8) : k0_off1 c (BitVec.ofNat 32 r.val) (BitVec.ofNat 32 h.val) = ![c.val, 0, 8 * (sh r.val c).val + h.val, 0] :=
  Gen.k0_off1_eq c r h

theorem stage0_wp (c : Dev nD) (Q : PUnit → sProp 𝕄) :
    iprop(levAts L lv ∗ Hold x K V c ∗ kvIn K V c 0 0 ∗ kvIdle (F := F) c 1 ∗ ow c (owedL c [8, 9, 10])
        ∗ wPt 3 c Finset.univ fullShare.left (wb (sh 0 c)) ∗ (∃ g, held (F := F) c oM g))
      ⊢ iprop(((Hold x K V c ∗ kvIn K V c 1 3 ∗ kvIdle (F := F) c 0 ∗ ow c (owedL c [8, 9, 10])
        ∗ wPt 3 c Finset.univ fullShare.left (wb (sh 0 c)) ∗ held c oM (out0 wb x K V c)) -∗ Q ⟨⟩) -∗ WP c (stage0C c) Q) := by
  unfold stage0C stage0 Hold kvIdle
  simp only [wPt_own]
  iintro ⟨#HL, ⟨HK, HV, Hx, Hq, Hc⟩, HB, ⟨Hf, Hs⟩, HO, Hw, ⟨%fo, Ho⟩⟩ HQ
  unfold WP
  rw [wp_bind]
  iapply (kvStart1_wp c c (sh 3 c) K V (k0_off1 c 3#32) (k0_off1_inb c 3) (off_eq c 3) _) $$ [HK HV Hf Hs]
  · iframe
  iintro ⟨HK, HV, HB'⟩
  rw [wp_bind]
  iapply (kvWait0_wp c (owedL c [8, 9, 10]) (levAts L lv) (mayWait_list c (.dma (kvSem 0)) [8, 9, 10] (by decide)) _ _
    (k0_off1 c 0#32) (k0_off1_inb c 0) _) $$ [HO HB]
  · iframe HL HO HB
  iintro ⟨-, HO, HA, Hs⟩
  rw [wp_bind]
  iapply (proja_wp c ownM Finset.univ fullShare.left (wb (sh 0 c)) x (wb (sh 0 c)) (Finset.subset_univ _) rfl _) $$ [Hx Hw Hq]
  · isplitl [Hx]; · iexact Hx
    isplitl [Hw]; · iexact Hw
    iexact Hq
  iintro ⟨Hx, Hw, Hq⟩
  rw [wp_bind]
  iapply (first_four c 0 _ _ _ _ (heads0a_wp c _ _ _) _) $$ [HA Hq Hc]
  · isplitl [HA]; · iexact HA
    isplitl [Hq]; · iexact Hq
    iexact Hc
  iintro ⟨HA, Hq, Hc⟩
  rw [wp_bind]
  iapply (projb_wp c ownM Finset.univ fullShare.left (wb (sh 0 c)) x (wb (sh 0 c)) (Finset.subset_univ _) rfl _) $$ [Hx Hw Hq]
  · isplitl [Hx]; · iexact Hx
    isplitl [Hw]; · iexact Hw
    iexact Hq
  iintro ⟨Hx, Hw, Hq⟩
  rw [wp_bind]
  iapply (last_four c 0 _ _ _ _ (heads0b_wp c _ _ _) _) $$ [HA Hq Hc]
  · isplitl [HA]; · iexact HA
    isplitl [Hq]; · iexact Hq
    iexact Hc
  iintro ⟨Hf, Hq, Hc⟩
  rw [wp_bind]
  iapply (outLoad_wp c ownM Finset.univ fullShare.left (wb (sh 0 c)) (cxV wb x K V c 0) (wb (sh 0 c)) 0 (Finset.subset_univ _) rfl
    ![1, 0, 0] Gen.inb_S2x1024x1024_S1x1024x512_1_0_0 rfl _) $$ [Hc Hw]
  · isplitl [Hc]; · iexact Hc
    iexact Hw
  iintro ⟨Hc, Hw⟩
  rw [wp_bind]
  iapply (outLoad_wp c ownM Finset.univ fullShare.left (wb (sh 0 c)) (cxV wb x K V c 0) (wb (sh 0 c)) 1 (Finset.subset_univ _) rfl
    ![1, 0, 512] Gen.inb_S2x1024x1024_S1x1024x512_1_0_512 rfl _) $$ [Hc Hw]
  · isplitl [Hc]; · iexact Hc
    iexact Hw
  iintro ⟨Hc, Hw⟩
  iapply (outSet2_wp c (cxV wb x K V c 0) (wb (sh 0 c)) fo _) $$ Ho
  iintro Ho
  iapply HQ
  isplitl [HK HV Hx Hq Hc]
  · isplitl [HK]; · iexact HK
    isplitl [HV]; · iexact HV
    isplitl [Hx]; · iexact Hx
    isplitl [Hq]; · iexact Hq
    iexists (cxV wb x K V c 0)
    iexact Hc
  isplitl [HB']; · iexact HB'
  isplitl [Hf Hs]
  · isplitl [Hf]; · iexact Hf
    iexact Hs
  isplitl [HO]; · iexact HO
  isplitl [Hw]; · iexact Hw
  iexact Ho

/-- What the second stage leaves of the blocks, its closed cells and its sends. -/
def Left1 (c : Dev nD) : sProp 𝕄 :=
  iprop((wPt 0 c (rW 0 0).set fullShare.left (wb (sh 3 c)) ∗ wPt 0 c (rW 0 1).set fullShare.left (wb (sh 3 c)) ∗ wPt 0 c (rW 1 0).set fullShare (wb (sh 3 c)) ∗ wPt 0 c (rW 1 1).set fullShare (wb (sh 3 c)) ∗ wPt 1 c rF.set fullShare.left (wb (sh 1 c)))
    ∗ (wRes (F := F) c (false, 8) ∗ wRes (F := F) c (false, 9) ∗ wRes (F := F) c (false, 10))
    ∗ (semVal (xCell c (true, 0)) 0 ∗ semVal (xCell c (true, 1)) 0 ∗ semVal (xCell c (true, 2)) 0 ∗ semVal (xCell c (true, 3)) 0 ∗ semVal (xCell c (true, 6)) 0 ∗ semVal (xCell c (true, 7)) 0))

set_option maxHeartbeats 2000000 in
theorem stage1_wp (c : Dev nD) (Q : PUnit → sProp 𝕄) :
    iprop(records wb Kx ∗ levAts L lv ∗ Hold x K V c ∗ kvIn K V c 1 3 ∗ kvIdle (F := F) c 0 ∗ ow c (owedL c [8, 9, 10])
        ∗ (wRes (F := F) c (true, 0) ∗ wRes (F := F) c (true, 1) ∗ wRes (F := F) c (true, 2) ∗ wRes (F := F) c (true, 3)
          ∗ wRes (F := F) c (true, 6) ∗ wRes (F := F) c (true, 7))
        ∗ (sRest (F := F) c 8 ∗ sRest (F := F) c 9 ∗ sRest (F := F) c 10) ∗ held c oM (out0 wb x K V c))
      ⊢ iprop(((Hold x K V c ∗ kvIn K V c 0 1 ∗ kvIdle (F := F) c 1 ∗ ow c (owedL c []) ∗ Left1 wb c
        ∗ held c oM (out1 wb x K V c)) -∗ Q ⟨⟩) -∗ WP c (stage1C c) Q) := by
  unfold stage1C stage1 Hold kvIdle Left1
  simp only [wPt_cl]
  have a0 := (acc_cl 0 0).le
  have a1 := (acc_cl 0 1).le
  have a2 := (acc_cl 1 0).le
  have a3 := (acc_cl 1 1).le
  have e0 : xPay wb c (true, 0) ⊢ iprop(wHeld c clM (rW 0 0).set fullShare.left (wb (sh 3 c)) ∗ sndPay wb c 8) := (wPt_share 0 c _ _ _).1
  have e1 : xPay wb c (true, 1) ⊢ iprop(wHeld c clM (rW 0 1).set fullShare.left (wb (sh 3 c)) ∗ sndPay wb c 9) := (wPt_share 0 c _ _ _).1
  have e2 : xPay wb c (true, 2) ⊢ wHeld c clM (rW 1 0).set fullShare (wb (sh 3 c)) := BI.Entails.refl _
  have e3 : xPay wb c (true, 3) ⊢ wHeld c clM (rW 1 1).set fullShare (wb (sh 3 c)) := BI.Entails.refl _
  have e10 : wPt 1 c rF.set fullShare (wb (sh 1 c)) ⊢ iprop(wPt 1 c rF.set fullShare.left (wb (sh 1 c)) ∗ sndPay wb c 10) := (wPt_share 1 c _ _ _).1
  have e6 : xPay wb c (true, 6) ⊢ wPt 1 c (rW 1 0).set fullShare (wb (sh 1 c)) := BI.Entails.refl _
  have e7 : xPay wb c (true, 7) ⊢ wPt 1 c (rW 1 1).set fullShare (wb (sh 1 c)) := BI.Entails.refl _
  iintro ⟨#HR, #HL, ⟨HK, HV, Hx, Hq, Hc⟩, HB, ⟨Hf, Hs⟩, HO, ⟨P0, P1, P2, P3, P6, P7⟩, ⟨S8, S9, S10⟩, Ho⟩ HQ
  unfold WP
  rw [wp_bind]
  iapply (kvStart0_wp c c (sh 1 c) K V (k0_off1 c 1#32) (k0_off1_inb c 1) (off_eq c 1) _) $$ [HK HV Hf Hs]
  · iframe
  iintro ⟨HK, HV, HB'⟩
  rw [wp_bind]
  iapply (waitIn_wp wb Kx c (true, 0) ownM clM (Memref.isWhole_whole _) (Memref.isWhole_whole _) _ rfl ![0, 0, 0] Gen.inb_S2x1024x1024_S1x1024x512_0_0_0 Gen.wordsbf16_S2x1024x1024_S1x1024x512_0_0_0
    (by decide) [8, 9, 10] (by decide) _) $$ [HO P0]
  · iframe HR HL P0 HO
  iintro ⟨P0, HO, Z0⟩
  icases e0 $$ P0 with ⟨P0, B8⟩
  rw [wp_bind]
  iapply (relayR_wp wb Kx c 8 0 0 rfl rfl rfl (Memref.isWhole_whole _) (Memref.isWhole_whole _) _ _ _ ![0, 0, 0] Gen.inb_S2x1024x1024_S1x1024x512_0_0_0 Gen.wordsbf16_S2x1024x1024_S1x1024x512_0_0_0 rfl
    (Fin.ext (Gen.k0_dev11_eq c)) rfl rfl rfl [9, 10] _) $$ [HO B8 S8]
  · isplitr; · iexact HR
    isplitl [B8 S8]
    · unfold sIn
      isplitl [B8]; · iexact B8
      iexact S8
    iexact HO
  iintro ⟨S8, HO⟩
  rw [wp_bind]
  iapply (kvWait1_wp c (owedL c [9, 10]) (levAts L lv) (mayWait_list c (.dma (kvSem 1)) [9, 10] (by decide)) _ _
    (k0_off1 c 3#32) (k0_off1_inb c 3) _) $$ [HO HB]
  · iframe HL HO HB
  iintro ⟨-, HO, HA, Hs⟩
  rw [wp_bind]
  iapply (proja_wp c clM (rW 0 0).set fullShare.left (wb (sh 3 c)) x (wb (sh 3 c)) a0 rfl _) $$ [Hx P0 Hq]
  · isplitl [Hx]; · iexact Hx
    isplitl [P0]; · iexact P0
    iexact Hq
  iintro ⟨Hx, P0, Hq⟩
  rw [wp_bind]
  iapply (first_four c 1 _ _ _ _ (heads1a_wp c _ _ _) _) $$ [HA Hq Hc]
  · isplitl [HA]; · iexact HA
    isplitl [Hq]; · iexact Hq
    iexact Hc
  iintro ⟨HA, Hq, Hc⟩
  rw [wp_bind]
  iapply (waitIn_wp wb Kx c (true, 1) ownM clM (Memref.isWhole_whole _) (Memref.isWhole_whole _) _ rfl ![0, 0, 512] Gen.inb_S2x1024x1024_S1x1024x512_0_0_512 Gen.wordsbf16_S2x1024x1024_S1x1024x512_0_0_512
    (by decide) [9, 10] (by decide) _) $$ [HO P1]
  · iframe HR HL P1 HO
  iintro ⟨P1, HO, Z1⟩
  icases e1 $$ P1 with ⟨P1, B9⟩
  rw [wp_bind]
  iapply (relayR_wp wb Kx c 9 0 1 rfl rfl rfl (Memref.isWhole_whole _) (Memref.isWhole_whole _) _ _ _ ![0, 0, 512] Gen.inb_S2x1024x1024_S1x1024x512_0_0_512 Gen.wordsbf16_S2x1024x1024_S1x1024x512_0_0_512 rfl
    (Fin.ext (Gen.k0_dev12_eq c)) rfl rfl rfl [10] _) $$ [HO B9 S9]
  · isplitr; · iexact HR
    isplitl [B9 S9]
    · unfold sIn
      isplitl [B9]; · iexact B9
      iexact S9
    iexact HO
  iintro ⟨S9, HO⟩
  rw [wp_bind]
  iapply (projb_wp c clM (rW 0 1).set fullShare.left (wb (sh 3 c)) x (wb (sh 3 c)) a1 rfl _) $$ [Hx P1 Hq]
  · isplitl [Hx]; · iexact Hx
    isplitl [P1]; · iexact P1
    iexact Hq
  iintro ⟨Hx, P1, Hq⟩
  rw [wp_bind]
  iapply (last_four c 1 _ _ _ _ (heads1b_wp c _ _ _) _) $$ [HA Hq Hc]
  · isplitl [HA]; · iexact HA
    isplitl [Hq]; · iexact Hq
    iexact Hc
  iintro ⟨Hf, Hq, Hc⟩
  rw [wp_bind]
  iapply (waitIn_wp wb Kx c (true, 2) ownM clM (Memref.isWhole_whole _) (Memref.isWhole_whole _) _ rfl ![1, 0, 0] Gen.inb_S2x1024x1024_S1x1024x512_1_0_0 Gen.wordsbf16_S2x1024x1024_S1x1024x512_1_0_0
    (by decide) [10] (by decide) _) $$ [HO P2]
  · iframe HR HL P2 HO
  iintro ⟨P2, HO, Z2⟩
  icases e2 $$ P2 with P2
  rw [wp_bind]
  iapply (outLoad_wp c clM (rW 1 0).set fullShare (wb (sh 3 c)) (cxV wb x K V c 3) (wb (sh 3 c)) 0 a2 rfl ![1, 0, 0] Gen.inb_S2x1024x1024_S1x1024x512_1_0_0 rfl _) $$ [Hc P2]
  · isplitl [Hc]; · iexact Hc
    iexact P2
  iintro ⟨Hc, P2⟩
  rw [wp_bind]
  iapply (waitIn_wp wb Kx c (true, 3) ownM clM (Memref.isWhole_whole _) (Memref.isWhole_whole _) _ rfl ![1, 0, 512] Gen.inb_S2x1024x1024_S1x1024x512_1_0_512 Gen.wordsbf16_S2x1024x1024_S1x1024x512_1_0_512
    (by decide) [10] (by decide) _) $$ [HO P3]
  · iframe HR HL P3 HO
  iintro ⟨P3, HO, Z3⟩
  rw [wp_bind]
  iapply (waitIn_wp wb Kx c (true, 6) ownM crM (Memref.isWhole_whole _) (Memref.isWhole_whole _) _ rfl ![1, 0, 0] Gen.inb_S2x1024x1024_S1x1024x512_1_0_0 Gen.wordsbf16_S2x1024x1024_S1x1024x512_1_0_0
    (by decide) [10] (by decide) _) $$ [HO P6]
  · iframe HR HL P6 HO
  iintro ⟨P6, HO, Z6⟩
  rw [wp_bind]
  iapply (waitIn_wp wb Kx c (true, 7) ownM crM (Memref.isWhole_whole _) (Memref.isWhole_whole _) _ rfl ![1, 0, 512] Gen.inb_S2x1024x1024_S1x1024x512_1_0_512 Gen.wordsbf16_S2x1024x1024_S1x1024x512_1_0_512
    (by decide) [10] (by decide) _) $$ [HO P7]
  · iframe HR HL P7 HO
  iintro ⟨P7, HO, Z7⟩
  icases e3 $$ P3 with P3
  icases e6 $$ P6 with P6
  icases e7 $$ P7 with P7
  ihave P6 := ((wPt_row 1 c fullShare (wb (sh 1 c))).2) $$ [P6 P7]
  · isplitl [P6]; · iexact P6
    iexact P7
  icases e10 $$ P6 with ⟨P6, B10⟩
  rw [wp_bind]
  iapply (relayL_wp wb Kx c 10 rfl rfl rfl (Memref.isWhole_whole _) (Memref.isWhole_whole _) _ _ _ ![1, 0, 0] Gen.inb_S2x1024x1024_S1x1024x1024_1_0_0 Gen.wordsbf16_S2x1024x1024_S1x1024x1024_1_0_0 rfl
    (Fin.ext (Gen.k0_dev13_eq c)) rfl rfl rfl [] _) $$ [HO B10 S10]
  · isplitr; · iexact HR
    isplitl [B10 S10]
    · unfold sIn
      isplitl [B10]; · iexact B10
      iexact S10
    iexact HO
  iintro ⟨S10, HO⟩
  rw [wp_bind]
  iapply (outLoad_wp c clM (rW 1 1).set fullShare (wb (sh 3 c)) (cxV wb x K V c 3) (wb (sh 3 c)) 1 a3 rfl ![1, 0, 512] Gen.inb_S2x1024x1024_S1x1024x512_1_0_512 rfl _) $$ [Hc P3]
  · isplitl [Hc]; · iexact Hc
    iexact P3
  iintro ⟨Hc, P3⟩
  iapply (outAdd2_wp c (cxV wb x K V c 3) (wb (sh 3 c)) (out0 wb x K V c) _) $$ Ho
  iintro Ho
  iapply HQ
  isplitl [HK HV Hx Hq Hc]
  · isplitl [HK]; · iexact HK
    isplitl [HV]; · iexact HV
    isplitl [Hx]; · iexact Hx
    isplitl [Hq]; · iexact Hq
    iexists (cxV wb x K V c 3)
    iexact Hc
  isplitl [HB']; · iexact HB'
  isplitl [Hf Hs]
  · isplitl [Hf]; · iexact Hf
    iexact Hs
  isplitl [HO]; · iexact HO
  isplitr [Ho]
  · isplitl [P0 P1 P2 P3 P6]
    · isplitl [P0]; · iexact P0
      isplitl [P1]; · iexact P1
      isplitl [P2]; · iexact P2
      isplitl [P3]; · iexact P3
      iexact P6
    isplitl [S8 S9 S10]
    · iframe
    iframe
  iexact Ho

/-- What the third stage leaves of the blocks, and its closed cells. -/
def Left2 (c : Dev nD) : sProp 𝕄 :=
  iprop((wPt 1 c (rW 0 0).set fullShare (wb (sh 1 c)) ∗ wPt 1 c (rW 0 1).set fullShare (wb (sh 1 c))) ∗ semVal (xCell c (true, 4)) 0 ∗ semVal (xCell c (true, 5)) 0)

theorem stage2_wp (c : Dev nD) (Q : PUnit → sProp 𝕄) :
    iprop(records wb Kx ∗ levAts L lv ∗ Hold x K V c ∗ kvIn K V c 0 1 ∗ kvIdle (F := F) c 1 ∗ ow c (owedL c [])
        ∗ (wRes (F := F) c (true, 4) ∗ wRes (F := F) c (true, 5)) ∗ wPt 1 c rF.set fullShare.left (wb (sh 1 c)) ∗ held c oM (out1 wb x K V c))
      ⊢ iprop(((Hold x K V c ∗ kvIn K V c 1 2 ∗ kvIdle (F := F) c 0 ∗ ow c (owedL c []) ∗ wPt 1 c rF.set fullShare.left (wb (sh 1 c)) ∗ Left2 wb c
        ∗ held c oM (out2 wb x K V c)) -∗ Q ⟨⟩) -∗ WP c (stage2C c) Q) := by
  unfold stage2C stage2 Hold kvIdle Left2
  simp only [wPt_cr]
  have a0 := (acc_cr 0 0).le
  have a1 := (acc_cr 0 1).le
  have a2 := (acc_cr 1 0).le.trans (rW_sub_rF 0)
  have a3 := (acc_cr 1 1).le.trans (rW_sub_rF 1)
  have e4 : xPay wb c (true, 4) ⊢ wHeld c crM (rW 0 0).set fullShare (wb (sh 1 c)) := BI.Entails.refl _
  have e5 : xPay wb c (true, 5) ⊢ wHeld c crM (rW 0 1).set fullShare (wb (sh 1 c)) := BI.Entails.refl _
  iintro ⟨#HR, #HL, ⟨HK, HV, Hx, Hq, Hc⟩, HB, ⟨Hf, Hs⟩, HO, ⟨P4, P5⟩, P6, Ho⟩ HQ
  unfold WP
  rw [wp_bind]
  iapply (kvStart1_wp c c (sh 2 c) K V (k0_off1 c 2#32) (k0_off1_inb c 2) (off_eq c 2) _) $$ [HK HV Hf Hs]
  · iframe
  iintro ⟨HK, HV, HB'⟩
  rw [wp_bind]
  iapply (waitIn_wp wb Kx c (true, 4) ownM crM (Memref.isWhole_whole _) (Memref.isWhole_whole _) _ rfl ![0, 0, 0] Gen.inb_S2x1024x1024_S1x1024x512_0_0_0 Gen.wordsbf16_S2x1024x1024_S1x1024x512_0_0_0
    (by decide) [] (by decide) _) $$ [HO P4]
  · iframe HR HL P4 HO
  iintro ⟨P4, HO, Z4⟩
  rw [wp_bind]
  iapply (kvWait0_wp c (owedL c []) (levAts L lv) (mayWait_list c (.dma (kvSem 0)) [] (by decide)) _ _
    (k0_off1 c 1#32) (k0_off1_inb c 1) _) $$ [HO HB]
  · iframe HL HO HB
  iintro ⟨-, HO, HA, Hs⟩
  icases e4 $$ P4 with P4
  rw [wp_bind]
  iapply (proja_wp c crM (rW 0 0).set fullShare (wb (sh 1 c)) x (wb (sh 1 c)) a0 rfl _) $$ [Hx P4 Hq]
  · isplitl [Hx]; · iexact Hx
    isplitl [P4]; · iexact P4
    iexact Hq
  iintro ⟨Hx, P4, Hq⟩
  rw [wp_bind]
  iapply (first_four c 0 _ _ _ _ (heads0a_wp c _ _ _) _) $$ [HA Hq Hc]
  · isplitl [HA]; · iexact HA
    isplitl [Hq]; · iexact Hq
    iexact Hc
  iintro ⟨HA, Hq, Hc⟩
  rw [wp_bind]
  iapply (waitIn_wp wb Kx c (true, 5) ownM crM (Memref.isWhole_whole _) (Memref.isWhole_whole _) _ rfl ![0, 0, 512] Gen.inb_S2x1024x1024_S1x1024x512_0_0_512 Gen.wordsbf16_S2x1024x1024_S1x1024x512_0_0_512
    (by decide) [] (by decide) _) $$ [HO P5]
  · iframe HR HL P5 HO
  iintro ⟨P5, HO, Z5⟩
  icases e5 $$ P5 with P5
  rw [wp_bind]
  iapply (projb_wp c crM (rW 0 1).set fullShare (wb (sh 1 c)) x (wb (sh 1 c)) a1 rfl _) $$ [Hx P5 Hq]
  · isplitl [Hx]; · iexact Hx
    isplitl [P5]; · iexact P5
    iexact Hq
  iintro ⟨Hx, P5, Hq⟩
  rw [wp_bind]
  iapply (last_four c 0 _ _ _ _ (heads0b_wp c _ _ _) _) $$ [HA Hq Hc]
  · isplitl [HA]; · iexact HA
    isplitl [Hq]; · iexact Hq
    iexact Hc
  iintro ⟨Hf, Hq, Hc⟩
  rw [wp_bind]
  iapply (outLoad_wp c crM rF.set fullShare.left (wb (sh 1 c)) (cxV wb x K V c 1) (wb (sh 1 c)) 0 a2 rfl ![1, 0, 0] Gen.inb_S2x1024x1024_S1x1024x512_1_0_0 rfl _) $$ [Hc P6]
  · isplitl [Hc]; · iexact Hc
    iexact P6
  iintro ⟨Hc, P6⟩
  rw [wp_bind]
  iapply (outLoad_wp c crM rF.set fullShare.left (wb (sh 1 c)) (cxV wb x K V c 1) (wb (sh 1 c)) 1 a3 rfl ![1, 0, 512] Gen.inb_S2x1024x1024_S1x1024x512_1_0_512 rfl _) $$ [Hc P6]
  · isplitl [Hc]; · iexact Hc
    iexact P6
  iintro ⟨Hc, P6⟩
  iapply (outAdd2_wp c (cxV wb x K V c 1) (wb (sh 1 c)) (out1 wb x K V c) _) $$ Ho
  iintro Ho
  iapply HQ
  isplitl [HK HV Hx Hq Hc]
  · isplitl [HK]; · iexact HK
    isplitl [HV]; · iexact HV
    isplitl [Hx]; · iexact Hx
    isplitl [Hq]; · iexact Hq
    iexists (cxV wb x K V c 1)
    iexact Hc
  isplitl [HB']; · iexact HB'
  isplitl [Hf Hs]
  · isplitl [Hf]; · iexact Hf
    iexact Hs
  isplitl [HO]; · iexact HO
  isplitl [P6]; · iexact P6
  isplitr [Ho]
  · isplitl [P4 P5]
    · isplitl [P4]; · iexact P4
      iexact P5
    iframe
  iexact Ho

/-- What the last stage leaves of the blocks, and its closed cells. -/
def Left3 (c : Dev nD) : sProp 𝕄 :=
  iprop((wPt 2 c (rW 0 0).set fullShare (wb (sh 2 c)) ∗ wPt 2 c (rW 0 1).set fullShare (wb (sh 2 c)) ∗ wPt 2 c rF.set fullShare (wb (sh 2 c))) ∗ semVal (xCell c (true, 8)) 0 ∗ semVal (xCell c (true, 9)) 0 ∗ semVal (xCell c (true, 10)) 0)

theorem stage3_wp (c : Dev nD) (Q : PUnit → sProp 𝕄) :
    iprop(records wb Kx ∗ levAts L lv ∗ Hold x K V c ∗ kvIn K V c 1 2 ∗ ow c (owedL c [])
        ∗ (wRes (F := F) c (true, 8) ∗ wRes (F := F) c (true, 9) ∗ wRes (F := F) c (true, 10)) ∗ held c oM (out2 wb x K V c))
      ⊢ iprop(((Hold x K V c ∗ kvIdle (F := F) c 1 ∗ ow c (owedL c []) ∗ Left3 wb c
        ∗ held c oM (out3 wb x K V c)) -∗ Q ⟨⟩) -∗ WP c (stage3C c) Q) := by
  unfold stage3C stage3 Hold kvIdle Left3
  simp only [wPt_c2]
  have a0 := (acc_c2 0 0).le
  have a1 := (acc_c2 0 1).le
  have a2 := (acc_c2 1 0).le.trans (rW_sub_rF 0)
  have a3 := (acc_c2 1 1).le.trans (rW_sub_rF 1)
  have e8 : xPay wb c (true, 8) ⊢ wHeld c c2M (rW 0 0).set fullShare (wb (sh 2 c)) := BI.Entails.refl _
  have e9 : xPay wb c (true, 9) ⊢ wHeld c c2M (rW 0 1).set fullShare (wb (sh 2 c)) := BI.Entails.refl _
  have e10 : xPay wb c (true, 10) ⊢ wHeld c c2M rF.set fullShare (wb (sh 2 c)) := BI.Entails.refl _
  iintro ⟨#HR, #HL, ⟨HK, HV, Hx, Hq, Hc⟩, HB, HO, ⟨P8, P9, P10⟩, Ho⟩ HQ
  unfold WP
  rw [wp_bind]
  iapply (waitHalf_wp wb Kx c (true, 8) clM c2M (Memref.isWhole_whole _) (Memref.isWhole_whole _) _ rfl ![0, 0, 0] Gen.inb_S2x1024x1024_S1x1024x512_0_0_0 Gen.wordsbf16_S2x1024x1024_S1x1024x512_0_0_0
    (by decide) [] (by decide) _) $$ [HO P8]
  · iframe HR HL P8 HO
  iintro ⟨P8, HO, Z8⟩
  rw [wp_bind]
  iapply (kvWait1_wp c (owedL c []) (levAts L lv) (mayWait_list c (.dma (kvSem 1)) [] (by decide)) _ _
    (k0_off1 c 2#32) (k0_off1_inb c 2) _) $$ [HO HB]
  · iframe HL HO HB
  iintro ⟨-, HO, HA, Hs⟩
  icases e8 $$ P8 with P8
  rw [wp_bind]
  iapply (proja_wp c c2M (rW 0 0).set fullShare (wb (sh 2 c)) x (wb (sh 2 c)) a0 rfl _) $$ [Hx P8 Hq]
  · isplitl [Hx]; · iexact Hx
    isplitl [P8]; · iexact P8
    iexact Hq
  iintro ⟨Hx, P8, Hq⟩
  rw [wp_bind]
  iapply (first_four c 1 _ _ _ _ (heads1a_wp c _ _ _) _) $$ [HA Hq Hc]
  · isplitl [HA]; · iexact HA
    isplitl [Hq]; · iexact Hq
    iexact Hc
  iintro ⟨HA, Hq, Hc⟩
  rw [wp_bind]
  iapply (waitHalf_wp wb Kx c (true, 9) clM c2M (Memref.isWhole_whole _) (Memref.isWhole_whole _) _ rfl ![0, 0, 512] Gen.inb_S2x1024x1024_S1x1024x512_0_0_512 Gen.wordsbf16_S2x1024x1024_S1x1024x512_0_0_512
    (by decide) [] (by decide) _) $$ [HO P9]
  · iframe HR HL P9 HO
  iintro ⟨P9, HO, Z9⟩
  icases e9 $$ P9 with P9
  rw [wp_bind]
  iapply (projb_wp c c2M (rW 0 1).set fullShare (wb (sh 2 c)) x (wb (sh 2 c)) a1 rfl _) $$ [Hx P9 Hq]
  · isplitl [Hx]; · iexact Hx
    isplitl [P9]; · iexact P9
    iexact Hq
  iintro ⟨Hx, P9, Hq⟩
  rw [wp_bind]
  iapply (last_four c 1 _ _ _ _ (heads1b_wp c _ _ _) _) $$ [HA Hq Hc]
  · isplitl [HA]; · iexact HA
    isplitl [Hq]; · iexact Hq
    iexact Hc
  iintro ⟨Hf, Hq, Hc⟩
  rw [wp_bind]
  iapply (waitFull_wp wb Kx c (true, 10) crM c2M (Memref.isWhole_whole _) (Memref.isWhole_whole _) _ rfl ![1, 0, 0] Gen.inb_S2x1024x1024_S1x1024x1024_1_0_0 Gen.wordsbf16_S2x1024x1024_S1x1024x1024_1_0_0
    (by decide) [] (by decide) _) $$ [HO P10]
  · iframe HR HL P10 HO
  iintro ⟨P10, HO, Z10⟩
  icases e10 $$ P10 with P10
  rw [wp_bind]
  iapply (outLoad_wp c c2M rF.set fullShare (wb (sh 2 c)) (cxV wb x K V c 2) (wb (sh 2 c)) 0 a2 rfl ![1, 0, 0] Gen.inb_S2x1024x1024_S1x1024x512_1_0_0 rfl _) $$ [Hc P10]
  · isplitl [Hc]; · iexact Hc
    iexact P10
  iintro ⟨Hc, P10⟩
  rw [wp_bind]
  iapply (outLoad_wp c c2M rF.set fullShare (wb (sh 2 c)) (cxV wb x K V c 2) (wb (sh 2 c)) 1 a3 rfl ![1, 0, 512] Gen.inb_S2x1024x1024_S1x1024x512_1_0_512 rfl _) $$ [Hc P10]
  · isplitl [Hc]; · iexact Hc
    iexact P10
  iintro ⟨Hc, P10⟩
  iapply (outAdd2_wp c (cxV wb x K V c 2) (wb (sh 2 c)) (out2 wb x K V c) _) $$ Ho
  iintro Ho
  iapply HQ
  isplitl [HK HV Hx Hq Hc]
  · isplitl [HK]; · iexact HK
    isplitl [HV]; · iexact HV
    isplitl [Hx]; · iexact Hx
    isplitl [Hq]; · iexact Hq
    iexists (cxV wb x K V c 2)
    iexact Hc
  isplitl [Hf Hs]
  · isplitl [Hf]; · iexact Hf
    iexact Hs
  isplitl [HO]; · iexact HO
  isplitr [Ho]
  · isplitl [P8 P9 P10]
    · isplitl [P8]; · iexact P8
      isplitl [P9]; · iexact P9
      iexact P10
    iframe
  iexact Ho

end Cert.KernelIdeal.Attn

end
-- ==== Proof.Whole.lean ====
/-
  The whole body as one rule.
-/
module

public import proofs.«01_k».proof.Proof.Stages

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## The buffers, whole and in parts -/

theorem wPt_four (b : Fin 4) (c : Dev nD) (q : PosShare TreeShare) (f : S2x1024x1024.Idx → Elt F .bf16) :
    wPt b c Finset.univ q f ⊣⊢ iprop(wPt b c (rW 0 0).set q f ∗ wPt b c (rW 0 1).set q f ∗ wPt b c (rW 1 0).set q f ∗ wPt b c (rW 1 1).set q f) := by
  have h1 := wPt_three b c q f
  have h2 := wPt_row b c q f
  constructor
  · exact h1.1.trans (BI.sep_mono (BI.Entails.refl _) (BI.sep_mono (BI.Entails.refl _) h2.1))
  · exact (BI.sep_mono (BI.Entails.refl _) (BI.sep_mono (BI.Entails.refl _) h2.2)).trans h1.2

/-- The own block: a half to read, and for each of the eight sends its part. -/
theorem own_parts (c : Dev nD) (f : S2x1024x1024.Idx → Elt F .bf16) :
    wPt 3 c Finset.univ fullShare f ⊣⊢ iprop(wPt 3 c Finset.univ fullShare.left f
      ∗ wPt 3 c (rW 0 0).set fullShare.right.left f
      ∗ wPt 3 c (rW 0 1).set fullShare.right.left f
      ∗ wPt 3 c (rW 1 0).set fullShare.right.left f
      ∗ wPt 3 c (rW 1 1).set fullShare.right.left f
      ∗ wPt 3 c (rW 0 0).set fullShare.right.right f
      ∗ wPt 3 c (rW 0 1).set fullShare.right.right f
      ∗ wPt 3 c (rW 1 0).set fullShare.right.right f
      ∗ wPt 3 c (rW 1 1).set fullShare.right.right f) := by
  have hs := wPt_share 3 c Finset.univ fullShare f
  have h4 := wPt_four 3 c fullShare.right f
  have a0 := wPt_share 3 c (rW 0 0).set fullShare.right f
  have a1 := wPt_share 3 c (rW 0 1).set fullShare.right f
  have a2 := wPt_share 3 c (rW 1 0).set fullShare.right f
  have a3 := wPt_share 3 c (rW 1 1).set fullShare.right f
  constructor
  · iintro H
    icases hs.1 $$ H with ⟨H, G⟩
    icases h4.1 $$ G with ⟨G0, G1, G2, G3⟩
    icases a0.1 $$ G0 with ⟨G0, G4⟩
    icases a1.1 $$ G1 with ⟨G1, G5⟩
    icases a2.1 $$ G2 with ⟨G2, G6⟩
    icases a3.1 $$ G3 with ⟨G3, G7⟩
    iframe
  · iintro ⟨H, G0, G1, G2, G3, G4, G5, G6, G7⟩
    iapply hs.2
    isplitl [H]; · iexact H
    iapply h4.2
    isplitl [G0 G4]
    · iapply a0.2
      isplitl [G0] <;> iassumption
    isplitl [G1 G5]
    · iapply a1.2
      isplitl [G1] <;> iassumption
    isplitl [G2 G6]
    · iapply a2.2
      isplitl [G2] <;> iassumption
    iapply a3.2
    isplitl [G3] <;> iassumption

theorem free_at (c : Dev nD) (t : Fin 11) (f : S2x1024x1024.Idx → Elt F .bf16) : wPt (dstB t) c (tReg t) fullShare f ⊢ free (F := F) c t := by
  unfold free
  iintro H
  iexists f
  iexact H

theorem frees_intro (c : Dev nD) :
    iprop((∃ f, held (F := F) c clM f) ∗ (∃ f, held (F := F) c crM f) ∗ (∃ f, held (F := F) c c2M f)) ⊢ iprop(frees1 (F := F) c ∗ frees3 (F := F) c) := by
  iintro ⟨⟨%f, Hl⟩, ⟨%g, Hr⟩, ⟨%h, H2⟩⟩
  have hl : held c clM f ⊢ iprop(free (F := F) c 0 ∗ free (F := F) c 1 ∗ free (F := F) c 2 ∗ free (F := F) c 3) :=
    (wPt_four 0 c fullShare f).1.trans (BI.sep_mono (free_at c 0 f) (BI.sep_mono (free_at c 1 f) (BI.sep_mono (free_at c 2 f) (free_at c 3 f))))
  have hr : held c crM g ⊢ iprop(free (F := F) c 4 ∗ free (F := F) c 5 ∗ free (F := F) c 6 ∗ free (F := F) c 7) :=
    (wPt_four 1 c fullShare g).1.trans (BI.sep_mono (free_at c 4 g) (BI.sep_mono (free_at c 5 g) (BI.sep_mono (free_at c 6 g) (free_at c 7 g))))
  have h2 : held c c2M h ⊢ iprop(free (F := F) c 8 ∗ free (F := F) c 9 ∗ free (F := F) c 10) :=
    (wPt_three 2 c fullShare h).1.trans (BI.sep_mono (free_at c 8 h) (BI.sep_mono (free_at c 9 h) (free_at c 10 h)))
  icases hl $$ Hl with ⟨A0, A1, A2, A3⟩
  icases hr $$ Hr with ⟨A4, A5, A6, A7⟩
  icases h2 $$ H2 with ⟨A8, A9, A10⟩
  unfold frees1 frees3
  isplitl [A0 A1 A2 A3 A8 A9]
  · iframe
  iframe

theorem mem_rKV (s : Fin 2) (h : Fin 8) (i : S2x8x1024x128.Idx) : i ∈ (rKV s h).set ↔ (i 0).val = s.val ∧ (i 1).val = h.val := by
  have i2 : (i 2).val < 1024 := (i 2).isLt
  have i3 : (i 3).val < 128 := (i 3).isLt
  rw [Rect.mem_set_unit]
  constructor
  · intro H
    have h0 : s.val ≤ (i 0).val ∧ (i 0).val < s.val + 1 := H 0
    have h1 : h.val ≤ (i 1).val ∧ (i 1).val < h.val + 1 := H 1
    omega
  · rintro ⟨h0, h1⟩ x
    match x with
    | ⟨0, _⟩ => show s.val ≤ (i 0).val ∧ (i 0).val < s.val + 1; omega
    | ⟨1, _⟩ => show h.val ≤ (i 1).val ∧ (i 1).val < h.val + 1; omega
    | ⟨2, _⟩ => show 0 ≤ (i 2).val ∧ (i 2).val < 0 + 1024; omega
    | ⟨3, _⟩ => show 0 ≤ (i 3).val ∧ (i 3).val < 0 + 128; omega
theorem rKV_disj (t t' : Fin 2 × Fin 8) (h : t ≠ t') : Disjoint (rKV t.1 t.2).set (rKV t'.1 t'.2).set :=
  Finset.disjoint_left.2 fun i h1 h2 => by
    have h1 := (mem_rKV _ _ i).1 h1
    have h2 := (mem_rKV _ _ i).1 h2
    exact h (Prod.ext (Fin.ext (h1.1.symm.trans h2.1)) (Fin.ext (h1.2.symm.trans h2.2)))
theorem rKV_cover : (Finset.univ : Finset (Fin 2 × Fin 8)).biUnion (fun t => (rKV t.1 t.2).set) = Finset.univ := by
  ext i
  simp only [Finset.mem_biUnion, Finset.mem_univ, true_and, iff_true]
  exact ⟨(⟨(i 0).val, (i 0).isLt⟩, ⟨(i 1).val, (i 1).isLt⟩), (mem_rKV _ _ i).2 ⟨rfl, rfl⟩⟩

/-- The place of a head in a scratch. -/
def placeSet (c : Dev nD) (M : Memref sig .tc .vmem S2x8x1024x128 .f32) (t : Fin 2 × Fin 8) : Finset (Idx (M.view.loc (c : Thread nD τ))) :=
  (M.access (rKV t.1 t.2) : View sig .tc _ _ _).set

/-- A key or value scratch: whole, and by the places of its heads. -/
theorem kv_places (c : Dev nD) (M : Memref sig .tc .vmem S2x8x1024x128 .f32)
    (hd : ∀ t t' : Fin 2 × Fin 8, t ≠ t' → Disjoint (placeSet c M t) (placeSet c M t'))
    (hc : (Finset.univ : Finset (Fin 2 × Fin 8)).biUnion (placeSet c M) = Finset.univ) :
    iprop(∃ f, held (F := F) c M f) ⊣⊢ bigSep Finset.univ (fun t : Fin 2 × Fin 8 => kvFree (F := F) c M t.1 t.2) := by
  constructor
  · iintro ⟨%f, H⟩
    have e : (held c M f : sProp 𝕄) = bigSep Finset.univ fun t : Fin 2 × Fin 8 => (M.view.loc (c : Thread nD τ) ↦[placeSet c M t]{fullShare} f) := by
      show (M.view.loc (c : Thread nD τ) ↦[Finset.univ]{fullShare} f : sProp 𝕄) = _
      rw [← hc]
      exact pointsTo_biUnion _ _ (fun t _ t' _ h => hd t t' h)
    iapply ((Entails.of_eq e).trans (BI.bigSep_mono fun t _ =>
      (show (M.view.loc (c : Thread nD τ) ↦[placeSet c M t]{fullShare} f : sProp 𝕄) ⊢ kvFree (F := F) c M t.1 t.2 from by unfold kvFree; iintro H; iexists f; iexact H))) $$ H
  · have hN : Nonempty (Buf (Elt F) (M.view.loc (c : Thread nD τ))) := ⟨fun _ => default⟩
    have h0 := BI.bigSep_exists_pi (M := 𝕄) (Y := fun _ : Fin 2 × Fin 8 => Buf (Elt F) (M.view.loc (c : Thread nD τ))) Finset.univ
      (fun t f => (M.view.loc (c : Thread nD τ) ↦[placeSet c M t]{fullShare} f : sProp 𝕄))
    have h1 : ∀ t ∈ (Finset.univ : Finset (Fin 2 × Fin 8)), kvFree (F := F) c M t.1 t.2
        ⊢ iprop(∃ f : Buf (Elt F) (M.view.loc (c : Thread nD τ)), M.view.loc (c : Thread nD τ) ↦[placeSet c M t]{fullShare} f) := fun t _ => BI.Entails.refl _
    have h2 : (bigSep Finset.univ (fun t : Fin 2 × Fin 8 => kvFree (F := F) c M t.1 t.2) : sProp 𝕄)
        ⊢ iprop(∃ fs : (t : Fin 2 × Fin 8) → Buf (Elt F) (M.view.loc (c : Thread nD τ)), bigSep Finset.univ fun t => (M.view.loc (c : Thread nD τ) ↦[placeSet c M t]{fullShare} fs t)) :=
      (BI.bigSep_mono h1).trans h0
    iintro H
    icases h2 $$ H with ⟨%fs, H⟩
    have j := pointsTo_biUnion_join (Ix := Unit) (Name := ℕ) (U := UU) (Lvl := ℕ) (ℓ := M.view.loc (c : Thread nD τ)) (q := fullShare) (Val := Elt F) (Finset.univ : Finset (Fin 2 × Fin 8))
      (placeSet c M) fs (fs (0, 0)) (fun t _ t' _ h => hd t t' h)
    rw [hc] at j
    icases j $$ H with ⟨%g, -, H⟩
    iexists g
    iexact H

/-- The sixteen places, one by one. -/
theorem places_eq (P : Fin 2 × Fin 8 → sProp 𝕄) : bigSep Finset.univ P
    = iprop(P (0, 0) ∗ P (0, 1) ∗ P (0, 2) ∗ P (0, 3) ∗ P (0, 4) ∗ P (0, 5) ∗ P (0, 6) ∗ P (0, 7) ∗ P (1, 0) ∗ P (1, 1) ∗ P (1, 2) ∗ P (1, 3) ∗ P (1, 4) ∗ P (1, 5) ∗ P (1, 6) ∗ P (1, 7)) :=
  bigSep_univ_eq_bigSepL [(0, 0), (0, 1), (0, 2), (0, 3), (0, 4), (0, 5), (0, 6), (0, 7), (1, 0), (1, 1), (1, 2), (1, 3), (1, 4), (1, 5), (1, 6), (1, 7)] (by decide) (by decide) P

theorem acc_ks (s : Fin 2) (h : Fin 8) : (ksM.access (rKV s h) : View sig .tc _ _ _).set = (rKV s h).set := View.set_slice_whole cc0_scratch10 _
theorem acc_vs (s : Fin 2) (h : Fin 8) : (vsM.access (rKV s h) : View sig .tc _ _ _).set = (rKV s h).set := View.set_slice_whole cc0_scratch11 _
theorem ks_places (c : Dev nD) : iprop(∃ f, held (F := F) c ksM f) ⊣⊢ bigSep Finset.univ (fun t : Fin 2 × Fin 8 => kvFree (F := F) c ksM t.1 t.2) :=
  kv_places c ksM (fun t t' h => by unfold placeSet; rw [acc_ks, acc_ks]; exact rKV_disj t t' h)
    ((congrArg (fun K => (Finset.univ : Finset (Fin 2 × Fin 8)).biUnion K) (funext fun t => acc_ks t.1 t.2)).trans rKV_cover)
theorem vs_places (c : Dev nD) : iprop(∃ f, held (F := F) c vsM f) ⊣⊢ bigSep Finset.univ (fun t : Fin 2 × Fin 8 => kvFree (F := F) c vsM t.1 t.2) :=
  kv_places c vsM (fun t t' h => by unfold placeSet; rw [acc_vs, acc_vs]; exact rKV_disj t t' h)
    ((congrArg (fun K => (Finset.univ : Finset (Fin 2 × Fin 8)).biUnion K) (funext fun t => acc_vs t.1 t.2)).trans rKV_cover)

theorem kv_split (c : Dev nD) : iprop((∃ f, held (F := F) c ksM f) ∗ (∃ f, held (F := F) c vsM f)) ⊢ iprop(kvFreeAll (F := F) c 0 ∗ kvFreeAll (F := F) c 1) := by
  unfold kvFreeAll kvFree2
  iintro ⟨HK, HV⟩
  icases ((ks_places c).1.trans (Entails.of_eq (places_eq _))) $$ HK with ⟨K0, K1, K2, K3, K4, K5, K6, K7, K8, K9, K10, K11, K12, K13, K14, K15⟩
  icases ((vs_places c).1.trans (Entails.of_eq (places_eq _))) $$ HV with ⟨V0, V1, V2, V3, V4, V5, V6, V7, V8, V9, V10, V11, V12, V13, V14, V15⟩
  isplitl [K0 V0 K1 V1 K2 V2 K3 V3 K4 V4 K5 V5 K6 V6 K7 V7]
  · isplitl [K0 V0]; · isplitl [K0] <;> iassumption
    isplitl [K1 V1]; · isplitl [K1] <;> iassumption
    isplitl [K2 V2]; · isplitl [K2] <;> iassumption
    isplitl [K3 V3]; · isplitl [K3] <;> iassumption
    isplitl [K4 V4]; · isplitl [K4] <;> iassumption
    isplitl [K5 V5]; · isplitl [K5] <;> iassumption
    isplitl [K6 V6]; · isplitl [K6] <;> iassumption
    isplitl [K7] <;> iassumption
  isplitl [K8 V8]; · isplitl [K8] <;> iassumption
  isplitl [K9 V9]; · isplitl [K9] <;> iassumption
  isplitl [K10 V10]; · isplitl [K10] <;> iassumption
  isplitl [K11 V11]; · isplitl [K11] <;> iassumption
  isplitl [K12 V12]; · isplitl [K12] <;> iassumption
  isplitl [K13 V13]; · isplitl [K13] <;> iassumption
  isplitl [K14 V14]; · isplitl [K14] <;> iassumption
  isplitl [K15] <;> iassumption
theorem kv_join (c : Dev nD) : iprop(kvFreeAll (F := F) c 0 ∗ kvFreeAll (F := F) c 1) ⊢ iprop((∃ f, held (F := F) c ksM f) ∗ (∃ f, held (F := F) c vsM f)) := by
  unfold kvFreeAll kvFree2
  iintro ⟨⟨⟨K0, V0⟩, ⟨K1, V1⟩, ⟨K2, V2⟩, ⟨K3, V3⟩, ⟨K4, V4⟩, ⟨K5, V5⟩, ⟨K6, V6⟩, ⟨K7, V7⟩⟩, ⟨⟨K8, V8⟩, ⟨K9, V9⟩, ⟨K10, V10⟩, ⟨K11, V11⟩, ⟨K12, V12⟩, ⟨K13, V13⟩, ⟨K14, V14⟩, ⟨K15, V15⟩⟩⟩
  isplitl [K0 K1 K2 K3 K4 K5 K6 K7 K8 K9 K10 K11 K12 K13 K14 K15]
  · iapply ((Entails.of_eq (places_eq _).symm).trans (ks_places c).2)
    isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    isplitl [K11]; · iexact K11
    isplitl [K12]; · iexact K12
    isplitl [K13]; · iexact K13
    isplitl [K14]; · iexact K14
    iexact K15
  iapply ((Entails.of_eq (places_eq _).symm).trans (vs_places c).2)
  isplitl [V0]; · iexact V0
  isplitl [V1]; · iexact V1
  isplitl [V2]; · iexact V2
  isplitl [V3]; · iexact V3
  isplitl [V4]; · iexact V4
  isplitl [V5]; · iexact V5
  isplitl [V6]; · iexact V6
  isplitl [V7]; · iexact V7
  isplitl [V8]; · iexact V8
  isplitl [V9]; · iexact V9
  isplitl [V10]; · iexact V10
  isplitl [V11]; · iexact V11
  isplitl [V12]; · iexact V12
  isplitl [V13]; · iexact V13
  isplitl [V14]; · iexact V14
  iexact V15

/-! ## The first transfers and the last waits -/

variable (wb : Dev nD → S2x1024x1024.Idx → Elt F .bf16) (Kx : Dev nD × Fin 23 → ℕ)

theorem own_split (c : Dev nD) : wPt 3 c Finset.univ fullShare (wb (sh 0 c)) ⊢ iprop(wPt 3 c Finset.univ fullShare.left (wb (sh 0 c))
    ∗ sndPay wb c 0 ∗ sndPay wb c 1 ∗ sndPay wb c 2 ∗ sndPay wb c 3 ∗ sndPay wb c 4 ∗ sndPay wb c 5 ∗ sndPay wb c 6 ∗ sndPay wb c 7) := (own_parts c _).1
theorem own_join (c : Dev nD) : iprop(wPt 3 c Finset.univ fullShare.left (wb (sh 0 c))
    ∗ xPay wb c (false, 0) ∗ xPay wb c (false, 1) ∗ xPay wb c (false, 2) ∗ xPay wb c (false, 3) ∗ xPay wb c (false, 4) ∗ xPay wb c (false, 5) ∗ xPay wb c (false, 6) ∗ xPay wb c (false, 7)) ⊢ held c ownM (wb (sh 0 c)) := (own_parts c _).2

set_option maxHeartbeats 2000000 in
theorem hop1_wp (c : Dev nD) (Q : PUnit → sProp 𝕄) :
    iprop(records wb Kx ∗ ow c (owedL c allT) ∗ held c ownM (wb (sh 0 c)) ∗ sRest (F := F) c 0 ∗ sRest (F := F) c 1 ∗ sRest (F := F) c 2 ∗ sRest (F := F) c 3 ∗ sRest (F := F) c 4 ∗ sRest (F := F) c 5 ∗ sRest (F := F) c 6 ∗ sRest (F := F) c 7)
      ⊢ iprop(((ow c (owedL c [8, 9, 10]) ∗ wPt 3 c Finset.univ fullShare.left (wb (sh 0 c))
        ∗ wRes (F := F) c (false, 0) ∗ wRes (F := F) c (false, 1) ∗ wRes (F := F) c (false, 2) ∗ wRes (F := F) c (false, 3) ∗ wRes (F := F) c (false, 4) ∗ wRes (F := F) c (false, 5) ∗ wRes (F := F) c (false, 6) ∗ wRes (F := F) c (false, 7)) -∗ Q ⟨⟩) -∗ WP c (hop1C c) Q) := by
  unfold hop1C hop1
  have hs : (held c ownM (wb (sh 0 c)) : sProp 𝕄) ⊢ _ := own_split wb c
  iintro ⟨#HR, HO, Hw, S0, S1, S2, S3, S4, S5, S6, S7⟩ HQ
  icases hs $$ Hw with ⟨Hw, B0, B1, B2, B3, B4, B5, B6, B7⟩
  unfold WP allT
  rw [wp_bind]
  iapply (sendR_wp wb Kx c 0 0 0 rfl rfl rfl (Memref.isWhole_whole _) (Memref.isWhole_whole _) _ _ _ ![0, 0, 0] Gen.inb_S2x1024x1024_S1x1024x512_0_0_0 Gen.wordsbf16_S2x1024x1024_S1x1024x512_0_0_0 rfl
    (Fin.ext (Gen.k0_dev3_eq c)) rfl rfl rfl [1, 2, 3, 4, 5, 6, 7, 8, 9, 10] _) $$ [HO B0 S0]
  · isplitr; · iexact HR
    isplitl [B0 S0]
    · unfold sIn
      isplitl [B0]; · iexact B0
      iexact S0
    iexact HO
  iintro ⟨S0, HO⟩
  rw [wp_bind]
  iapply (sendR_wp wb Kx c 1 0 1 rfl rfl rfl (Memref.isWhole_whole _) (Memref.isWhole_whole _) _ _ _ ![0, 0, 512] Gen.inb_S2x1024x1024_S1x1024x512_0_0_512 Gen.wordsbf16_S2x1024x1024_S1x1024x512_0_0_512 rfl
    (Fin.ext (Gen.k0_dev4_eq c)) rfl rfl rfl [2, 3, 4, 5, 6, 7, 8, 9, 10] _) $$ [HO B1 S1]
  · isplitr; · iexact HR
    isplitl [B1 S1]
    · unfold sIn
      isplitl [B1]; · iexact B1
      iexact S1
    iexact HO
  iintro ⟨S1, HO⟩
  rw [wp_bind]
  iapply (sendR_wp wb Kx c 2 1 0 rfl rfl rfl (Memref.isWhole_whole _) (Memref.isWhole_whole _) _ _ _ ![1, 0, 0] Gen.inb_S2x1024x1024_S1x1024x512_1_0_0 Gen.wordsbf16_S2x1024x1024_S1x1024x512_1_0_0 rfl
    (Fin.ext (Gen.k0_dev5_eq c)) rfl rfl rfl [3, 4, 5, 6, 7, 8, 9, 10] _) $$ [HO B2 S2]
  · isplitr; · iexact HR
    isplitl [B2 S2]
    · unfold sIn
      isplitl [B2]; · iexact B2
      iexact S2
    iexact HO
  iintro ⟨S2, HO⟩
  rw [wp_bind]
  iapply (sendR_wp wb Kx c 3 1 1 rfl rfl rfl (Memref.isWhole_whole _) (Memref.isWhole_whole _) _ _ _ ![1, 0, 512] Gen.inb_S2x1024x1024_S1x1024x512_1_0_512 Gen.wordsbf16_S2x1024x1024_S1x1024x512_1_0_512 rfl
    (Fin.ext (Gen.k0_dev6_eq c)) rfl rfl rfl [4, 5, 6, 7, 8, 9, 10] _) $$ [HO B3 S3]
  · isplitr; · iexact HR
    isplitl [B3 S3]
    · unfold sIn
      isplitl [B3]; · iexact B3
      iexact S3
    iexact HO
  iintro ⟨S3, HO⟩
  rw [wp_bind]
  iapply (sendL_wp wb Kx c 4 0 0 rfl rfl rfl (Memref.isWhole_whole _) (Memref.isWhole_whole _) _ _ _ ![0, 0, 0] Gen.inb_S2x1024x1024_S1x1024x512_0_0_0 Gen.wordsbf16_S2x1024x1024_S1x1024x512_0_0_0 rfl
    (Fin.ext (Gen.k0_dev7_eq c)) rfl rfl rfl [5, 6, 7, 8, 9, 10] _) $$ [HO B4 S4]
  · isplitr; · iexact HR
    isplitl [B4 S4]
    · unfold sIn
      isplitl [B4]; · iexact B4
      iexact S4
    iexact HO
  iintro ⟨S4, HO⟩
  rw [wp_bind]
  iapply (sendL_wp wb Kx c 5 0 1 rfl rfl rfl (Memref.isWhole_whole _) (Memref.isWhole_whole _) _ _ _ ![0, 0, 512] Gen.inb_S2x1024x1024_S1x1024x512_0_0_512 Gen.wordsbf16_S2x1024x1024_S1x1024x512_0_0_512 rfl
    (Fin.ext (Gen.k0_dev8_eq c)) rfl rfl rfl [6, 7, 8, 9, 10] _) $$ [HO B5 S5]
  · isplitr; · iexact HR
    isplitl [B5 S5]
    · unfold sIn
      isplitl [B5]; · iexact B5
      iexact S5
    iexact HO
  iintro ⟨S5, HO⟩
  rw [wp_bind]
  iapply (sendL_wp wb Kx c 6 1 0 rfl rfl rfl (Memref.isWhole_whole _) (Memref.isWhole_whole _) _ _ _ ![1, 0, 0] Gen.inb_S2x1024x1024_S1x1024x512_1_0_0 Gen.wordsbf16_S2x1024x1024_S1x1024x512_1_0_0 rfl
    (Fin.ext (Gen.k0_dev9_eq c)) rfl rfl rfl [7, 8, 9, 10] _) $$ [HO B6 S6]
  · isplitr; · iexact HR
    isplitl [B6 S6]
    · unfold sIn
      isplitl [B6]; · iexact B6
      iexact S6
    iexact HO
  iintro ⟨S6, HO⟩
  iapply (sendL_wp wb Kx c 7 1 1 rfl rfl rfl (Memref.isWhole_whole _) (Memref.isWhole_whole _) _ _ _ ![1, 0, 512] Gen.inb_S2x1024x1024_S1x1024x512_1_0_512 Gen.wordsbf16_S2x1024x1024_S1x1024x512_1_0_512 rfl
    (Fin.ext (Gen.k0_dev10_eq c)) rfl rfl rfl [8, 9, 10] _) $$ [HO B7 S7]
  · isplitr; · iexact HR
    isplitl [B7 S7]
    · unfold sIn
      isplitl [B7]; · iexact B7
      iexact S7
    iexact HO
  iintro ⟨S7, HO⟩
  iapply HQ
  isplitl [HO]; · iexact HO
  isplitl [Hw]; · iexact Hw
  isplitl [S0]; · iexact S0
  isplitl [S1]; · iexact S1
  isplitl [S2]; · iexact S2
  isplitl [S3]; · iexact S3
  isplitl [S4]; · iexact S4
  isplitl [S5]; · iexact S5
  isplitl [S6]; · iexact S6
  iexact S7

set_option maxHeartbeats 2000000 in
theorem drain_wp (c : Dev nD) (Q : PUnit → sProp 𝕄) :
    iprop(records wb Kx ∗ levAts L lv ∗ ow c (owedL c []) ∗ wRes (F := F) c (false, 0) ∗ wRes (F := F) c (false, 1) ∗ wRes (F := F) c (false, 2) ∗ wRes (F := F) c (false, 3) ∗ wRes (F := F) c (false, 4) ∗ wRes (F := F) c (false, 5) ∗ wRes (F := F) c (false, 6) ∗ wRes (F := F) c (false, 7) ∗ wRes (F := F) c (false, 8) ∗ wRes (F := F) c (false, 9) ∗ wRes (F := F) c (false, 10))
      ⊢ iprop(((ow c (owedL c []) ∗ (xPay wb c (false, 0) ∗ xPay wb c (false, 1) ∗ xPay wb c (false, 2) ∗ xPay wb c (false, 3) ∗ xPay wb c (false, 4) ∗ xPay wb c (false, 5) ∗ xPay wb c (false, 6) ∗ xPay wb c (false, 7) ∗ xPay wb c (false, 8) ∗ xPay wb c (false, 9) ∗ xPay wb c (false, 10))
        ∗ (semVal (xCell c (false, 0)) 0 ∗ semVal (xCell c (false, 1)) 0 ∗ semVal (xCell c (false, 2)) 0 ∗ semVal (xCell c (false, 3)) 0 ∗ semVal (xCell c (false, 4)) 0 ∗ semVal (xCell c (false, 5)) 0 ∗ semVal (xCell c (false, 6)) 0 ∗ semVal (xCell c (false, 7)) 0 ∗ semVal (xCell c (false, 8)) 0 ∗ semVal (xCell c (false, 9)) 0 ∗ semVal (xCell c (false, 10)) 0)) -∗ Q ⟨⟩) -∗ WP c (drainC c) Q) := by
  unfold drainC drain
  iintro ⟨#HR, #HL, HO, P0, P1, P2, P3, P4, P5, P6, P7, P8, P9, P10⟩ HQ
  unfold WP
  rw [wp_bind]
  iapply (waitOwn_wp wb Kx c (false, 0) clM ownM (Memref.isWhole_whole _) (Memref.isWhole_whole _) _ rfl ![0, 0, 0] Gen.inb_S2x1024x1024_S1x1024x512_0_0_0 Gen.wordsbf16_S2x1024x1024_S1x1024x512_0_0_0
    (by decide) [] (by decide) _) $$ [HO P0]
  · iframe HR HL P0 HO
  iintro ⟨P0, HO, Z0⟩
  rw [wp_bind]
  iapply (waitOwn_wp wb Kx c (false, 1) clM ownM (Memref.isWhole_whole _) (Memref.isWhole_whole _) _ rfl ![0, 0, 512] Gen.inb_S2x1024x1024_S1x1024x512_0_0_512 Gen.wordsbf16_S2x1024x1024_S1x1024x512_0_0_512
    (by decide) [] (by decide) _) $$ [HO P1]
  · iframe HR HL P1 HO
  iintro ⟨P1, HO, Z1⟩
  rw [wp_bind]
  iapply (waitOwn_wp wb Kx c (false, 2) clM ownM (Memref.isWhole_whole _) (Memref.isWhole_whole _) _ rfl ![1, 0, 0] Gen.inb_S2x1024x1024_S1x1024x512_1_0_0 Gen.wordsbf16_S2x1024x1024_S1x1024x512_1_0_0
    (by decide) [] (by decide) _) $$ [HO P2]
  · iframe HR HL P2 HO
  iintro ⟨P2, HO, Z2⟩
  rw [wp_bind]
  iapply (waitOwn_wp wb Kx c (false, 3) clM ownM (Memref.isWhole_whole _) (Memref.isWhole_whole _) _ rfl ![1, 0, 512] Gen.inb_S2x1024x1024_S1x1024x512_1_0_512 Gen.wordsbf16_S2x1024x1024_S1x1024x512_1_0_512
    (by decide) [] (by decide) _) $$ [HO P3]
  · iframe HR HL P3 HO
  iintro ⟨P3, HO, Z3⟩
  rw [wp_bind]
  iapply (waitOwn_wp wb Kx c (false, 4) crM ownM (Memref.isWhole_whole _) (Memref.isWhole_whole _) _ rfl ![0, 0, 0] Gen.inb_S2x1024x1024_S1x1024x512_0_0_0 Gen.wordsbf16_S2x1024x1024_S1x1024x512_0_0_0
    (by decide) [] (by decide) _) $$ [HO P4]
  · iframe HR HL P4 HO
  iintro ⟨P4, HO, Z4⟩
  rw [wp_bind]
  iapply (waitOwn_wp wb Kx c (false, 5) crM ownM (Memref.isWhole_whole _) (Memref.isWhole_whole _) _ rfl ![0, 0, 512] Gen.inb_S2x1024x1024_S1x1024x512_0_0_512 Gen.wordsbf16_S2x1024x1024_S1x1024x512_0_0_512
    (by decide) [] (by decide) _) $$ [HO P5]
  · iframe HR HL P5 HO
  iintro ⟨P5, HO, Z5⟩
  rw [wp_bind]
  iapply (waitOwn_wp wb Kx c (false, 6) crM ownM (Memref.isWhole_whole _) (Memref.isWhole_whole _) _ rfl ![1, 0, 0] Gen.inb_S2x1024x1024_S1x1024x512_1_0_0 Gen.wordsbf16_S2x1024x1024_S1x1024x512_1_0_0
    (by decide) [] (by decide) _) $$ [HO P6]
  · iframe HR HL P6 HO
  iintro ⟨P6, HO, Z6⟩
  rw [wp_bind]
  iapply (waitOwn_wp wb Kx c (false, 7) crM ownM (Memref.isWhole_whole _) (Memref.isWhole_whole _) _ rfl ![1, 0, 512] Gen.inb_S2x1024x1024_S1x1024x512_1_0_512 Gen.wordsbf16_S2x1024x1024_S1x1024x512_1_0_512
    (by decide) [] (by decide) _) $$ [HO P7]
  · iframe HR HL P7 HO
  iintro ⟨P7, HO, Z7⟩
  rw [wp_bind]
  iapply (waitHalf_wp wb Kx c (false, 8) c2M clM (Memref.isWhole_whole _) (Memref.isWhole_whole _) _ rfl ![0, 0, 0] Gen.inb_S2x1024x1024_S1x1024x512_0_0_0 Gen.wordsbf16_S2x1024x1024_S1x1024x512_0_0_0
    (by decide) [] (by decide) _) $$ [HO P8]
  · iframe HR HL P8 HO
  iintro ⟨P8, HO, Z8⟩
  rw [wp_bind]
  iapply (waitHalf_wp wb Kx c (false, 9) c2M clM (Memref.isWhole_whole _) (Memref.isWhole_whole _) _ rfl ![0, 0, 512] Gen.inb_S2x1024x1024_S1x1024x512_0_0_512 Gen.wordsbf16_S2x1024x1024_S1x1024x512_0_0_512
    (by decide) [] (by decide) _) $$ [HO P9]
  · iframe HR HL P9 HO
  iintro ⟨P9, HO, Z9⟩
  iapply (waitFull_wp wb Kx c (false, 10) c2M crM (Memref.isWhole_whole _) (Memref.isWhole_whole _) _ rfl ![1, 0, 0] Gen.inb_S2x1024x1024_S1x1024x1024_1_0_0 Gen.wordsbf16_S2x1024x1024_S1x1024x1024_1_0_0
    (by decide) [] (by decide) _) $$ [HO P10]
  · iframe HR HL P10 HO
  iintro ⟨P10, HO, Z10⟩
  iapply HQ
  isplitl [HO]; · iexact HO
  isplitl [P0 P1 P2 P3 P4 P5 P6 P7 P8 P9 P10]
  · isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    iexact P10
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  isplitl [Z9]; · iexact Z9
  iexact Z10

/-! ## The buffers back together -/

theorem cl_join (c : Dev nD) : iprop(wPt 0 c (rW 0 0).set fullShare.left (wb (sh 3 c)) ∗ wPt 0 c (rW 0 1).set fullShare.left (wb (sh 3 c))
      ∗ wPt 0 c (rW 1 0).set fullShare (wb (sh 3 c)) ∗ wPt 0 c (rW 1 1).set fullShare (wb (sh 3 c)) ∗ xPay wb c (false, 8) ∗ xPay wb c (false, 9))
    ⊢ iprop(∃ f, held (F := F) c clM f) := by
  have h0 : iprop(wPt 0 c (rW 0 0).set fullShare.left (wb (sh 3 c)) ∗ xPay wb c (false, 8)) ⊢ wPt 0 c (rW 0 0).set fullShare (wb (sh 3 c)) := (wPt_share 0 c _ _ _).2
  have h1 : iprop(wPt 0 c (rW 0 1).set fullShare.left (wb (sh 3 c)) ∗ xPay wb c (false, 9)) ⊢ wPt 0 c (rW 0 1).set fullShare (wb (sh 3 c)) := (wPt_share 0 c _ _ _).2
  have h : iprop(wPt 0 c (rW 0 0).set fullShare (wb (sh 3 c)) ∗ wPt 0 c (rW 0 1).set fullShare (wb (sh 3 c))
      ∗ wPt 0 c (rW 1 0).set fullShare (wb (sh 3 c)) ∗ wPt 0 c (rW 1 1).set fullShare (wb (sh 3 c))) ⊢ held c clM (wb (sh 3 c)) := (wPt_four 0 c fullShare _).2
  iintro ⟨A0, A1, A2, A3, B0, B1⟩
  iexists (wb (sh 3 c))
  iapply h
  isplitl [A0 B0]
  · iapply h0; isplitl [A0] <;> iassumption
  isplitl [A1 B1]
  · iapply h1; isplitl [A1] <;> iassumption
  isplitl [A2] <;> iassumption
theorem cr_join (c : Dev nD) : iprop(wPt 1 c rF.set fullShare.left (wb (sh 1 c)) ∗ wPt 1 c (rW 0 0).set fullShare (wb (sh 1 c))
      ∗ wPt 1 c (rW 0 1).set fullShare (wb (sh 1 c)) ∗ xPay wb c (false, 10)) ⊢ iprop(∃ f, held (F := F) c crM f) := by
  have h0 : iprop(wPt 1 c rF.set fullShare.left (wb (sh 1 c)) ∗ xPay wb c (false, 10)) ⊢ wPt 1 c rF.set fullShare (wb (sh 1 c)) := (wPt_share 1 c _ _ _).2
  have h : iprop(wPt 1 c (rW 0 0).set fullShare (wb (sh 1 c)) ∗ wPt 1 c (rW 0 1).set fullShare (wb (sh 1 c)) ∗ wPt 1 c rF.set fullShare (wb (sh 1 c)))
    ⊢ held c crM (wb (sh 1 c)) := (wPt_three 1 c fullShare _).2
  iintro ⟨A2, A0, A1, B2⟩
  iexists (wb (sh 1 c))
  iapply h
  isplitl [A0]; · iexact A0
  isplitl [A1]; · iexact A1
  iapply h0; isplitl [A2] <;> iassumption
theorem c2_join (c : Dev nD) : iprop(wPt 2 c (rW 0 0).set fullShare (wb (sh 2 c)) ∗ wPt 2 c (rW 0 1).set fullShare (wb (sh 2 c))
      ∗ wPt 2 c rF.set fullShare (wb (sh 2 c))) ⊢ iprop(∃ f, held (F := F) c c2M f) := by
  have h : iprop(wPt 2 c (rW 0 0).set fullShare (wb (sh 2 c)) ∗ wPt 2 c (rW 0 1).set fullShare (wb (sh 2 c)) ∗ wPt 2 c rF.set fullShare (wb (sh 2 c)))
    ⊢ held c c2M (wb (sh 2 c)) := (wPt_three 2 c fullShare _).2
  iintro H
  iexists (wb (sh 2 c))
  iapply h $$ H

/-! ## The body -/

/-- Eleven of a kind, one for each transfer. -/
def eleven (P : Fin 11 → sProp 𝕄) : sProp 𝕄 := iprop(P 0 ∗ P 1 ∗ P 2 ∗ P 3 ∗ P 4 ∗ P 5 ∗ P 6 ∗ P 7 ∗ P 8 ∗ P 9 ∗ P 10)

/-- What a device has for one transfer: its send's tokens and place, its own receive. -/
def gT (c : Dev nD) (t : Fin 11) : sProp 𝕄 :=
  iprop(sTok (F := F) c t ∗ atPos ER (xCell c (false, t)) 0 ∅ 0 ∗ wRes (F := F) c (true, t))
/-- What a device has for the whole exchange. -/
def ghostIn (c : Dev nD) : sProp 𝕄 :=
  iprop((dutyTok ER (barCell (sh 3 c)) 0 true ∗ dutyTok ER (barCell (sh 1 c)) 0 false ∗ cred (tallyAt (barCell c) () 2) ∗ atPos ER (barCell c) 0 ∅ 0)
    ∗ eleven (gT (F := F) c))
/-- The scratch buffers, at any contents. -/
def scr (c : Dev nD) : sProp 𝕄 :=
  iprop((∃ f, held (F := F) c clM f) ∗ (∃ f, held (F := F) c crM f) ∗ (∃ f, held (F := F) c c2M f) ∗ (∃ f, held (F := F) c ownM f)
    ∗ (∃ f, held (F := F) c ksM f) ∗ (∃ f, held (F := F) c vsM f) ∗ (∃ f, held (F := F) c qsM f) ∗ (∃ f, held (F := F) c cxM f) ∗ (∃ f, held (F := F) c xbM f))
/-- The cells closed at the end. -/
def zeros (c : Dev nD) : sProp 𝕄 :=
  iprop(semVal (barCell c) 0 ∗ eleven (F := F) (fun t => semVal (xCell c (false, t)) 0) ∗ eleven (F := F) (fun t => semVal (xCell c (true, t)) 0)
    ∗ semVal ((c : Thread nD τ), .dma (kvSem 0)) 0 ∗ semVal ((c : Thread nD τ), .dma (kvSem 1)) 0)

/-- The whole body at its buffers. -/
def bodyC : KProg F PUnit :=
  bodyG xM (Memref.isWhole_whole _) wqM (Memref.isWhole_whole _) kM (Memref.isWhole_whole _) vM (Memref.isWhole_whole _) woM (Memref.isWhole_whole _) oM (Memref.isWhole_whole _) clM (Memref.isWhole_whole _) crM (Memref.isWhole_whole _) c2M (Memref.isWhole_whole _) ownM (Memref.isWhole_whole _)
    cc0_scratch4 cc0_scratch5 cc0_scratch6 cc0_scratch7 cc0_scratch8 cc0_scratch9 ksM (Memref.isWhole_whole _) vsM (Memref.isWhole_whole _) qsM (Memref.isWhole_whole _) cxM (Memref.isWhole_whole _) xbM (Memref.isWhole_whole _)

theorem bodyC_eq : (bodyC : KProg F PUnit) = (do
    let d ← Prog.lift .deviceId
    kvStart0 kM vM cc0_scratch9 ksM vsM (k0_off1 d 0#32) (k0_off1_inb d 0)
    castsC d
    greetC d
    hop1C d
    stage0C d
    stage1C d
    stage2C d
    stage3C d
    drainC d
    pure ⟨⟩) := rfl

theorem give1 (c : Dev nD) : frees1 (F := F) (sh 1 c) ⊢ iprop(free (F := F) (tgt 0 c) 0 ∗ free (F := F) (tgt 1 c) 1 ∗ free (F := F) (tgt 2 c) 2 ∗ free (F := F) (tgt 3 c) 3 ∗ free (F := F) (tgt 8 c) 8 ∗ free (F := F) (tgt 9 c) 9) := BI.Entails.refl _
theorem give3 (c : Dev nD) : frees3 (F := F) (sh 3 c) ⊢ iprop(free (F := F) (tgt 4 c) 4 ∗ free (F := F) (tgt 5 c) 5 ∗ free (F := F) (tgt 6 c) 6 ∗ free (F := F) (tgt 7 c) 7 ∗ free (F := F) (tgt 10 c) 10) := BI.Entails.refl _

set_option maxHeartbeats 4000000 in
theorem body_wp (c : Dev nD) (x : S1x1024x1024.Idx → Elt F .f32) (wq wo : S1024x1024.Idx → Elt F .f32) (K V : S4x1024x32x128.Idx → Elt F .f32)
    (hw : wb c = ownF wq wo) (Q : PUnit → sProp 𝕄) :
    iprop(records wb Kx ∗ levAts L lv ∗ ghostIn (F := F) c ∗ ow c (O₀ c) ∗ (held c xM x ∗ held c wqM wq ∗ held c woM wo ∗ (∃ g, held (F := F) c oM g))
        ∗ (hbmHeld c kM K ∗ hbmHeld c vM V) ∗ scr (F := F) c
        ∗ (semVal ((c : Thread nD τ), .dma (kvSem 0)) 0 ∗ semVal ((c : Thread nD τ), .dma (kvSem 1)) 0))
      ⊢ iprop(((ow c (owedL c []) ∗ (held c xM x ∗ held c wqM wq ∗ held c woM wo ∗ held c oM (out3 wb (xVal x) K V c)) ∗ scr (F := F) c ∗ zeros (F := F) c) -∗ Q ⟨⟩)
        -∗ WP c bodyC Q) := by
  have hb : (held c ownM (wb (sh 0 c)) : sProp 𝕄) = held c ownM (ownF wq wo) := by rw [sh_zero, hw]
  rw [bodyC_eq]
  unfold ghostIn eleven gT scr
  iintro ⟨#HR, #HL, ⟨⟨Hb1, Hb2, Hbc, Hba⟩, ⟨T0, A0, R0⟩, ⟨T1, A1, R1⟩, ⟨T2, A2, R2⟩, ⟨T3, A3, R3⟩, ⟨T4, A4, R4⟩, ⟨T5, A5, R5⟩, ⟨T6, A6, R6⟩, ⟨T7, A7, R7⟩, ⟨T8, A8, R8⟩, ⟨T9, A9, R9⟩, ⟨T10, A10, R10⟩⟩, HO, ⟨Hx, Hwq, Hwo, Ho⟩, ⟨HK, HV⟩, ⟨Hcl, Hcr, Hc2, Hown, Hks, Hvs, Hq, Hcx, Hxb⟩, ⟨Hz0, Hz1⟩⟩ HQ
  icases (kv_split (F := F) c) $$ [Hks Hvs] with ⟨Hf0, Hf1⟩
  · isplitl [Hks] <;> iassumption
  icases (frees_intro (F := F) c) $$ [Hcl Hcr Hc2] with ⟨Hg1, Hg3⟩
  · isplitl [Hcl]; · iexact Hcl
    isplitl [Hcr] <;> iassumption
  unfold WP
  rw [wp_bind]
  simp only [Prog.lift]
  rw [wp_deviceId, wp_ret]
  imodintro
  rw [wp_bind]
  iapply (kvStart0_wp c c (sh 0 c) K V (k0_off1 c 0#32) (k0_off1_inb c 0) (off_eq c 0) _) $$ [HK HV Hf0 Hz0]
  · iframe
  iintro ⟨HK, HV, HB⟩
  rw [wp_bind]
  iapply (casts_wp c x wq wo _) $$ [Hx Hwq Hwo Hown Hxb]
  · isplitl [Hx]; · iexact Hx
    isplitl [Hwq]; · iexact Hwq
    isplitl [Hwo]; · iexact Hwo
    isplitl [Hown] <;> iassumption
  iintro ⟨Hx, Hwq, Hwo, Hown, Hxb⟩
  rw [wp_bind]
  iapply (greet_wp wb Kx c _) $$ [HO Hb1 Hb2 Hbc Hba Hg1 Hg3]
  · isplitr; · iexact HR
    isplitr; · iexact HL
    iframe HO Hb1 Hb2 Hbc Hba Hg1 Hg3
  iintro ⟨Hg1, Hg3, HO, Zb⟩
  icases (give1 (F := F) c) $$ Hg1 with ⟨F0, F1, F2, F3, F8, F9⟩
  icases (give3 (F := F) c) $$ Hg3 with ⟨F4, F5, F6, F7, F10⟩
  rw [wp_bind]
  iapply (hop1_wp wb Kx c _) $$ [HO Hown F0 T0 A0 F1 T1 A1 F2 T2 A2 F3 T3 A3 F4 T4 A4 F5 T5 A5 F6 T6 A6 F7 T7 A7]
  · isplitr; · iexact HR
    isplitl [HO]; · iexact HO
    isplitl [Hown]; · rw [hb]; iexact Hown
    unfold sRest
    isplitl [F0 T0 A0]; · iframe F0 T0 A0
    isplitl [F1 T1 A1]; · iframe F1 T1 A1
    isplitl [F2 T2 A2]; · iframe F2 T2 A2
    isplitl [F3 T3 A3]; · iframe F3 T3 A3
    isplitl [F4 T4 A4]; · iframe F4 T4 A4
    isplitl [F5 T5 A5]; · iframe F5 T5 A5
    isplitl [F6 T6 A6]; · iframe F6 T6 A6
    iframe F7 T7 A7
  iintro ⟨HO, Hown, W0, W1, W2, W3, W4, W5, W6, W7⟩
  rw [wp_bind]
  iapply (stage0_wp wb (xVal x) K V c _) $$ [HK HV Hxb Hq Hcx HB Hf1 Hz1 HO Hown Ho]
  · isplitr; · iexact HL
    isplitl [HK HV Hxb Hq Hcx]
    · unfold Hold
      iframe HK HV Hxb Hq Hcx
    isplitl [HB]; · iexact HB
    isplitl [Hf1 Hz1]
    · unfold kvIdle
      iframe Hf1 Hz1
    iframe HO Hown Ho
  iintro ⟨HH, HB, Hi, HO, Hown, Ho⟩
  rw [wp_bind]
  iapply (stage1_wp wb Kx (xVal x) K V c _) $$ [HH HB Hi HO R0 R1 R2 R3 R6 R7 F8 T8 A8 F9 T9 A9 F10 T10 A10 Ho]
  · isplitr; · iexact HR
    isplitr; · iexact HL
    isplitl [HH]; · iexact HH
    isplitl [HB]; · iexact HB
    isplitl [Hi]; · iexact Hi
    isplitl [HO]; · iexact HO
    isplitl [R0 R1 R2 R3 R6 R7]; · iframe
    isplitl [F8 T8 A8 F9 T9 A9 F10 T10 A10]
    · unfold sRest
      isplitl [F8 T8 A8]; · iframe
      isplitl [F9 T9 A9]; · iframe
      iframe
    iexact Ho
  iintro ⟨HH, HB, Hi, HO, HL1, Ho⟩
  unfold Left1
  icases HL1 with ⟨⟨C0, C1, C2, C3, C4⟩, ⟨W8, W9, W10⟩, ⟨Z0, Z1, Z2, Z3, Z6, Z7⟩⟩
  rw [wp_bind]
  iapply (stage2_wp wb Kx (xVal x) K V c _) $$ [HH HB Hi HO R4 R5 C4 Ho]
  · isplitr; · iexact HR
    isplitr; · iexact HL
    isplitl [HH]; · iexact HH
    isplitl [HB]; · iexact HB
    isplitl [Hi]; · iexact Hi
    isplitl [HO]; · iexact HO
    isplitl [R4 R5]; · iframe
    isplitl [C4]; · iexact C4
    iexact Ho
  iintro ⟨HH, HB, Hi, HO, C4, HL2, Ho⟩
  unfold Left2
  icases HL2 with ⟨⟨C5, C6⟩, Z4, Z5⟩
  rw [wp_bind]
  iapply (stage3_wp wb Kx (xVal x) K V c _) $$ [HH HB HO R8 R9 R10 Ho]
  · isplitr; · iexact HR
    isplitr; · iexact HL
    isplitl [HH]; · iexact HH
    isplitl [HB]; · iexact HB
    isplitl [HO]; · iexact HO
    isplitl [R8 R9 R10]; · iframe
    iexact Ho
  iintro ⟨HH, Hi', HO, HL3, Ho⟩
  unfold Left3
  icases HL3 with ⟨C7, Z8, Z9, Z10⟩
  rw [wp_bind]
  iapply (drain_wp wb Kx c _) $$ [HO W0 W1 W2 W3 W4 W5 W6 W7 W8 W9 W10]
  · isplitr; · iexact HR
    isplitr; · iexact HL
    isplitl [HO]; · iexact HO
    iframe W0 W1 W2 W3 W4 W5 W6 W7 W8 W9 W10
  iintro ⟨HO, ⟨P0, P1, P2, P3, P4, P5, P6, P7, P8, P9, P10⟩, ⟨Y0, Y1, Y2, Y3, Y4, Y5, Y6, Y7, Y8, Y9, Y10⟩⟩
  rw [Prog.pure_eq_ret, wp_ret]
  imodintro
  iapply HQ
  unfold Hold kvIdle
  icases HH with ⟨-, -, Hxb, Hq, Hcx⟩
  icases Hi with ⟨Hf0, Hz0⟩
  icases Hi' with ⟨Hf1, Hz1⟩
  icases (kv_join (F := F) c) $$ [Hf0 Hf1] with ⟨Hks, Hvs⟩
  · isplitl [Hf0] <;> iassumption
  icases (cl_join wb c) $$ [C0 C1 C2 C3 P8 P9] with Hcl
  · iframe
  icases (cr_join wb c) $$ [C4 C5 C6 P10] with Hcr
  · iframe
  icases (c2_join wb c) $$ C7 with Hc2
  icases (own_join wb c) $$ [Hown P0 P1 P2 P3 P4 P5 P6 P7] with Hown
  · iframe
  isplitl [HO]; · iexact HO
  isplitl [Hx Hwq Hwo Ho]; · iframe
  isplitl [Hcl Hcr Hc2 Hown Hks Hvs Hq Hcx Hxb]
  · isplitl [Hcl]; · iexact Hcl
    isplitl [Hcr]; · iexact Hcr
    isplitl [Hc2]; · iexact Hc2
    isplitl [Hown]
    · iexists (wb (sh 0 c))
      iexact Hown
    isplitl [Hks]; · iexact Hks
    isplitl [Hvs]; · iexact Hvs
    isplitl [Hq]; · iexact Hq
    isplitl [Hcx]; · iexact Hcx
    iexists (xVal x)
    iexact Hxb
  unfold zeros eleven
  isplitl [Zb]; · iexact Zb
  isplitl [Y0 Y1 Y2 Y3 Y4 Y5 Y6 Y7 Y8 Y9 Y10]; · iframe
  isplitl [Z0 Z1 Z2 Z3 Z4 Z5 Z6 Z7 Z8 Z9 Z10]; · iframe
  iframe

end Cert.KernelIdeal.Attn

end
-- ==== Proof.Launch.lean ====
module

public import Idealize.ShloMosaic.Lib.Pipeline.BigSepL
public import proofs.«01_k».proof.Proof.Whole
public import proofs.«01_k».proof.Proof.Gen.KernelIdeal.Points
public import Idealize.ShloMosaic.Lib.Pipeline.CollectiveSegs

@[expose] public section

noncomputable section

namespace Cert.KernelIdeal.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def st₀ : MemSt nD τ sig (Elt F) := ⟨m, fun _ => 0, ρ⟩

/-! ## Contents -/

abbrev xIn (c : Dev nD) : (cc0_stg0_0 : Ref sig .tc).ty.Contents (Elt F) := (win0_0.blk (0 : Fin 1)).view.read (Elt F) (m ((c : Thread nD τ).loc main_arg0))
abbrev wqIn (c : Dev nD) : (cc0_stg1_0 : Ref sig .tc).ty.Contents (Elt F) := (win0_1.blk (0 : Fin 1)).view.read (Elt F) (m ((c : Thread nD τ).loc main_arg1))
abbrev woIn (c : Dev nD) : (cc0_stg2_0 : Ref sig .tc).ty.Contents (Elt F) := (win0_2.blk (0 : Fin 1)).view.read (Elt F) (m ((c : Thread nD τ).loc main_arg4))
abbrev kIn (c : Dev nD) : S4x1024x32x128.Idx → Elt F .f32 := m ((c : Thread nD τ).loc main_arg2)
abbrev vIn (c : Dev nD) : S4x1024x32x128.Idx → Elt F .f32 := m ((c : Thread nD τ).loc main_arg3)
/-- Every device's weight block. -/
def wbm (c : Dev nD) : S2x1024x1024.Idx → Elt F .bf16 := ownF (wqIn m c) (woIn m c)
/-- What a device leaves in its output. -/
def outIn (c : Dev nD) : (cc0_stg3_0 : Ref sig .tc).ty.Contents (Elt F) := out3 (wbm m) (xVal (xIn m c)) (kIn m c) (vIn m c) c

/-! ## The cells in one list -/

/-- The kernel's own semaphores: the transfers', then the two of the keys and values. -/
def osem (k : Fin 24) : SemLoc sig := .dma ((⟨k.val + 4, by have := k.isLt; omega⟩ : Fin 28) : DmaSem sig)
def oIx (x : Tx) : Fin 24 := Fin.ofNat 24 (xNum x - 4)
theorem osem_oIx : ∀ x : Tx, osem (oIx x) = .dma (xS x) := by decide
theorem osem_kv : ∀ s : Fin 2, osem (Fin.ofNat 24 (22 + s.val)) = .dma (kvSem s) := by decide
theorem ownSemFacts : Pipeline.OwnSemFacts cfg0.spec osem := by decide

theorem list_eleven (P : Fin 11 → sProp 𝕄) : bigSepL (List.finRange 11) P = eleven P := rfl
theorem eleven_eq (P : Fin 11 → sProp 𝕄) : bigSep Finset.univ P = eleven P :=
  (bigSep_univ_eq_bigSepL (List.finRange 11) (by decide) (by decide) P).trans (list_eleven P)

/-- The kernel's cells are the barrier's, the eleven send cells and the eleven receive cells. -/
theorem kcells_eq (P : SemLoc sig → sProp 𝕄) : bigSep Finset.univ (fun k : Fin 23 => P (csem k))
    = iprop(P (.reg barS) ∗ eleven (fun t => P (.dma (xS (false, t)))) ∗ eleven fun t => P (.dma (xS (true, t)))) := by
  rw [bigSep_univ_eq_bigSepL (0 :: ((List.finRange 11).map (fun t => xIx (false, t)) ++ (List.finRange 11).map fun t => xIx (true, t))) (by decide) (by decide),
    bigSepL_cons', bigSepL_append, bigSepL_map, bigSepL_map, list_eleven, list_eleven]
  simp only [csem_xIx, csem_zero]

/-- Its own semaphores are the two of the keys and values, and the same twenty-two. -/
theorem ownSems0_eq (c : Dev nD) : (Pipeline.ownSems0 (Ix := Unit) (Name := ℕ) (U := UU) (Lvl := ℕ) (Val := Elt F) (τ := τ) osem c : sProp 𝕄)
    = iprop((semVal ((c : Thread nD τ), .dma (kvSem 0)) 0 ∗ semVal ((c : Thread nD τ), .dma (kvSem 1)) 0)
      ∗ eleven (fun t => semVal (xCell c (false, t)) 0) ∗ eleven fun t => semVal (xCell c (true, t)) 0) := by
  rw [Pipeline.ownSems0_eq_of_list c osem ((List.finRange 2).map (fun s => Fin.ofNat 24 (22 + s.val))
      ++ ((List.finRange 11).map (fun t => oIx (false, t)) ++ (List.finRange 11).map fun t => oIx (true, t))) (by decide) (by decide),
    bigSepL_append, bigSepL_append, bigSepL_map, bigSepL_map, bigSepL_map, list_eleven, list_eleven]
  simp only [osem_oIx, osem_kv]
  rfl
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem xS_inj {x y : Tx} (h : (SemLoc.dma (xS x) : SemLoc sig) = .dma (xS y)) : x = y := by
  have h1 : xS x = xS y := by cases x; cases y; simpa using h
  have := congrArg dec h1
  rw [dec_xS, dec_xS] at this
  exact Option.some.inj this
theorem dev_inj {a b : Dev nD} {s t : SemLoc sig} (h : (((a : Thread nD τ), s) : GSem nD τ sig) = ((b : Thread nD τ), t)) : a = b ∧ s = t :=
  ⟨congrArg (fun g : GSem nD τ sig => g.1.1) h, congrArg Prod.snd h⟩
theorem csem_inj : Function.Injective csem := by decide
theorem kcell_injective : Function.Injective (kcell : Dev nD × Fin 23 → GSem nD τ sig) := by
  rintro ⟨c, k⟩ ⟨c', k'⟩ h
  obtain ⟨h1, h2⟩ := dev_inj h
  exact Prod.ext h1 (csem_inj h2)
def ringCells : Finset (GSem nD τ sig) := Finset.univ.map ⟨kcell, kcell_injective⟩

/-! ## The tokens -/

/-- A device's own cells' duty tokens: its barrier's two, and one for each transfer's cells. -/
abbrev TI : Type := Bool ⊕ Tx
def tokOf (cj : Dev nD × TI) : GSem nD τ sig × ℕ × Bool := match cj.2 with
  | .inl b => (barCell cj.1, 0, b)
  | .inr x => (xCell cj.1 x, 0, false)
theorem tokOf_injective : Function.Injective (tokOf : Dev nD × TI → GSem nD τ sig × ℕ × Bool) := by
  rintro ⟨c, j⟩ ⟨c', j'⟩ h
  rcases j with b | x <;> rcases j' with b' | x'
  · have h1 := (dev_inj (congrArg Prod.fst h)).1
    have h2 : b = b' := congrArg (fun y : GSem nD τ sig × ℕ × Bool => y.2.2) h
    exact Prod.ext h1 (congrArg Sum.inl h2)
  · exact absurd (dev_inj (congrArg Prod.fst h)).2 (fun h => by cases h)
  · exact absurd (dev_inj (congrArg Prod.fst h)).2 (fun h => by cases h)
  · obtain ⟨h1, h2⟩ := dev_inj (congrArg Prod.fst h)
    exact Prod.ext h1 (congrArg Sum.inr (xS_inj h2))
def ringToks : Finset (GSem nD τ sig × ℕ × Bool) := Finset.univ.map ⟨tokOf, tokOf_injective⟩

/-- The launch element. -/
def u₀ : UU := (initOf (Pipeline.cells cfgs cellOf_inj) (Pipeline.launchToks cfgs cellOf_inj), (initOf ringCells ringToks, 1))

def toks (c : Dev nD) : sProp 𝕄 :=
  iprop((dutyTok ER (barCell c) 0 false ∗ dutyTok ER (barCell c) 0 true)
    ∗ (bigSep Finset.univ fun t : Fin 11 => dutyTok ER (xCell c (false, t)) 0 false) ∗ (bigSep Finset.univ fun t : Fin 11 => dutyTok ER (xCell c (true, t)) 0 false))
theorem toks_eq (c : Dev nD) : (bigSep Finset.univ fun j : TI => (dutyTok ER (tokOf (c, j)).1 (tokOf (c, j)).2.1 (tokOf (c, j)).2.2 : sProp 𝕄)) = toks c := by
  rw [bigSep_univ_sum, bigSep_univ_eq_bigSepL [false, true] (by decide) (by decide), bigSep_univ_prod, bigSep_univ_eq_bigSepL [false, true] (by decide) (by decide)]
  rfl

/-- What the launch element deals a device. -/
def G (c : Dev nD) : sProp 𝕄 :=
  iprop((bigSep Finset.univ fun k : Fin 23 => roundState ER (rd (wbm m)) (kcell (c, k)) 0)
    ∗ (bigSep Finset.univ fun k : Fin 23 => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 23 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (rd (wbm m)) ringCells ringToks) $$ HX with ⟨Hst, Hr, Hat, Htok⟩
  imodintro
  ihave Hst' := (Entails.of_eq (hX fun g => roundState ER (rd (wbm m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

def kvZ (c : Dev nD) : sProp 𝕄 := iprop(semVal ((c : Thread nD τ), .dma (kvSem 0)) 0 ∗ semVal ((c : Thread nD τ), .dma (kvSem 1)) 0)

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 23 => semVal (kcell (c, k)) 0) ∗ kvZ (F := F) c) : sProp 𝕄) := by
  rw [ownSems0_eq, unscopedSems0_eq, kcells_eq (fun s => (semVal ((c : Thread nD τ), s) 0 : sProp 𝕄))]
  unfold kvZ
  iintro ⟨⟨HK, H⟩, HB⟩
  isplitl [H HB]
  · isplitl [HB]; · iexact HB
    iexact H
  iexact HK

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd (wbm m)) κ (kcell (c, k))))
          ∗ (bigSep Finset.univ fun k : Fin 23 => iprop(atPos ER (kcell (c, k)) 0 ∅ 0 ∗ reached ER (kcell (c, k)) 0)) ∗ (toks c ∗ kvZ c)) := by
  unfold G
  iintro ⟨Hos, Hus, Hst, Hat, Htok⟩
  icases (sems0_eq (F := F) c) $$ [Hos Hus] with ⟨Hv, HK⟩
  · isplitl [Hos] <;> iassumption
  imod (show iprop((bigSep Finset.univ fun k : Fin 23 => semVal (kcell (c, k)) 0) ∗ bigSep Finset.univ fun k : Fin 23 => roundState ER (rd (wbm m)) (kcell (c, k)) 0)
      ⊢ (|={Set.univ}=> bigSep Finset.univ fun k => iprop(∃ κ : ℕ, cellInv ER (rd (wbm m)) κ (kcell (c, k))) : sProp 𝕄) from by
        rw [← bigSep_sep']
        exact (bigSep_mono fun k _ => (Rounds.body_intro ER (rd (wbm m)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- What stays with a device: the tokens of the duties it pays. -/
def payToks (c : Dev nD) : sProp 𝕄 :=
  iprop((dutyTok ER (barCell (sh 1 c)) 0 false ∗ dutyTok ER (barCell (sh 3 c)) 0 true)
    ∗ (bigSep Finset.univ fun t : Fin 11 => dutyTok ER (xCell c (false, t)) 0 false) ∗ (bigSep Finset.univ fun t : Fin 11 => dutyTok ER (xCell (tgt t c) (true, t)) 0 false))
def linear (c : Dev nD) : sProp 𝕄 :=
  iprop((bigSep Finset.univ fun k : Fin 23 => atPos ER (kcell (c, k)) 0 ∅ 0) ∗ (payToks c ∗ kvZ c))
/-- What the global step makes of it. -/
def G' (c : Dev nD) : sProp 𝕄 := iprop(∃ K, records (wbm m) K ∗ linear c)

def turn (k : ℕ) (hk : ∀ c : Dev nD, sh (4 - k) (sh k c) = c ∧ sh k (sh (4 - k) c) = c) : Dev nD ≃ Dev nD := ⟨sh k, sh (4 - k), fun c => (hk c).1, fun c => (hk c).2⟩
theorem tgt_back : ∀ (t : Fin 11) (c : Dev nD), sh (4 - dirOf t) (tgt t c) = c ∧ tgt t (sh (4 - dirOf t) c) = c := by decide
def around : Dev nD × Fin 11 ≃ Dev nD × Fin 11 :=
  ⟨fun x => (tgt x.2 x.1, x.2), fun x => (sh (4 - dirOf x.2) x.1, x.2), fun x => Prod.ext (tgt_back x.2 x.1).1 rfl, fun x => Prod.ext (tgt_back x.2 x.1).2 rfl⟩

/-- The tokens dealt around the ring. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv (turn 1 (by decide)) (fun c : Dev nD => (dutyTok ER (barCell c) 0 false : sProp 𝕄)),
    bigSep_univ_equiv (turn 3 (by decide)) (fun c : Dev nD => (dutyTok ER (barCell c) 0 true : sProp 𝕄)),
    ← bigSep_univ_prod (fun ct : Dev nD × Fin 11 => (dutyTok ER (xCell ct.1 (true, ct.2)) 0 false : sProp 𝕄)),
    ← bigSep_univ_prod (fun ct : Dev nD × Fin 11 => (dutyTok ER (xCell (tgt ct.2 ct.1) (true, ct.2)) 0 false : sProp 𝕄)),
    bigSep_univ_equiv around (fun ct : Dev nD × Fin 11 => (dutyTok ER (xCell ct.1 (true, ct.2)) 0 false : sProp 𝕄))]
  exact BI.Entails.refl _

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd (wbm m)) κ (kcell (c, k))))
          ∗ (bigSep Finset.univ fun k : Fin 23 => iprop(atPos ER (kcell (c, k)) 0 ∅ 0 ∗ reached ER (kcell (c, k)) 0)) ∗ (toks c ∗ kvZ c)) : sProp 𝕄)
      ⊢ bigSep Finset.univ (G' m) := by
  rw [bigSep_sep', bigSep_sep', ← bigSep_univ_prod (fun ck : Dev nD × Fin 23 => iprop(∃ κ : ℕ, cellInv ER (rd (wbm m)) κ (kcell ck))),
    bigSep_congr (s := Finset.univ) (fun (c : Dev nD) _ => bigSep_sep' Finset.univ (fun k : Fin 23 => (atPos ER (kcell (c, k)) 0 ∅ 0 : sProp 𝕄)) (fun k => reached ER (kcell (c, k)) 0)),
    bigSep_sep', ← bigSep_univ_prod (fun ck : Dev nD × Fin 23 => (reached ER (kcell ck) 0 : sProp 𝕄)), bigSep_sep']
  iintro ⟨HI, ⟨Hat, #HR⟩, Htok, HZ⟩
  ihave HK := (BI.bigSep_exists_pi Finset.univ (fun (ck : Dev nD × Fin 23) (κ : ℕ) => (cellInv ER (rd (wbm m)) κ (kcell ck) : sProp 𝕄))) $$ HI
  icases HK with ⟨%K, #HI⟩
  ihave Htk := (toks_around (F := F)) $$ Htok
  iapply (with_records (R := records (wbm m) K) (Φ := fun c => linear c) fun c _ => by
    unfold G'
    iintro ⟨#HR, H⟩
    iexists K
    isplitr; · iexact HR
    iexact H)
  isplitr
  · unfold records; isplitl; · iexact HI
    iexact HR
  · unfold linear
    rw [bigSep_sep', bigSep_sep']
    isplitl [Hat]; · iexact Hat
    isplitl [Htk] <;> iassumption

/-- The global step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem owedL_none (d : Dev nD) (l : List (Fin 11)) (g : GSem nD τ sig) (h : ∀ t ∈ l, g ≠ xCell (tgt t d) (true, t)) : owedL d l g () = 0 := by
  by_contra hn
  obtain ⟨t, ht, e⟩ := owedL_pos (Nat.pos_of_ne_zero hn)
  exact h t ht e
theorem owedL_x (d c : Dev nD) (t : Fin 11) : ∀ l : List (Fin 11), l.Nodup → t ∈ l → owedL d l (xCell c (true, t)) () = if tgt t d = c then NN t else 0
  | [], _, h => absurd h List.not_mem_nil
  | t' :: ts, hn, h => by
    unfold owedL
    rw [Pi.add_apply, Finsupp.add_apply, tallyAt_apply]
    by_cases e : t' = t
    · subst e
      rw [owedL_none d ts _ (fun u hu e => (List.nodup_cons.1 hn).1 (by rw [show t' = u from congrArg Prod.snd (xS_inj (dev_inj e).2)]; exact hu)), Nat.zero_add]
      by_cases e2 : tgt t' d = c
      · rw [if_pos ⟨by rw [e2], rfl⟩, if_pos e2]
      · rw [if_neg (fun h => e2 (dev_inj (And.left h)).1.symm), if_neg e2]
    · rw [owedL_x d c t ts (List.nodup_cons.1 hn).2 ((List.mem_cons.1 h).resolve_left (fun h => e h.symm)),
        if_neg (show ¬ (xCell c (true, t) = xCell (tgt t' d) (true, t') ∧ (() : Unit) = ()) from fun h => e (congrArg Prod.snd (xS_inj (dev_inj h.1).2)).symm), Nat.add_zero]

theorem owed_x (d c : Dev nD) (t : Fin 11) : O₀ d (xCell c (true, t)) () = if d = sh (4 - dirOf t) c then NN t else 0 := by
  unfold O₀ O₁
  rw [Pi.add_apply, Finsupp.add_apply, Pi.add_apply, Finsupp.add_apply, tallyAt_ne_cell (fun h => by cases (dev_inj h).2), tallyAt_ne_cell (fun h => by cases (dev_inj h).2),
    owedL_x d c t allT (by decide) (by revert t; decide)]
  simp only [Finsupp.coe_zero, Pi.zero_apply, Nat.add_zero]
  by_cases h : tgt t d = c
  · rw [if_pos h, if_pos (by rw [← h]; exact (tgt_back t d).1.symm)]
  · rw [if_neg h, if_neg (fun e => h (by rw [e]; exact (tgt_back t c).2))]
theorem owed_bar (d c : Dev nD) : O₀ d (barCell c) () = (if d = sh 3 c then 1 else 0) + (if d = sh 1 c then 1 else 0) := by
  unfold O₀ O₁
  rw [Pi.add_apply, Finsupp.add_apply, Pi.add_apply, Finsupp.add_apply, owedL_none d allT _ (fun t _ h => by cases (dev_inj h).2), Nat.zero_add,
    tallyAt_apply, tallyAt_apply]
  have e1 : ∀ c : Dev nD, sh 1 (sh 3 c) = c ∧ sh 3 (sh 1 c) = c := by decide
  congr 1
  · by_cases h : d = sh 3 c
    · subst h; rw [(e1 c).1, if_pos ⟨rfl, rfl⟩, if_pos rfl]
    · rw [if_neg (fun ⟨h1, _⟩ => h (by rw [(dev_inj h1).1]; exact (e1 d).2.symm)), if_neg h]
  · by_cases h : d = sh 1 c
    · subst h; rw [(e1 c).2, if_pos ⟨rfl, rfl⟩, if_pos rfl]
    · rw [if_neg (fun ⟨h1, _⟩ => h (by rw [(dev_inj h1).1]; exact (e1 d).1.symm)), if_neg h]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (sh 3 c) fun _ => 1, Finset.sum_ite_eq' Finset.univ (sh 1 c) fun _ => 1, if_pos (Finset.mem_univ _), if_pos (Finset.mem_univ _)]
theorem launch_x (c : Dev nD) (t : Fin 11) :
    tallyOn (xCell c (true, t)) (launchCredit (Pipeline.owing O₀) 0 (xCell c (true, t))) = (tallyAt (xCell c (true, t)) () (NN t) : CellTallies nD τ sig Unit) := by
  unfold tallyAt; refine congrArg _ (Finsupp.ext fun u => ?_); cases u
  rw [Pipeline.launchCredit_owing, Finsupp.single_eq_same, Finset.sum_congr rfl fun d _ => owed_x d c t, Finset.sum_ite_eq' Finset.univ (sh (4 - dirOf t) c) fun _ => NN t,
    if_pos (Finset.mem_univ _)]

theorem creds (c : Dev nD) :
    (Pipeline.launchCred O₀ c : sProp 𝕄) ⊢ iprop(cred (tallyAt (barCell c) () 2) ∗ bigSep Finset.univ fun t : Fin 11 => cred (tallyAt (xCell c (true, t)) () (NN t))) := by
  unfold Pipeline.launchCred
  rw [bigSep_univ_at _ (SemLoc.reg barS), launch_bar]
  refine sep_mono_right ?_
  have hi : Set.InjOn (fun t : Fin 11 => (SemLoc.dma (xS (true, t)) : SemLoc sig)) ((Finset.univ : Finset (Fin 11)) : Set (Fin 11)) :=
    fun a _ b _ e => congrArg Prod.snd (xS_inj e)
  refine (bigSep_subset (t := Finset.univ.image fun t : Fin 11 => (SemLoc.dma (xS (true, t)) : SemLoc sig)) (fun s hs => ?_)).trans ?_
  · obtain ⟨t, -, rfl⟩ := Finset.mem_image.1 hs
    exact Finset.mem_erase.mpr ⟨(fun h => by cases h), Finset.mem_univ _⟩
  · rw [bigSep_image_of_injOn hi]
    exact bigSep_mono fun t _ => Entails.of_eq (congrArg cred (launch_x c t))

/-! ## The pipeline's proof data -/

/-- What a device's body starts from. -/
def start (c : Dev nD) : sProp 𝕄 :=
  iprop((∃ K, records (wbm m) K) ∗ levAts L lv ∗ ghostIn (F := F) c ∗ kvZ c ∗ (hbmHeld c kM (kIn m c) ∗ hbmHeld c vM (vIn m c)))
def Φ₀ (c : Dev nD) : sProp 𝕄 := iprop(start m c ∗ scr c)
def Φ₁ (c : Dev nD) : sProp 𝕄 := iprop(scr (F := F) c ∗ zeros (F := F) c)

def dats (_ : Fin 1) (c : Dev nD) : Pipeline.Dat τ (Elt F) Unit ℕ UU ℕ cfg0 c where
  A w := m ((cfg0.win w).arr.view.loc (c : Thread nD τ))
  after w _ := match w with
    | ⟨0, _⟩ => xIn m c
    | ⟨1, _⟩ => wqIn m c
    | ⟨2, _⟩ => woIn m c
    | ⟨3, _⟩ => outIn m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))
def bodyPost (c : Dev nD) : sProp 𝕄 :=
  iprop(Φ₁ (F := F) c ∗ (dats m 0 c).owesAt () t0_0.succ ∗ stg c cc0_stg0_0 (xIn m c) ∗ stg c cc0_stg1_0 (wqIn m c) ∗ stg c cc0_stg2_0 (woIn m c) ∗ stg c cc0_stg3_0 (outIn m c))

/-- The printed body is the structured one. -/
def BodyIs (F : FTy → Type) [FloatOps F] : Prop := bodyAt0 (F := F) t0_0 = bodyC (F := F)

theorem fetched0 (c : Dev nD) (d) : (dats m 0 c).before (0 : Fin 4) t0_0 d = xIn m c := by
  unfold Pipeline.Dat.before; rw [if_pos (by decide)]; rfl
theorem fetched1 (c : Dev nD) (d) : (dats m 0 c).before (1 : Fin 4) t0_0 d = wqIn m c := by
  unfold Pipeline.Dat.before; rw [if_pos (by decide)]; rfl
theorem fetched2 (c : Dev nD) (d) : (dats m 0 c).before (2 : Fin 4) t0_0 d = woIn m c := by
  unfold Pipeline.Dat.before; rw [if_pos (by decide)]; rfl

theorem sound_body (c : Dev nD) : bodyPre m c ⊢ WP c (bodyC (F := F)) (fun _ => bodyPost m c) := by
  unfold bodyPre Φ₀ start kvZ
  iintro ⟨⟨⟨⟨%K, #HR⟩, #HL, HG, HZ, HKV⟩, HS⟩, Ho, ⟨%d0, %g0, %h0, Hx⟩, ⟨%d1, %g1, %h1, Hwq⟩, ⟨%d2, %g2, %h2, Hwo⟩, ⟨%d3, %g3, %h3, Hout⟩⟩
  have h0 := h0.trans (fetched0 m c d0)
  have h1 := h1.trans (fetched1 m c d1)
  have h2 := h2.trans (fetched2 m c d2)
  subst h0 h1 h2
  unfold Pipeline.Dat.owesAt Pipeline.owesWithin
  icases Ho with ⟨%W, %hW, HO⟩
  iapply (body_wp (wbm m) K c (xIn m c) (wqIn m c) (woIn m c) (kIn m c) (vIn m c) rfl _) $$ [HG HO Hx Hwq Hwo Hout HKV HS HZ]
  · isplitr; · iexact HR
    isplitr; · iexact HL
    isplitl [HG]; · iexact HG
    isplitl [HO]
    · unfold ow
      iexists W
      iexact HO
    isplitl [Hx Hwq Hwo Hout]
    · isplitl [Hx]; · iexact Hx
      isplitl [Hwq]; · iexact Hwq
      isplitl [Hwo]; · iexact Hwo
      iexists g3
      iexact Hout
    isplitl [HKV]; · iexact HKV
    isplitl [HS]; · iexact HS
    iexact HZ
  iintro ⟨HO, ⟨Hx, Hwq, Hwo, Hout⟩, HS, HZ⟩
  unfold ow
  icases HO with ⟨%W', HO⟩
  unfold bodyPost Φ₁ Pipeline.Dat.owesAt Pipeline.owesWithin
  isplitl [HS HZ]; · isplitl [HS] <;> iassumption
  isplitl [HO]
  · iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

set_option maxRecDepth 65536 in
/-- The library's body obligation. -/
theorem body_obligation (hB : BodyIs F) (c : Dev nD) : Pipeline.BodyObligation (dats (F := F) m 0 c) (defs₀ (F := F)) 𝒱₀ () Set.univ := fun t => by
  rw [fin_N0 t]
  rw [bigSep_W0, bigSep_W0]
  simp only [owns_whole_eq]
  show bodyPre m c ⊢ WP c (bodyAt0 (F := F) t0_0) (fun _ => bodyPost m c)
  rw [hB]
  exact sound_body m c

theorem share_eq (c : Dev nD) (w : Fin cfg0.W) : (dats m 0 c).share w = fullShare := by unfold Pipeline.Dat.share; split <;> rfl

/-! ## The theorem's side conditions -/

/-- The half of the keys and values kept aside to be read at the end. -/
def aside (c : Dev nD) : sProp 𝕄 :=
  iprop((((c : Thread nD τ).loc main_arg2) ↦[Finset.univ]{fullShare.left} m ((c : Thread nD τ).loc main_arg2)) ∗ (((c : Thread nD τ).loc main_arg3) ↦[Finset.univ]{fullShare.left} m ((c : Thread nD τ).loc main_arg3)))

theorem ghost_intro (c : Dev nD) :
    iprop(linear (F := F) c ∗ cred (tallyAt (barCell c) () 2) ∗ bigSep Finset.univ fun t : Fin 11 => cred (tallyAt (xCell c (true, t)) () (NN t)))
      ⊢ iprop(ghostIn (F := F) c ∗ kvZ c) := by
  unfold linear payToks ghostIn
  rw [kcells_eq (fun s => (atPos ER ((c : Thread nD τ), s) 0 ∅ 0 : sProp 𝕄)), ← eleven_eq, ← eleven_eq, ← eleven_eq]
  unfold gT sTok wRes
  rw [bigSep_sep', bigSep_sep', bigSep_sep', bigSep_sep']
  iintro ⟨⟨⟨HA, A, B⟩, ⟨⟨Hb1, Hb3⟩, S, R⟩, HZ⟩, HC, C⟩
  isplitr [HZ]
  · isplitl [Hb1 Hb3 HC HA]
    · isplitl [Hb3]; · iexact Hb3
      isplitl [Hb1]; · iexact Hb1
      isplitl [HC] <;> iassumption
    isplitl [S R]; · isplitl [S] <;> iassumption
    isplitl [A]; · iexact A
    isplitl [C] <;> iassumption
  iexact HZ

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ aside m c) := by
  rw [Pipeline.unscopedRestP_none, unscopedRest0_eq]
  unfold G'
  iintro ⟨⟨HK, HV⟩, Hlev, Hcr, -, ⟨%K, #HR, HG⟩⟩
  icases (creds (F := F) c) $$ Hcr with ⟨HC, HX⟩
  icases (ghost_intro (F := F) c) $$ [HG HC HX] with ⟨HG, HZ⟩
  · isplitl [HG]; · iexact HG
    isplitl [HC] <;> iassumption
  have eK : (((c : Thread nD τ).loc main_arg2) ↦{fullShare} m ((c : Thread nD τ).loc main_arg2) : sProp 𝕄)
      ⊢ iprop((((c : Thread nD τ).loc main_arg2) ↦[Finset.univ]{fullShare.left} m ((c : Thread nD τ).loc main_arg2)) ∗ (((c : Thread nD τ).loc main_arg2) ↦[Finset.univ]{fullShare.right} m ((c : Thread nD τ).loc main_arg2))) := (pointsTo_share (PosShare.mem_left_op_right fullShare)).1
  have eV : (((c : Thread nD τ).loc main_arg3) ↦{fullShare} m ((c : Thread nD τ).loc main_arg3) : sProp 𝕄)
      ⊢ iprop((((c : Thread nD τ).loc main_arg3) ↦[Finset.univ]{fullShare.left} m ((c : Thread nD τ).loc main_arg3)) ∗ (((c : Thread nD τ).loc main_arg3) ↦[Finset.univ]{fullShare.right} m ((c : Thread nD τ).loc main_arg3))) := (pointsTo_share (PosShare.mem_left_op_right fullShare)).1
  icases eK $$ HK with ⟨HK1, HK2⟩
  icases eV $$ HV with ⟨HV1, HV2⟩
  imodintro
  unfold start aside
  isplitr [HK1 HV1]
  · isplitr; · iexists K; iexact HR
    isplitl [Hlev]; · iexact Hlev
    isplitl [HG]; · iexact HG
    isplitl [HZ]; · iexact HZ
    unfold hbmHeld
    isplitl [HK2]
    · iexists fullShare.right; iexact HK2
    · iexists fullShare.right; iexact HV2
  isplitl [HK1] <;> iassumption

theorem scr_of (c : Dev nD) : (Pipeline.scopedRest (Ix := Unit) (Name := ℕ) (U := UU) (Lvl := ℕ) (Val := Elt F) cfg0.spec c : sProp 𝕄) = scr c := by
  rw [scopedRest0_eq]; rfl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_of]
  unfold Φ₀
  iintro ⟨Hs, -, HS⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scr_of, ownSems0_eq, unscopedSems0_eq]
  unfold Φ₁ zeros
  iintro ⟨HS, HB, A, B, HK0, HK1⟩
  isplitl [HB]; · iexact HB
  isplitr [HS]
  · isplitl [HK0 HK1]; · isplitl [HK0] <;> iassumption
    isplitl [A] <;> iassumption
  iexact HS

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

theorem ownU_three (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg2) = m ((c : Thread nD τ).loc main_arg2) ∧ r.2.mem ((c : Thread nD τ).loc main_arg3) = m ((c : Thread nD τ).loc main_arg3)

theorem aside_read (c : Dev nD) (s' : Phys nD τ sig (Elt F)) : iprop(aside m c ∗ SI s')
    ⊢ (iprop(⌜s'.mem.mem ((c : Thread nD τ).loc main_arg2) = m ((c : Thread nD τ).loc main_arg2) ∧ s'.mem.mem ((c : Thread nD τ).loc main_arg3) = m ((c : Thread nD τ).loc main_arg3)⌝ ∗ SI s') : sProp 𝕄) := by
  unfold aside
  iintro ⟨⟨HK, HV⟩, HSI⟩
  icombine HSI HK gives %e2
  icombine HSI HV gives %e3
  isplitr; · ipureintro; exact ⟨funext fun i => e2 i (Finset.mem_univ i), funext fun i => e3 i (Finset.mem_univ i)⟩
  iexact HSI

set_option maxRecDepth 65536 in
/-- From any memory with zero counters, for any float values: the kernel of the four devices terminates, the staged arrays
    end at the computed contents, the keys and values unchanged and every counter at zero. -/
theorem run_main (hB : BodyIs F) : θ_run defs (onTc (τ := τ) (main (F := F))) (st₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hB) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      icases (ownU_three _ _) $$ Hu with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun c => aside m c)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := fun c s' => by
      iintro ⟨Hu, HZ, HSI⟩
      icases (aside_read m c s') $$ [HZ HSI] with ⟨%e, HSI⟩
      · isplitl [HZ] <;> iassumption
      imod (Pipeline.unscopedSems0_read (X := unscopedSems0 c) (c := c) fupd_intro s') $$ [Hu HSI] with ⟨%e', HSI⟩
      · isplitl [Hu] <;> iassumption
      imodintro
      isplitr; · ipureintro; exact ⟨e', e⟩
      iexact HSI)
    (hQ := fun _ h hs => ⟨fun c => ⟨fun w => (h c).1 w, (h c).2.2.2⟩, sem_eq_zero hs fun c => (h c).2.2.1⟩)

/-! ## The frame -/

theorem frame_main (hB : BodyIs F) : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨((h.1 c).1 0).trans ((dats m 0 c).arrAt_in 0 rfl _), ((h.1 c).1 1).trans ((dats m 0 c).arrAt_in 1 rfl _),
    (h.1 c).2.1, (h.1 c).2.2, ((h.1 c).1 2).trans ((dats m 0 c).arrAt_in 2 rfl _)⟩, h.2⟩) (run_main m ρ hB)

end Cert.KernelIdeal.Attn

end
-- ==== Proof.BodyEq.lean ====
/-
  The printed bodies are the structured program of Proof/Body.lean: the same effects in the same
  order, the stored values equal by computation.
-/
module

public import proofs.«01_k».proof.Proof.Body
public import proofs.«01_k».proof.Proof.Gen.Kernel

public section

open Idealize.ShloMosaic Idealize.SL.Sem
open scoped Idealize.ShloMosaic.ProgEq

prog_eq Cert.KernelIdeal.Attn.body_eq : Cert.KernelIdeal.cc0_body Cert.KernelIdeal.Attn.bodyG from Cert.KernelIdeal to Cert.KernelIdeal at Ideal inferInstance by
  intros; rfl

prog_eq Cert.KernelIdeal.Attn.body_eq_bits : Cert.Kernel.cc0_body Cert.KernelIdeal.Attn.bodyG from Cert.Kernel to Cert.KernelIdeal at Bits inferInstance by
  intros; rfl

prog_eq Cert.KernelIdeal.Attn.body_eq_bits' : Cert.KernelIdeal.cc0_body Cert.KernelIdeal.Attn.bodyG from Cert.KernelIdeal to Cert.KernelIdeal at Bits inferInstance by
  intros; rfl
-- ==== Proof.Frames.lean ====
/-
  The frames of the two printings of the kernel, from the one run.
-/
module

public import proofs.«01_k».proof.Defs
public import proofs.«01_k».proof.Proof.Launch
public import proofs.«01_k».proof.Proof.BodyEq
public import proofs.«01_k».proof.Proof.Gen.Kernel

@[expose] public section

noncomputable section

namespace Cert.KernelIdeal.Attn

open Cert.KernelIdeal Cert.KernelIdeal.Gen
open Idealize.ShloMosaic
open Idealize.ShloMosaic.TcCoe
open Idealize.SL.Sem

theorem bodyIs_ideal : BodyIs Ideal := by
  unfold BodyIs bodyC; exact body_eq ..
theorem bodyIs_bits : BodyIs Bits := by
  unfold BodyIs bodyC; exact body_eq_bits' ..

theorem frame_ideal : Cert.quiescent_KernelIdeal := fun m ρ _ => frame_main (F := Ideal) m ρ bodyIs_ideal

set_option maxRecDepth 65536 in
/-- The bodies of the two printings, one text, are one program. -/
theorem defs_eq : (Cert.Kernel.defs₀ (F := Bits) : Defs nD τ sig (Elt Bits) Λ₀) = Cert.KernelIdeal.defs₀ (F := Bits) := by
  unfold Cert.Kernel.defs₀ Cert.KernelIdeal.defs₀
  refine congrArg Defs.onTc (funext fun l => funext fun ts => ?_)
  rcases l with ⟨_ | n, h⟩
  · exact (body_eq_bits ..).trans (body_eq_bits' ..).symm
  · exact absurd h (Nat.not_lt.2 (Nat.le_add_left _ _))

set_option maxRecDepth 65536 in
theorem frame_bits : Cert.quiescent_Kernel := fun m ρ _ => by
  have h := frame_main (F := Bits) m ρ bodyIs_bits
  unfold Cert.KernelIdeal.defs at h
  rw [← defs_eq] at h
  exact h

end Cert.KernelIdeal.Attn

end
-- ==== Proof.Softmax.lean ====
/-
  The mathematics of one row of attention, over the extended reals: the reference divides exponentials taken
  relative to the row's largest score by their sum, the kernel divides plain exponentials by theirs. On real
  scores both are the same weights. With it the attention pattern, as the words of a program compute it.
-/
module

public import Idealize.ShloMosaic.Lib.Pointwise
public import Idealize.ShloMosaic.Lib.FinSumWindow
public import Idealize.ShloMosaic.Lib.IdealHost
public import Idealize.ShloMosaic.Lib.Routing.OpsOrder

@[expose] public section

noncomputable section

namespace Cert.Attn

open Idealize.ShloMosaic

/-! ## The pattern -/

/-- Key `k` takes part in row `q`: within 128 of it, or one of the two is among the first 32. -/
def Pat (q k : ℕ) : Prop := (q ≤ k + 128 ∧ k ≤ q + 128) ∨ k < 32 ∨ q < 32

instance (q k : ℕ) : Decidable (Pat q k) := by unfold Pat; infer_instance

theorem word_toInt (a : ℕ) (ha : a < 2 ^ 31) : (BitVec.ofNat 32 a).toInt = a := by
  rw [BitVec.toInt_eq_toNat_of_lt (by rw [BitVec.toNat_ofNat]; omega), BitVec.toNat_ofNat]; omega

theorem word_slt (a b : ℕ) (ha : a < 2 ^ 31) (hb : b < 2 ^ 31) :
    IntOp.cmpi .slt (BitVec.ofNat 32 a) (BitVec.ofNat 32 b) = BitVec.ofBool (decide (a < b)) := by
  have hA := word_toInt a ha
  have hB := word_toInt b hb
  show BitVec.ofBool ((BitVec.ofNat 32 a).slt (BitVec.ofNat 32 b)) = _
  rw [BitVec.slt, hA, hB]; simp

theorem word_sle (a b : ℕ) (ha : a < 2 ^ 31) (hb : b < 2 ^ 31) :
    IntOp.cmpi .sle (BitVec.ofNat 32 a) (BitVec.ofNat 32 b) = BitVec.ofBool (decide (a ≤ b)) := by
  have hA := word_toInt a ha
  have hB := word_toInt b hb
  show BitVec.ofBool ((BitVec.ofNat 32 a).sle (BitVec.ofNat 32 b)) = _
  rw [BitVec.sle, hA, hB]; simp

/-- The distance of two small numbers, as words. -/
theorem word_dist (a b : ℕ) (ha : a < 2 ^ 20) (hb : b < 2 ^ 20) :
    IntOp.absi (IntOp.subi (BitVec.ofNat 32 a) (BitVec.ofNat 32 b)) = BitVec.ofNat 32 ((a - b) + (b - a)) := by
  unfold IntOp.absi IntOp.subi
  apply BitVec.eq_of_toNat_eq
  rw [BitVec.msb_eq_decide]
  rcases Nat.lt_or_ge a b with h | h
  · have e : (BitVec.ofNat 32 a - BitVec.ofNat 32 b).toNat = 2 ^ 32 - (b - a) := by
      rw [BitVec.toNat_sub, BitVec.toNat_ofNat, BitVec.toNat_ofNat]; omega
    rw [e, if_pos (by simp; omega), BitVec.toNat_neg, e, BitVec.toNat_ofNat]; omega
  · have e : (BitVec.ofNat 32 a - BitVec.ofNat 32 b).toNat = a - b := by
      rw [BitVec.toNat_sub, BitVec.toNat_ofNat, BitVec.toNat_ofNat]; omega
    rw [e, if_neg (by simp; omega), e, BitVec.toNat_ofNat]; omega

theorem ori_ofBool (p q : Bool) : IntOp.ori (BitVec.ofBool p) (BitVec.ofBool q) = BitVec.ofBool (p || q) := by
  cases p <;> cases q <;> rfl

/-- The pattern as the reference spells it. -/
theorem pat_words (q k : ℕ) (hq : q < 1024) (hk : k < 1024) :
    IntOp.ori (IntOp.cmpi .sle (IntOp.absi (IntOp.subi (BitVec.ofNat 32 q) (BitVec.ofNat 32 k))) 128#32)
        (IntOp.ori (IntOp.cmpi .slt (BitVec.ofNat 32 k) 32#32) (IntOp.cmpi .slt (BitVec.ofNat 32 q) 32#32))
      = BitVec.ofBool (decide (Pat q k)) := by
  rw [word_dist q k (by omega) (by omega), word_sle _ 128 (by omega) (by omega), word_slt k 32 (by omega) (by omega),
    word_slt q 32 (by omega) (by omega), ori_ofBool, ori_ofBool, ← Bool.decide_or, ← Bool.decide_or]
  congr 1
  rw [decide_eq_decide]; unfold Pat; omega

theorem pat_host (q k : Fin 1024) :
    IntOp.ori (IntOp.cmpi .sle (IntOp.absi (IntOp.subi (BitVec.ofNat 32 q.val) (BitVec.ofNat 32 k.val))) 128#32)
        (IntOp.ori (IntOp.cmpi .slt (BitVec.ofNat 32 k.val) 32#32) (IntOp.cmpi .slt (BitVec.ofNat 32 q.val) 32#32))
      = BitVec.ofBool (decide (Pat q.val k.val)) := pat_words q.val k.val q.isLt k.isLt

/-- The pattern as the kernel spells it, over the rows from `r` and the keys from `lo`. -/
theorem pat_kernel (a j r lo : ℕ) (hq : r + a < 1024) (hk : lo + j < 1024) :
    IntOp.ori (IntOp.ori
          (IntOp.cmpi .sle (IntOp.absi (IntOp.subi (IntOp.addi (BitVec.ofNat 32 a) (BitVec.ofNat 32 r))
            (IntOp.addi (BitVec.ofNat 32 j) (BitVec.ofNat 32 lo)))) 128#32)
          (IntOp.cmpi .slt (IntOp.addi (BitVec.ofNat 32 j) (BitVec.ofNat 32 lo)) 32#32))
        (IntOp.cmpi .slt (IntOp.addi (BitVec.ofNat 32 a) (BitVec.ofNat 32 r)) 32#32)
      = BitVec.ofBool (decide (Pat (r + a) (lo + j))) := by
  have e (x y : ℕ) : IntOp.addi (BitVec.ofNat 32 x) (BitVec.ofNat 32 y) = BitVec.ofNat 32 (y + x) := by
    rw [Nat.add_comm]; exact (BitVec.ofNat_add x y).symm
  rw [e, e, ← pat_words _ _ hq hk]
  unfold IntOp.ori; exact BitVec.or_assoc ..

/-- Some key takes part in every row. -/
theorem pat_any (q : Fin 1024) :
    Finset.univ.fold IntOp.ori (0#1) (fun k : Fin 1024 => BitVec.ofBool (decide (Pat q.val k.val))) = 1#1 := by
  rw [Routing.fold_ori]
  exact ⟨q, Finset.mem_univ _, by rw [decide_eq_true (show Pat q.val q.val from .inl ⟨by omega, by omega⟩)]; rfl⟩

/-! ## Sums of reals among the extended reals -/

theorem coe_sum {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

theorem sum_mul_real {ι : Type} (t : Finset ι) (f : ι → EReal) (r : ℝ) (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha, ← ih,
      EReal.right_distrib_of_nonneg_of_ne_top (EReal.coe_nonneg.2 hr) (EReal.coe_ne_top r)]

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-! ## One row -/

/-- The weight of key `k` in row `q`, before the division. -/
def wt (s : Fin 1024 → ℝ) (q : ℕ) (k : Fin 1024) : ℝ := if Pat q k.val then Real.exp (s k) else 0

theorem wt_nonneg (s : Fin 1024 → ℝ) (q : ℕ) (k : Fin 1024) : 0 ≤ wt s q k := by
  unfold wt; split
  · exact (Real.exp_pos _).le
  · exact le_rfl

theorem wt_sum_pos (s : Fin 1024 → ℝ) (q : Fin 1024) : 0 < ∑ k, wt s q k :=
  Finset.sum_pos' (fun k _ => wt_nonneg s q k) ⟨q, Finset.mem_univ _, by
    unfold wt; rw [if_pos (show Pat q.val q.val from .inl ⟨by omega, by omega⟩)]; exact Real.exp_pos _⟩

/-- A row of the context: the values weighted. -/
def row (s : Fin 1024 → ℝ) (V : Fin 1024 → EReal) (q : ℕ) : EReal :=
  ∑ k, V k * ((wt s q k / ∑ k', wt s q k' : ℝ) : EReal)

/-- The kernel's row. -/
theorem kernel_row (s : Fin 1024 → ℝ) (V : Fin 1024 → EReal) (q : Fin 1024) :
    (∑ k, (wt s q k : EReal) * V k) * Ideal.div 1 (∑ k, (wt s q k : EReal)) = row s V q := by
  have hpos := wt_sum_pos s q
  rw [coe_sum, show (1 : EReal) = ((1 : ℝ) : EReal) from rfl, div_coe _ _ hpos.ne', sum_mul_real _ _ _ (by positivity)]
  refine Finset.sum_congr rfl fun k _ => ?_
  rw [mul_comm (wt s q k : EReal), mul_assoc, ← EReal.coe_mul, mul_one_div]

/-- A masked score. -/
def sc (s : Fin 1024 → ℝ) (q : ℕ) (k : Fin 1024) : EReal := if Pat q k.val then (s k : EReal) else ⊥

theorem sc_max (s : Fin 1024 → ℝ) (q : Fin 1024) : ∃ μ : ℝ, Finset.univ.fold max (⊥ : EReal) (sc s q) = μ := by
  have h1 : Finset.univ.fold max (⊥ : EReal) (sc s q) < ⊤ :=
    (Finset.fold_max_lt _).2 ⟨bot_lt_top, fun k _ => by
      unfold sc; split
      · exact EReal.coe_lt_top _
      · exact bot_lt_top⟩
  have h2 : (⊥ : EReal) < Finset.univ.fold max (⊥ : EReal) (sc s q) :=
    (Finset.lt_fold_max _).2 (.inr ⟨q, Finset.mem_univ _, by
      unfold sc; rw [if_pos (show Pat q.val q.val from .inl ⟨by omega, by omega⟩)]; exact EReal.bot_lt_coe _⟩)
  exact ⟨_, (EReal.coe_toReal h1.ne h2.ne').symm⟩

theorem exp_sc (s : Fin 1024 → ℝ) (q : ℕ) (μ : ℝ) (k : Fin 1024) :
    Ideal.exp (sc s q k - (μ : EReal)) = ((wt s q k * Real.exp (-μ) : ℝ) : EReal) := by
  unfold sc wt; split
  · rw [← EReal.coe_sub]; show ((Real.exp _ : ℝ) : EReal) = _; rw [sub_eq_add_neg, Real.exp_add]
  · rw [EReal.bot_sub, zero_mul]; rfl

/-- The reference's row. -/
theorem reference_row (s : Fin 1024 → ℝ) (V : Fin 1024 → EReal) (q : Fin 1024) :
    ∑ k, V k * Ideal.div (Ideal.exp (sc s q k - Finset.univ.fold max (⊥ : EReal) (sc s q)))
        (∑ k', Ideal.exp (sc s q k' - Finset.univ.fold max (⊥ : EReal) (sc s q))) = row s V q := by
  obtain ⟨μ, hμ⟩ := sc_max s q
  have hpos := wt_sum_pos s q
  simp only [hμ, exp_sc]
  rw [coe_sum, ← Finset.sum_mul]
  refine Finset.sum_congr rfl fun k _ => ?_
  rw [div_coe _ _ (mul_pos hpos (Real.exp_pos _)).ne', mul_div_mul_right _ _ (Real.exp_pos _).ne']

/-! ## The whole layer -/

/-- The scale of the scores. -/
def scale : ℝ := (Ideal.ofBits .f32 0x3DB504F3#32).toReal

theorem scale_eq : Ideal.ofBits .f32 0x3DB504F3#32 = (scale : EReal) := by
  have h : ∃ r : ℝ, Ideal.ofBits .f32 0x3DB504F3#32 = (r : EReal) := by
    simp only [Ideal.ofBits, Ideal.ieee]
    rw [if_neg (by decide), if_neg (by decide)]
    exact ⟨_, rfl⟩
  obtain ⟨r, h⟩ := h
  unfold scale; rw [h, EReal.toReal_coe]

/-- The score of key `k` in row `q` of head `h` of batch `b`. -/
def score (x : (⟨3, ![4, 1024, 1024]⟩ : Shape).Idx → ℝ) (w : (⟨2, ![1024, 4096]⟩ : Shape).Idx → ℝ)
    (kx : (⟨4, ![4, 1024, 32, 128]⟩ : Shape).Idx → ℝ) (b : Fin 4) (h : Fin 32) (q k : Fin 1024) : ℝ :=
  (∑ d : Fin 128, (∑ t : Fin 1024, x (ix3 b q t) * w (ix2 t (⟨h.val * 128 + d.val, by omega⟩ : Fin 4096))) * kx (ix4 b k h d)) * scale

/-- Row `q`, head `h`, lane `d` of the context of batch `b`. -/
def ctx (x : (⟨3, ![4, 1024, 1024]⟩ : Shape).Idx → ℝ) (w : (⟨2, ![1024, 4096]⟩ : Shape).Idx → ℝ)
    (kx : (⟨4, ![4, 1024, 32, 128]⟩ : Shape).Idx → ℝ) (v : (⟨4, ![4, 1024, 32, 128]⟩ : Shape).Idx → EReal)
    (b : Fin 4) (q : Fin 1024) (h : Fin 32) (d : Fin 128) : EReal :=
  row (score x w kx b h q) (fun k => v (ix4 b k h d)) q.val

/-! ## A row's keys in pieces -/

/-- A sum over the keys that vanishes off one piece. -/
theorem sum_piece {n : ℕ} (lo : ℕ) (h : lo + n ≤ 1024) (f : Fin 1024 → EReal)
    (hf : ∀ k : Fin 1024, ¬(lo ≤ k.val ∧ k.val < lo + n) → f k = 0) :
    ∑ j : Fin n, f ⟨lo + j.val, by omega⟩ = ∑ k, f k := (FinSumWindow.sum_window lo h f hf).symm

/-- A sum over the keys that vanishes off two pieces. -/
theorem sum_pieces {n n' : ℕ} (lo : ℕ) (hn : n ≤ lo) (h : lo + n' ≤ 1024) (f : Fin 1024 → EReal)
    (hf : ∀ k : Fin 1024, ¬(k.val < n) → ¬(lo ≤ k.val ∧ k.val < lo + n') → f k = 0) :
    ∑ j : Fin n, f ⟨0 + j.val, by omega⟩ + ∑ j : Fin n', f ⟨lo + j.val, by omega⟩ = ∑ k, f k := by
  have h1 := sum_piece (n := n) 0 (by omega) (fun k => if k.val < n then f k else 0) fun k hk => if_neg (by omega)
  have h2 := sum_piece (n := n') lo h (fun k => if k.val < n then 0 else f k) fun k hk => by
    show (if _ then _ else _) = _
    split
    · rfl
    · exact hf k ‹_› hk
  have e1 : ∀ j : Fin n, (if 0 + j.val < n then f ⟨0 + j.val, by omega⟩ else 0) = f ⟨0 + j.val, by omega⟩ :=
    fun j => if_pos (by omega)
  have e2 : ∀ j : Fin n', (if lo + j.val < n then 0 else f ⟨lo + j.val, by omega⟩) = f ⟨lo + j.val, by omega⟩ :=
    fun j => if_neg (by omega)
  simp only [e1] at h1
  simp only [e2] at h2
  rw [h1, h2, ← Finset.sum_add_distrib]
  refine Finset.sum_congr rfl fun k _ => ?_
  split
  · exact add_zero _
  · exact zero_add _

end Cert.Attn

end
-- ==== Proof.KVal.lean ====
/-
  The kernel's values at an index, over the extended reals.
-/
module

public import proofs.«01_k».proof.Proof.Stages
public import proofs.«01_k».proof.Proof.Softmax
public import Idealize.ShloMosaic.Lib.Pointwise.IndexVar
public import Idealize.ShloMosaic.Lib.Pointwise.IndexBridge

@[expose] public section

noncomputable section

namespace Cert.KernelIdeal.Attn

open Cert.KernelIdeal Cert.KernelIdeal.Gen
open Cert.KernelIdeal.Facts₀ Cert.KernelIdeal.Facts
open Idealize.ShloMosaic
open Cert.Attn

/-! ## One piece of a row -/

theorem pieceP_apply (n : ℕ) (h0 : (⟨2, ![256, n]⟩ : Shape).Iotas .tc 32 [0]) (h1 : (⟨2, ![256, n]⟩ : Shape).Iotas .tc 32 [1])
    (r lo : ℕ) (q : Vec Ideal S256x128 .bf16) (k : FVec Ideal ⟨2, ![n, 128]⟩ .bf16) (hr : r + 256 ≤ 1024) (hlo : lo + n ≤ 1024)
    (a : Fin 256) (j : Fin n) :
    pieceP n h0 h1 (BitVec.ofNat 32 r) (BitVec.ofNat 32 lo) q k (ix2 a j)
      = if Pat (r + a.val) (lo + j.val) then Ideal.exp (∑ e : Fin 128, (q (ix2 a e) : EReal) * k (ix2 j e)) else 0 := by
  unfold pieceP pat
  pointwise
  rw [pat_kernel a.val j.val r lo (by omega) (by omega), Scalar.select_ofBool]
  simp only [decide_eq_true_eq]

theorem pieceD_apply (n : ℕ) (h0 : (⟨2, ![256, n]⟩ : Shape).Iotas .tc 32 [0]) (h1 : (⟨2, ![256, n]⟩ : Shape).Iotas .tc 32 [1])
    (hr : (⟨2, ![256, n]⟩ : Shape).Reduces [1] S256)
    (r lo : BitVec 32) (q : Vec Ideal S256x128 .bf16) (k : FVec Ideal ⟨2, ![n, 128]⟩ .bf16) (a : Fin 256) (z : Fin 1) :
    pieceD n h0 h1 hr r lo q k (ix2 a z) = ∑ j : Fin n, (pieceP n h0 h1 r lo q k (ix2 a j) : EReal) := by
  unfold pieceD
  pointwise

theorem pieceC_apply (n : ℕ) (h0 : (⟨2, ![256, n]⟩ : Shape).Iotas .tc 32 [0]) (h1 : (⟨2, ![256, n]⟩ : Shape).Iotas .tc 32 [1])
    (r lo : BitVec 32) (q : Vec Ideal S256x128 .bf16) (k v : FVec Ideal ⟨2, ![n, 128]⟩ .bf16) (a : Fin 256) (d : Fin 128) :
    pieceC n h0 h1 r lo q k v (ix2 a d) = ∑ j : Fin n, (pieceP n h0 h1 r lo q k (ix2 a j) : EReal) * v (ix2 j d) := by
  unfold pieceC
  simp only [ix2_eq_valueIdx]
  exact (Idealize.ShloMosaic.Ideal.matmul_plain_apply none _ _ _ a d).trans ((congrArg (· + _) Ideal.ofBits_zero_f32).trans (zero_add _))

theorem quot_apply (c : FVec Ideal S256x128 .f32) (d : FVec Ideal S256x1 .f32) (a : Fin 256) (e : Fin 128) :
    quot c d (ix2 a e) = (c (ix2 a e) : EReal) * Ideal.div 1 (d (ix2 a 0)) := by
  unfold quot
  pointwise

/-! ## One chunk -/

/-- The keys (or values) of a piece: the rows from `lo`. -/
def IsPiece {n : ℕ} (lo : ℕ) (hlo : lo + n ≤ 1024) (k : FVec Ideal S1024x128 .bf16) (k' : FVec Ideal ⟨2, ![n, 128]⟩ .bf16) : Prop :=
  ∀ (j : Fin n) (e : Fin 128), k' (ix2 j e) = k (ix2 (⟨lo + j.val, by omega⟩ : Fin 1024) e)

section Chunk

variable (k v : FVec Ideal S1024x128 .bf16) (q : Vec Ideal S256x128 .bf16) (s : Fin 1024 → ℝ) (r : ℕ) (hr : r + 256 ≤ 1024)
variable (a : Fin 256) (hs : ∀ j : Fin 1024, ∑ e : Fin 128, (q (ix2 a e) : EReal) * k (ix2 j e) = s j)

include hr hs in
theorem pieceP_row {n : ℕ} (h0 : (⟨2, ![256, n]⟩ : Shape).Iotas .tc 32 [0]) (h1 : (⟨2, ![256, n]⟩ : Shape).Iotas .tc 32 [1])
    (lo : ℕ) (hlo : lo + n ≤ 1024) (k' : FVec Ideal ⟨2, ![n, 128]⟩ .bf16) (hk : IsPiece lo hlo k k') (j : Fin n) :
    pieceP n h0 h1 (BitVec.ofNat 32 r) (BitVec.ofNat 32 lo) q k' (ix2 a j) = (wt s (r + a.val) (⟨lo + j.val, by omega⟩ : Fin 1024) : EReal) := by
  rw [pieceP_apply n h0 h1 r lo q k' hr hlo a j]
  simp only [hk j, hs]
  unfold wt
  split
  · rfl
  · rfl

include hr hs in
theorem pieceD_row {n : ℕ} (h0 : (⟨2, ![256, n]⟩ : Shape).Iotas .tc 32 [0]) (h1 : (⟨2, ![256, n]⟩ : Shape).Iotas .tc 32 [1])
    (hred : (⟨2, ![256, n]⟩ : Shape).Reduces [1] S256)
    (lo : ℕ) (hlo : lo + n ≤ 1024) (k' : FVec Ideal ⟨2, ![n, 128]⟩ .bf16) (hk : IsPiece lo hlo k k') :
    pieceD n h0 h1 hred (BitVec.ofNat 32 r) (BitVec.ofNat 32 lo) q k' (ix2 a 0)
      = ∑ j : Fin n, (wt s (r + a.val) (⟨lo + j.val, by omega⟩ : Fin 1024) : EReal) := by
  rw [pieceD_apply]
  exact Finset.sum_congr rfl fun j _ => pieceP_row k q s r hr a hs h0 h1 lo hlo k' hk j

include hr hs in
theorem pieceC_row {n : ℕ} (h0 : (⟨2, ![256, n]⟩ : Shape).Iotas .tc 32 [0]) (h1 : (⟨2, ![256, n]⟩ : Shape).Iotas .tc 32 [1])
    (lo : ℕ) (hlo : lo + n ≤ 1024) (k' v' : FVec Ideal ⟨2, ![n, 128]⟩ .bf16) (hk : IsPiece lo hlo k k') (hv : IsPiece lo hlo v v')
    (d : Fin 128) :
    pieceC n h0 h1 (BitVec.ofNat 32 r) (BitVec.ofNat 32 lo) q k' v' (ix2 a d)
      = ∑ j : Fin n, (wt s (r + a.val) (⟨lo + j.val, by omega⟩ : Fin 1024) : EReal) * v (ix2 (⟨lo + j.val, by omega⟩ : Fin 1024) d) := by
  rw [pieceC_apply]
  refine Finset.sum_congr rfl fun j _ => ?_
  rw [pieceP_row k q s r hr a hs h0 h1 lo hlo k' hk j, hv j d]

theorem wt_off (i : ℕ) (j : Fin 1024) (h : ¬ Pat i j.val) : ((wt s i j : ℝ) : EReal) = 0 := by
  unfold wt; rw [if_neg h]; rfl

include hr hs in
/-- Rows whose keys lie in one piece. -/
theorem quot_piece {n : ℕ} (h0 : (⟨2, ![256, n]⟩ : Shape).Iotas .tc 32 [0]) (h1 : (⟨2, ![256, n]⟩ : Shape).Iotas .tc 32 [1])
    (hred : (⟨2, ![256, n]⟩ : Shape).Reduces [1] S256)
    (lo : ℕ) (hlo : lo + n ≤ 1024) (k' v' : FVec Ideal ⟨2, ![n, 128]⟩ .bf16) (hk : IsPiece lo hlo k k') (hv : IsPiece lo hlo v v')
    (hoff : ∀ j : ℕ, j < 1024 → ¬(lo ≤ j ∧ j < lo + n) → ¬ Pat (r + a.val) j) (d : Fin 128) :
    quot (pieceC n h0 h1 (BitVec.ofNat 32 r) (BitVec.ofNat 32 lo) q k' v')
        (pieceD n h0 h1 hred (BitVec.ofNat 32 r) (BitVec.ofNat 32 lo) q k') (ix2 a d)
      = row s (fun j => v (ix2 j d)) (r + a.val) := by
  rw [quot_apply, pieceC_row k v q s r hr a hs h0 h1 lo hlo k' v' hk hv d, pieceD_row k q s r hr a hs h0 h1 hred lo hlo k' hk,
    sum_piece lo hlo (fun j => (wt s (r + a.val) j : EReal) * v (ix2 j d)) fun j hj => by
      show _ * _ = _; rw [wt_off s _ j (hoff j.val j.isLt hj), zero_mul],
    sum_piece lo hlo (fun j => (wt s (r + a.val) j : EReal)) fun j hj => wt_off s _ j (hoff j.val j.isLt hj)]
  exact kernel_row s _ (⟨r + a.val, by omega⟩ : Fin 1024)

include hr hs in
/-- Rows whose keys lie in two pieces. -/
theorem quot_pieces {n n' : ℕ} (h0 : (⟨2, ![256, n]⟩ : Shape).Iotas .tc 32 [0]) (h1 : (⟨2, ![256, n]⟩ : Shape).Iotas .tc 32 [1])
    (hred : (⟨2, ![256, n]⟩ : Shape).Reduces [1] S256)
    (h0' : (⟨2, ![256, n']⟩ : Shape).Iotas .tc 32 [0]) (h1' : (⟨2, ![256, n']⟩ : Shape).Iotas .tc 32 [1])
    (hred' : (⟨2, ![256, n']⟩ : Shape).Reduces [1] S256)
    (lo : ℕ) (hn : n ≤ lo) (hlo : lo + n' ≤ 1024) (k' v' : FVec Ideal ⟨2, ![n, 128]⟩ .bf16) (k'' v'' : FVec Ideal ⟨2, ![n', 128]⟩ .bf16)
    (hk : IsPiece 0 (by omega) k k') (hv : IsPiece 0 (by omega) v v') (hk' : IsPiece lo hlo k k'') (hv' : IsPiece lo hlo v v'')
    (hoff : ∀ j : ℕ, j < 1024 → ¬(j < n) → ¬(lo ≤ j ∧ j < lo + n') → ¬ Pat (r + a.val) j) (d : Fin 128) :
    quot (addf (pieceC n h0 h1 (BitVec.ofNat 32 r) (BitVec.ofNat 32 0) q k' v') (pieceC n' h0' h1' (BitVec.ofNat 32 r) (BitVec.ofNat 32 lo) q k'' v''))
        (addf (pieceD n h0 h1 hred (BitVec.ofNat 32 r) (BitVec.ofNat 32 0) q k') (pieceD n' h0' h1' hred' (BitVec.ofNat 32 r) (BitVec.ofNat 32 lo) q k'')) (ix2 a d)
      = row s (fun j => v (ix2 j d)) (r + a.val) := by
  rw [quot_apply]
  show ((_ : EReal) + _) * Ideal.div 1 ((_ : EReal) + _) = _
  rw [pieceC_row k v q s r hr a hs h0 h1 0 (by omega) k' v' hk hv d, pieceD_row k q s r hr a hs h0 h1 hred 0 (by omega) k' hk,
    pieceC_row k v q s r hr a hs h0' h1' lo hlo k'' v'' hk' hv' d, pieceD_row k q s r hr a hs h0' h1' hred' lo hlo k'' hk',
    sum_pieces lo hn hlo (fun j => (wt s (r + a.val) j : EReal) * v (ix2 j d)) fun j hj hj' => by
      show _ * _ = _; rw [wt_off s _ j (hoff j.val j.isLt hj hj'), zero_mul],
    sum_pieces lo hn hlo (fun j => (wt s (r + a.val) j : EReal)) fun j hj hj' => wt_off s _ j (hoff j.val j.isLt hj hj')]
  exact kernel_row s _ (⟨r + a.val, by omega⟩ : Fin 1024)

theorem isPiece_slice {n : ℕ} (lo : ℕ) (hlo : lo + n ≤ 1024) (h : S1024x128.Slices ![lo, 0] ⟨2, ![n, 128]⟩) :
    IsPiece lo hlo k (extractStridedSlice ⟨2, ![n, 128]⟩ ![lo, 0] k h) := fun j e => by
  pointwise

theorem isPiece_self (h : 0 + 1024 ≤ 1024) : IsPiece 0 h k k := fun j e => congrArg (fun i => k (ix2 i e)) (Fin.ext (Nat.zero_add _).symm)

end Chunk

/-- A chunk's rows are the rows of the softmax. -/
theorem chunkF_row (n : Fin 4) (k v : FVec Ideal S1024x128 .bf16) (q : Vec Ideal S256x128 .bf16) (s : Fin 1024 → ℝ)
    (a : Fin 256) (hs : ∀ j : Fin 1024, ∑ e : Fin 128, (q (ix2 a e) : EReal) * k (ix2 j e) = s j) (d : Fin 128) :
    chunkF n.val k v q (ix2 a d) = row s (fun j => v (ix2 j d)) (256 * n.val + a.val) := by
  have ha := a.isLt
  fin_cases n
  · exact quot_piece k v q s 0 (by omega) a hs _ _ _ 0 (by omega) k v (isPiece_self k _) (isPiece_self v _) (fun j h h' => by unfold Pat; omega) d
  · exact quot_piece k v q s 256 (by omega) a hs _ _ _ 0 (by omega) _ _ (isPiece_slice k 0 _ _) (isPiece_slice v 0 _ _)
      (fun j h h' => by unfold Pat; omega) d
  · exact quot_pieces k v q s 512 (by omega) a hs _ _ _ _ _ _ 384 (by omega) (by omega) _ _ _ _ (isPiece_slice k 0 _ _) (isPiece_slice v 0 _ _)
      (isPiece_slice k 384 _ _) (isPiece_slice v 384 _ _) (fun j h h' h'' => by unfold Pat; omega) d
  · exact quot_pieces k v q s 768 (by omega) a hs _ _ _ _ _ _ 640 (by omega) (by omega) _ _ _ _ (isPiece_slice k 0 _ _) (isPiece_slice v 0 _ _)
      (isPiece_slice k 640 _ _) (isPiece_slice v 640 _ _) (fun j h h' h'' => by unfold Pat; omega) d

/-! ## The projections -/

theorem rW_emb (i u t : Fin 1024) :
    (rW 0 (halfOf (ix2 i t))).emb (ix3 (0 : Fin 1) u (⟨t.val % 512, Nat.mod_lt _ (by decide)⟩ : Fin 512)) = (ix3 (0 : Fin 2) u t : S2x1024x1024.Idx) := by
  funext a
  refine Fin.ext ?_
  fin_cases a
  · rfl
  · show 0 + 1 * u.val = u.val; omega
  · show 512 * (t.val / 512) + 1 * (t.val % 512) = t.val; omega

theorem rW_emb' (i u n : Fin 1024) :
    (rW 1 (halfOfO (ix3 0 i n))).emb (ix3 (0 : Fin 1) u (⟨n.val % 512, Nat.mod_lt _ (by decide)⟩ : Fin 512)) = (ix3 (1 : Fin 2) u n : S2x1024x1024.Idx) := by
  funext a
  refine Fin.ext ?_
  fin_cases a
  · rfl
  · show 0 + 1 * u.val = u.val; omega
  · show 512 * (n.val / 512) + 1 * (n.val % 512) = n.val; omega

theorem rO_emb (i n : Fin 1024) :
    (rO (halfOfO (ix3 0 i n))).emb (ix3 (0 : Fin 1) i (⟨n.val % 512, Nat.mod_lt _ (by decide)⟩ : Fin 512)) = (ix3 (0 : Fin 1) i n : S1x1024x1024.Idx) := by
  funext a
  refine Fin.ext ?_
  fin_cases a
  · rfl
  · show 0 + 1 * i.val = i.val; omega
  · show 512 * (n.val / 512) + 1 * (n.val % 512) = n.val; omega

theorem qTgt_apply (x : Vec Ideal S1024x1024 .bf16) (W : S2x1024x1024.Idx → Elt Ideal .bf16) (i t : Fin 1024) :
    qTgt x W (ix2 i t) = (∑ u : Fin 1024, (x (ix2 i u) : EReal) * W (ix3 0 u t)) * Ideal.ofBits .f32 0x3DB504F3#32 := by
  unfold qTgt qVal wSl
  simp only [← ix2_eq_valueIdx]
  pointwise
  refine congrArg (· * _) (Finset.sum_congr rfl fun u _ => ?_)
  rw [rW_emb]

theorem oTgt0_apply (cx : Vec Ideal S1024x1024 .bf16) (W : S2x1024x1024.Idx → Elt Ideal .bf16) (i n : Fin 1024) :
    oTgt0 cx W (ix3 0 i n) = ∑ t : Fin 1024, (cx (ix2 i t) : EReal) * W (ix3 1 t n) := by
  unfold oTgt0 oSet oVal wSl
  simp only [← ix3_eq_valueIdx]
  pointwise
  refine Finset.sum_congr rfl fun u _ => ?_
  rw [rW_emb']

theorem oTgt_apply (cx : Vec Ideal S1024x1024 .bf16) (W : S2x1024x1024.Idx → Elt Ideal .bf16) (o : S1x1024x1024.Idx → Elt Ideal .f32) (i n : Fin 1024) :
    oTgt cx W o (ix3 0 i n) = (o (ix3 0 i n) : EReal) + ∑ t : Fin 1024, (cx (ix2 i t) : EReal) * W (ix3 1 t n) := by
  unfold oTgt oAdd oVal wSl
  simp only [← ix3_eq_valueIdx]
  pointwise
  rw [rO_emb]
  refine congrArg (_ + ·) (Finset.sum_congr rfl fun u _ => ?_)
  rw [rW_emb']

end Cert.KernelIdeal.Attn

end
-- ==== Proof.OutVal.lean ====
/-
  What a device leaves in its output, at an index: its rows of the whole layer.
-/
module

public import proofs.«01_k».proof.Proof.KVal
public import Idealize.ShloMosaic.Lib.Pipeline.ValueKit.Acc

@[expose] public section

noncomputable section

namespace Cert.KernelIdeal.Attn

open Cert.KernelIdeal Cert.KernelIdeal.Gen
open Cert.KernelIdeal.Facts₀ Cert.KernelIdeal.Facts
open Idealize.ShloMosaic
open Cert.Attn

theorem xVal_apply (x : Vec Ideal S1x1024x1024 .f32) (i u : Fin 1024) : xVal x (ix2 i u) = x (ix3 0 i u) := by
  unfold xVal; pointwise

theorem ownF_q (wq wo : S1024x1024.Idx → Elt Ideal .f32) (u t : Fin 1024) : ownF wq wo (ix3 0 u t) = wq (ix2 u t) := by
  unfold ownF ownVal
  simp only [← ix3_eq_valueIdx]
  pointwise

theorem ownF_o (wq wo : S1024x1024.Idx → Elt Ideal .f32) (u t : Fin 1024) : ownF wq wo (ix3 1 u t) = wo (ix2 u t) := by
  unfold ownF ownVal
  simp only [← ix3_eq_valueIdx]
  pointwise

theorem kvVal_apply (K : S4x1024x32x128.Idx → Elt Ideal .f32) (d g : Fin 4) (h : Fin 8) (j : Fin 1024) (e : Fin 128) :
    kvVal (headAt K d g h) (ix2 j e) = K (ix4 d j (⟨8 * g.val + h.val, by omega⟩ : Fin 32) e) := by
  unfold kvVal headAt
  simp only [← ix4_eq_valueIdx]
  pointwise

section Out

variable (x : (⟨3, ![4, 1024, 1024]⟩ : Shape).Idx → ℝ) (w : (⟨2, ![1024, 4096]⟩ : Shape).Idx → ℝ)
variable (kx : (⟨4, ![4, 1024, 32, 128]⟩ : Shape).Idx → ℝ) (O : (⟨2, ![4096, 1024]⟩ : Shape).Idx → EReal)
variable (wb : Dev nD → S2x1024x1024.Idx → Elt Ideal .bf16) (xv : Vec Ideal S1024x1024 .bf16) (K V : S4x1024x32x128.Idx → Elt Ideal .f32)
variable (c : Fin 4)

/-- One group's context. -/
theorem cxT_apply (g : Fin 4) (W : S2x1024x1024.Idx → Elt Ideal .bf16)
    (hx : ∀ i u : Fin 1024, xv (ix2 i u) = (x (ix3 c i u) : EReal))
    (hW : ∀ u t : Fin 1024, W (ix3 0 u t) = (w (ix2 u (⟨g.val * 1024 + t.val, by omega⟩ : Fin 4096)) : EReal))
    (hK : ∀ i, K i = (kx i : EReal)) (i t : Fin 1024) :
    cxT (headAt K c g) (headAt V c g) (qTgt xv W) (ix2 i t)
      = ctx x w kx V c i (⟨8 * g.val + t.val / 128, by omega⟩ : Fin 32) (⟨t.val % 128, by omega⟩ : Fin 128) := by
  unfold cxT
  simp only [← ix2_eq_valueIdx]
  refine (chunkF_row (rowOf (ix2 i t)) _ _ _ (score x w kx c (⟨8 * g.val + t.val / 128, by omega⟩ : Fin 32) i) (⟨i.val % 256, by omega⟩ : Fin 256)
    (fun j => ?_) (⟨t.val % 128, by omega⟩ : Fin 128)).trans ?_
  · have hq : ∀ e : Fin 128, qSl (qTgt xv W) (rowOf (ix2 i t)) (headOf (ix2 i t)) (ix2 (⟨i.val % 256, by omega⟩ : Fin 256) e)
        = (((∑ u : Fin 1024, x (ix3 c i u) * w (ix2 u (⟨(8 * g.val + t.val / 128) * 128 + e.val, by omega⟩ : Fin 4096))) * scale : ℝ) : EReal) := fun e => by
      unfold qSl
      simp only [← ix2_eq_valueIdx]
      refine (congrArg (qTgt xv W) (?_ : _ = ix2 i (⟨128 * (t.val / 128) + e.val, by omega⟩ : Fin 1024))).trans ?_
      · exact congrArg (fun z => ix2 z _) (Fin.ext (by show 256 * (i.val / 256) + i.val % 256 = i.val; omega))
      · rw [qTgt_apply]
        simp only [hx, hW, scale_eq, ← EReal.coe_mul, coe_sum]
        refine congrArg (fun z : ℝ => (z : EReal)) (congrArg (· * scale) (Finset.sum_congr rfl fun u _ => ?_))
        refine congrArg (fun z => x _ * w (ix2 u z)) (Fin.ext ?_)
        show g.val * 1024 + (128 * (t.val / 128) + e.val) = (8 * g.val + t.val / 128) * 128 + e.val
        omega
    simp only [hq, kvVal_apply, hK, ← EReal.coe_mul, coe_sum]
    refine congrArg (fun z : ℝ => (z : EReal)) ?_
    unfold score
    rw [Finset.sum_mul]
    exact Finset.sum_congr rfl fun e _ => mul_right_comm ..
  · simp only [kvVal_apply]
    unfold ctx
    exact congrArg (row _ _) (show 256 * (i.val / 256) + i.val % 256 = i.val by omega)

variable (hx : ∀ i u : Fin 1024, xv (ix2 i u) = (x (ix3 c i u) : EReal))
variable (hW : ∀ (g : Fin 4) (u t : Fin 1024), wb g (ix3 0 u t) = (w (ix2 u (⟨g.val * 1024 + t.val, by omega⟩ : Fin 4096)) : EReal))
variable (hO : ∀ (g : Fin 4) (u t : Fin 1024), wb g (ix3 1 u t) = O (ix2 (⟨g.val * 1024 + u.val, by omega⟩ : Fin 4096) t))
variable (hK : ∀ i, K i = (kx i : EReal))

/-- One term of the layer's last product. -/
def term (i n : Fin 1024) (t : Fin 4096) : EReal :=
  ctx x w kx V c i (⟨t.val / 128, by omega⟩ : Fin 32) (⟨t.val % 128, by omega⟩ : Fin 128) * O (ix2 t n)

/-- One group's share of it. -/
def share (i n : Fin 1024) (g : Fin 4) : EReal :=
  ∑ t : Fin 1024, term x w kx O V c i n (⟨g.val * 1024 + t.val, by omega⟩ : Fin 4096)

include hx hW hO hK in
theorem share_apply (r : ℕ) (i n : Fin 1024) :
    ∑ t : Fin 1024, (cxV wb xv K V c r (ix2 i t) : EReal) * wb (sh r c) (ix3 1 t n) = share x w kx O V c i n (sh r c) := by
  refine Finset.sum_congr rfl fun t _ => ?_
  unfold cxV term
  rw [hO, cxT_apply x w kx xv K V c (sh r c) _ hx (hW (sh r c)) hK i t]
  have hg : (sh r c).val < 4 := (sh r c).isLt
  refine congrArg (· * _) (congrArg₂ (ctx x w kx V c i) (Fin.ext ?_) (Fin.ext ?_))
  · show 8 * (sh r c).val + t.val / 128 = ((sh r c).val * 1024 + t.val) / 128; omega
  · show t.val % 128 = ((sh r c).val * 1024 + t.val) % 128; omega

/-- The four neighbours, in the order the device takes them, are the four devices. -/
theorem sum_shifts (S : Fin 4 → EReal) (c : Fin 4) : S (sh 0 c) + S (sh 3 c) + S (sh 1 c) + S (sh 2 c) = ∑ g, S g := by
  rw [Fin.sum_univ_four]
  fin_cases c
  · show S 0 + S 3 + S 1 + S 2 = _; abel
  · show S 1 + S 0 + S 2 + S 3 = _; abel
  · show S 2 + S 1 + S 3 + S 0 = _; abel
  · show S 3 + S 2 + S 0 + S 1 = _; abel

include hx hW hO hK in
theorem out3_apply (i n : Fin 1024) :
    out3 wb xv K V c (ix3 0 i n) = ∑ t : Fin 4096, term x w kx O V c i n t := by
  have hs := share_apply x w kx O wb xv K V c hx hW hO hK
  unfold out3 out2 out1 out0
  rw [oTgt_apply, oTgt_apply, oTgt_apply, oTgt0_apply, hs, hs, hs, hs]
  rw [sum_shifts (share x w kx O V c i n) c]
  exact _root_.Fin.sum_mul_add_fin 4 1024 (term x w kx O V c i n)

end Out

end Cert.KernelIdeal.Attn

end
-- ==== Proof.RVal.lean ====
/-
  The reference's result at an index.
-/
module

public import proofs.«01_k».proof.Proof.Gen.ReferenceIdeal.Run
public import proofs.«01_k».proof.Proof.Softmax
public import Idealize.ShloMosaic.Lib.Tactic.CleanTypes

@[expose] public section

noncomputable section

namespace Cert.ReferenceIdeal.Attn

open Cert.ReferenceIdeal Cert.ReferenceIdeal.Gen Idealize.ShloMosaic Idealize.ShloMosaic.TcCoe Idealize.SL.Sem
open Cert.Attn

theorem ofBits_bot : Ideal.ofBits .f32 0xFF800000#32 = (⊥ : EReal) := by simp [Ideal.ofBits, Ideal.ieee]

theorem bits_bot : (FloatOps.ofBits .f32 0xFF800000#32 : Ideal .f32) = (⊥ : EReal) := ofBits_bot

set_option maxHeartbeats 4000000 in
theorem res_apply (m : (ℓ : Loc nD τ sig) → Buf (Elt Ideal) ℓ) (c : Dev nD)
    (x : S4x1024x1024.Idx → ℝ) (w : S1024x4096.Idx → ℝ) (kx : S4x1024x32x128.Idx → ℝ)
    (hx : ∀ i, m ((c.tc : Thread nD τ).loc main_arg0) i = (x i : EReal))
    (hw : ∀ i, m ((c.tc : Thread nD τ).loc main_arg1) i = (w i : EReal))
    (hk : ∀ i, m ((c.tc : Thread nD τ).loc main_arg2) i = (kx i : EReal))
    (b : Fin 4) (i n : Fin 1024) :
    Value.res_main_v42 m c (ix3 b i n)
      = ∑ t : Fin 4096, ctx x w kx (m ((c.tc : Thread nD τ).loc main_arg3)) b i (⟨t.val / 128, by omega⟩ : Fin 32) (⟨t.val % 128, by omega⟩ : Fin 128)
          * (m ((c.tc : Thread nD τ).loc main_arg4) (ix2 t n) : EReal) := by
  unfold Value.res_main_v42
  clean_types
  pointwise
  simp only [hx, hw, hk, pat_host, pat_any, id, constant_apply, Scalar.select_ofBool, WordCmp.select_one, decide_eq_true_eq, ofBits_bot, bits_bot,
    scale_eq, ← EReal.coe_mul, coe_sum]
  refine Finset.sum_congr rfl fun t _ => congrArg (· * _) ?_
  exact reference_row (score x w kx b (⟨t.val / 128, by omega⟩ : Fin 32) i) (fun k => m ((c.tc : Thread nD τ).loc main_arg3) (ix4 b k _ _)) i

end Cert.ReferenceIdeal.Attn

end
-- ==== Proof.Finite.lean ====
/-
  What the precondition says of one device's blocks: every element of x, of Wq and of K is a real number.
-/
module

public import proofs.«01_k».proof.Defs
public import proofs.«01_k».proof.Proof.Gen.Pre_finite_KernelIdeal
public import Idealize.ShloMosaic.Lib.ReduceAll
public import Idealize.ShloMosaic.Lib.Pointwise

@[expose] public section

noncomputable section

namespace Cert.Pre_finite_KernelIdeal.Attn

open Cert.Pre_finite_KernelIdeal Cert.Pre_finite_KernelIdeal.Gen
open Idealize.ShloMosaic

theorem bits_top : (FloatOps.ofBits .f32 0x7F800000#32 : Ideal .f32) = (⊤ : EReal) := by
  show Ideal.ofBits .f32 0x7F800000#32 = (⊤ : EReal)
  simp [Ideal.ofBits, Ideal.ieee]

/-- A value whose absolute value is below the largest is a real number. -/
theorem real_of_lt (v : Ideal .f32) (h : Ideal.cmp .olt (FloatOps.hostAbsf v) (FloatOps.ofBits .f32 0x7F800000#32 : Ideal .f32) = 1#1) :
    ∃ r : ℝ, (v : EReal) = (r : EReal) := by
  rw [bits_top] at h
  have h : BitVec.ofBool (decide (max (v : EReal) (-v : EReal) < ⊤)) = 1#1 := h
  induction v using EReal.rec with
  | bot => exact absurd h (by simp)
  | coe r => exact ⟨r, rfl⟩
  | top => exact absurd h (by simp)

variable (x : FVec Ideal S1x1024x1024 .f32) (wq : FVec Ideal S1024x1024 .f32) (k v : FVec Ideal S4x1024x32x128 .f32)
  (wo : FVec Ideal S1024x1024 .f32)

instance : Subsingleton S_.Idx := ⟨fun a b => funext fun d => d.elim0⟩

theorem real_of_pre (h : Cert.Pre_finite_KernelIdeal.fn (F := Ideal) x wq k v wo = fun _ => 1#1) :
    (∀ i, ∃ r : ℝ, (x i : EReal) = (r : EReal)) ∧ (∀ i, ∃ r : ℝ, (wq i : EReal) = (r : EReal)) ∧ (∀ i, ∃ r : ℝ, (k i : EReal) = (r : EReal)) := by
  have h0 := congrFun h (fun d => d.elim0)
  obtain ⟨h1, hk⟩ := IntOp.andi_eq_one.1 h0
  obtain ⟨hx, hw⟩ := IntOp.andi_eq_one.1 h1
  exact ⟨fun i => real_of_lt _ (Host.reduce_andi_all _ _ _ _ _ hx i), fun i => real_of_lt _ (Host.reduce_andi_all _ _ _ _ _ hw i),
    fun i => real_of_lt _ (Host.reduce_andi_all _ _ _ _ _ hk i)⟩

end Cert.Pre_finite_KernelIdeal.Attn

end
-- ==== Proof.Algebraic.lean ====
/-
  The value claim: each device's result is its block of the reference's.
-/
module

public import proofs.«01_k».proof.Defs
public import proofs.«01_k».proof.Proof.Frames
public import proofs.«01_k».proof.Proof.OutVal
public import proofs.«01_k».proof.Proof.RVal
public import proofs.«01_k».proof.Proof.Finite
public import Idealize.ShloMosaic.Lib.Layout

@[expose] public section

noncomputable section

namespace Cert.KernelIdeal.Attn

open Cert.KernelIdeal Cert.KernelIdeal.Gen Cert.Attn
open Idealize.ShloMosaic
open Idealize.ShloMosaic.TcCoe
open Idealize.SL.Sem

variable (m : (ℓ : Loc nD τ sig) → Buf (Elt Ideal) ℓ) (c : Dev nD)

/-! ## Each window's one block is its whole array -/

theorem xIn_eq : xIn m c = m ((c : Thread nD τ).loc main_arg0) :=
  Memref.read_access_unit_zero (Elt Ideal) main_arg0
    (show (fun a => (win0_0.index (0 : Fin 1)) a * main_arg0.ty.shape.size a) = fun _ => 0 from
      funext fun a => by fin_cases a <;> decide) (fun a => by fin_cases a <;> decide) _

theorem wqIn_eq : wqIn m c = m ((c : Thread nD τ).loc main_arg1) :=
  Memref.read_access_unit_zero (Elt Ideal) main_arg1
    (show (fun a => (win0_1.index (0 : Fin 1)) a * main_arg1.ty.shape.size a) = fun _ => 0 from
      funext fun a => by fin_cases a <;> decide) (fun a => by fin_cases a <;> decide) _

theorem woIn_eq : woIn m c = m ((c : Thread nD τ).loc main_arg4) :=
  Memref.read_access_unit_zero (Elt Ideal) main_arg4
    (show (fun a => (win0_2.index (0 : Fin 1)) a * main_arg4.ty.shape.size a) = fun _ => 0 from
      funext fun a => by fin_cases a <;> decide) (fun a => by fin_cases a <;> decide) _

theorem read_res (f : Buf (Elt Ideal) ((c : Thread nD τ).loc main_v1)) : (win0_3.blk t0_0).view.read (Elt Ideal) f = f :=
  Memref.read_access_unit_zero (Elt Ideal) main_v1
    (show (fun a => (win0_3.index t0_0) a * main_v1.ty.shape.size a) = fun _ => 0 from
      funext fun a => by fin_cases a <;> decide) (fun a => by fin_cases a <;> decide) f

theorem flushed_3 : (dats m 0 c).flushed 3 t0_0 = outIn m c := by
  show (cfg0.win 3).cut _ ((dats m 0 c).after 3 t0_0) = _
  exact funext fun _ => rfl

/-- The result array ends holding the body's output. -/
theorem finalA_3 : finalA m c 3 = outIn m c := by
  have hw : ((cfg0.win 3).blk t0_0).view.read (Elt Ideal) ((dats m 0 c).arrAt 3 cfg0.N) = (dats m 0 c).flushed 3 t0_0 := by
    rw [show cfg0.N = t0_0.val + 1 from rfl, (dats m 0 c).arrAt_succ (3 : Fin 4) t0_0, flush0_3, if_pos rfl]
    exact View.read_write_univ _ _
  rw [flushed_3] at hw
  exact (read_res c _).symm.trans hw

/-! ## The blocks of the whole arrays -/

theorem block_x (X : (⟨3, ![4, 1024, 1024]⟩ : Shape).Idx → EReal) (h) (i u : Fin 1024) :
    Layout.block (⟨3, ![1, 1024, 1024]⟩ : Shape) (⟨3, ![4, 1024, 1024]⟩ : Shape) 0 4 c X h (ix3 (0 : Fin 1) i u) = X (ix3 c i u) := by
  rw [Layout.block_apply]
  refine congrArg X (funext fun b => Fin.ext ?_)
  rw [Layout.Tiles.idx_val]
  fin_cases b
  · show c.val * 1 + 0 = c.val; omega
  · rfl
  · rfl

theorem block_wq (W : (⟨2, ![1024, 4096]⟩ : Shape).Idx → EReal) (h) (u t : Fin 1024) :
    Layout.block (⟨2, ![1024, 1024]⟩ : Shape) (⟨2, ![1024, 4096]⟩ : Shape) 1 4 c W h (ix2 u t)
      = W (ix2 u (⟨c.val * 1024 + t.val, by have : c.val < 4 := c.isLt; omega⟩ : Fin 4096)) := by
  rw [Layout.block_apply]
  refine congrArg W (funext fun b => Fin.ext ?_)
  rw [Layout.Tiles.idx_val]
  fin_cases b <;> rfl

theorem block_wo (W : (⟨2, ![4096, 1024]⟩ : Shape).Idx → EReal) (h) (u t : Fin 1024) :
    Layout.block (⟨2, ![1024, 1024]⟩ : Shape) (⟨2, ![4096, 1024]⟩ : Shape) 0 4 c W h (ix2 u t)
      = W (ix2 (⟨c.val * 1024 + u.val, by have : c.val < 4 := c.isLt; omega⟩ : Fin 4096) t) := by
  rw [Layout.block_apply]
  refine congrArg W (funext fun b => Fin.ext ?_)
  rw [Layout.Tiles.idx_val]
  fin_cases b <;> rfl

/-! ## The claim -/

/-- The result buffer of each device, at the launch: its block of the whole result. -/
theorem outIn_apply (x : (⟨3, ![4, 1024, 1024]⟩ : Shape).Idx → ℝ) (w : (⟨2, ![1024, 4096]⟩ : Shape).Idx → ℝ)
    (kx : S4x1024x32x128.Idx → ℝ) (O : (⟨2, ![4096, 1024]⟩ : Shape).Idx → EReal) (V : S4x1024x32x128.Idx → EReal)
    (hx : ∀ i u : Fin 1024, (m ((c : Thread nD τ).loc main_arg0) (ix3 (0 : Fin 1) i u) : EReal) = (x (ix3 c i u) : EReal))
    (hw : ∀ (g : Dev nD) (u t : Fin 1024), (m ((g : Thread nD τ).loc main_arg1) (ix2 u t) : EReal)
      = (w (ix2 u (⟨g.val * 1024 + t.val, by have : g.val < 4 := g.isLt; omega⟩ : Fin 4096)) : EReal))
    (ho : ∀ (g : Dev nD) (u t : Fin 1024), (m ((g : Thread nD τ).loc main_arg4) (ix2 u t) : EReal)
      = O (ix2 (⟨g.val * 1024 + u.val, by have : g.val < 4 := g.isLt; omega⟩ : Fin 4096) t))
    (hk : ∀ i, (m ((c : Thread nD τ).loc main_arg2) i : EReal) = (kx i : EReal))
    (hv : m ((c : Thread nD τ).loc main_arg3) = V) (i n : Fin 1024) :
    outIn m c (ix3 0 i n) = ∑ t : Fin 4096, term x w kx O V c i n t := by
  unfold outIn
  rw [← hv]
  refine out3_apply x w kx O (wbm m) (xVal (xIn m c)) (kIn m c) (vIn m c) c (fun i u => ?_) (fun g u t => ?_) (fun g u t => ?_) hk i n
  · rw [xVal_apply, xIn_eq]; exact hx i u
  · unfold wbm; rw [ownF_q, wqIn_eq]; exact hw g u t
  · unfold wbm; rw [ownF_o, woIn_eq]; exact ho g u t

theorem algebraic : Cert.algebraic_KernelIdeal_ReferenceIdeal_pre_finite_KernelIdeal := by
  intro m g m' g' hpre hm
  have hfin := fun c => Cert.Pre_finite_KernelIdeal.Attn.real_of_pre _ _ _ _ _ (hpre c)
  let R : Thread Cert.ReferenceIdeal.nD Cert.ReferenceIdeal.τ := ((0 : Dev Cert.ReferenceIdeal.nD).tc)
  have hX : ∀ i, ∃ r : ℝ, (m' (R.loc Cert.ReferenceIdeal.main_arg0) i : EReal) = (r : EReal) := fun i => by
    obtain ⟨r, hr⟩ := (hfin (i 0)).1 (ix3 (0 : Fin 1) (i 1) (i 2))
    refine ⟨r, Eq.trans ?_ hr⟩
    rw [(hm (i 0)).1]
    refine Eq.trans ?_ (block_x (i 0) _ _ (i 1) (i 2)).symm
    exact congrArg _ (ix3_eta i).symm
  have hW : ∀ i, ∃ r : ℝ, (m' (R.loc Cert.ReferenceIdeal.main_arg1) i : EReal) = (r : EReal) := fun i => by
    have h1 : (i 1).val < 4096 := (i 1).isLt
    obtain ⟨r, hr⟩ := (hfin (⟨(i 1).val / 1024, by show _ < 4; omega⟩ : Dev nD)).2.1 (ix2 (i 0) (⟨(i 1).val % 1024, by omega⟩ : Fin 1024))
    refine ⟨r, Eq.trans ?_ hr⟩
    rw [(hm _).2.1]
    refine Eq.trans ?_ (block_wq _ _ _ (i 0) _).symm
    refine congrArg _ (funext fun b => Fin.ext ?_)
    fin_cases b
    · rfl
    · show (i 1).val = (i 1).val / 1024 * 1024 + (i 1).val % 1024; omega
  have hK : ∀ i, ∃ r : ℝ, (m' (R.loc Cert.ReferenceIdeal.main_arg2) i : EReal) = (r : EReal) := fun i => by
    obtain ⟨r, hr⟩ := (hfin 0).2.2 i
    exact ⟨r, (congrFun (hm 0).2.2.1 i).symm.trans hr⟩
  choose x hx using hX
  choose w hw using hW
  choose kx hk using hK
  refine ⟨Cert.ReferenceIdeal.Value.res_main_v42 m' 0, ?_, ?_⟩
  · refine (θ_run defs _ _).mono (fun r h c => ⟨?_, ((h.1 c).1 0).trans ((dats m 0 c).arrAt_in 0 rfl _),
      ((h.1 c).1 1).trans ((dats m 0 c).arrAt_in 1 rfl _), (h.1 c).2.1, (h.1 c).2.2, ((h.1 c).1 2).trans ((dats m 0 c).arrAt_in 2 rfl _)⟩)
      (run_main m g bodyIs_ideal)
    refine ((h.1 c).1 3).trans ((finalA_3 m c).trans (funext fun j => ?_))
    have hj : j = ix3 (0 : Fin 1) (j 1) (j 2) := by
      refine funext fun b => ?_
      fin_cases b
      · exact Subsingleton.elim (α := Fin 1) _ _
      · rfl
      · rfl
    rw [hj]
    refine Eq.trans ?_ (block_x c _ _ (j 1) (j 2)).symm
    refine (outIn_apply m c x w kx (m' (R.loc Cert.ReferenceIdeal.main_arg4)) (m' (R.loc Cert.ReferenceIdeal.main_arg3))
      (fun i u => ?_) (fun g u t => ?_) (fun g u t => ?_) (fun i => ?_) (hm c).2.2.2.1 (j 1) (j 2)).trans
      (Cert.ReferenceIdeal.Attn.res_apply m' 0 x w kx hx hw hk c (j 1) (j 2)).symm
    · rw [(hm c).1]; exact (block_x c _ _ i u).trans (hx _)
    · rw [(hm g).2.1]; exact (block_wq g _ _ u t).trans (hw _)
    · rw [(hm g).2.2.2.2]; exact block_wo g _ _ u t
    · exact (congrFun (hm c).2.2.1 i).trans (hk i)
  · exact (θ_run Cert.ReferenceIdeal.defs _ _).mono (fun r h => h 0) (Cert.ReferenceIdeal.Value.run (F := Ideal) m' g')

end Cert.KernelIdeal.Attn

end
-- ==== Proof.lean ====
/-
  The proof of `Cert.Claim` (proofs.«01_k».proof.Defs) for the sparse attention kernel on a ring of four devices:
  the frames of the kernel, of its ideal reading and of the reference (each also under the precondition `finite`, which
  the frames do not read), that the ideal program is the kernel's own text, and that every device's result is its
  block of the reference's (`Cert.KernelIdeal.Attn.algebraic`, Proof/Algebraic.lean).

  Where things are, under Proof/: the protocol of the semaphores (Protocol), the local and the remote copies (Local, Kv,
  Xfer, Steps), the body in four stages (Body, BodyEq, Stages, Whole), the run of the four devices together (Launch) and
  the two frames (Frames); then the values: rows of attention with a mask (Softmax), the reference (RVal), the kernel's
  pieces (KVal) and its output (OutVal), what the precondition gives (Finite), and the equation (Algebraic).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference's frame: its run, and no semaphore declared. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.KernelIdeal.Attn.frame_bits, Cert.KernelIdeal.Attn.frame_ideal, fun m ρ _ => Cert.KernelIdeal.Attn.frame_ideal m ρ trivial,
  frame_reference, fun m ρ _ => frame_reference m ρ trivial, trivial, Cert.KernelIdeal.Attn.algebraic⟩

end Cert.Proof

end
